-- ==== Defs.lean ====
def Pre_AttnOne (m : (ℓ : Loc Cert.AttnOne.nD Cert.AttnOne.τ Cert.AttnOne.sig) → Buf (Elt Bits) ℓ) : Prop :=
  True

def Pre_AttnOneIdeal (m : (ℓ : Loc Cert.AttnOneIdeal.nD Cert.AttnOneIdeal.τ Cert.AttnOneIdeal.sig) → Buf (Elt Ideal) ℓ) : Prop :=
  True

def Pre_AttnOneIdeal_finite_projection [hPre_finite_projection : Cert.Pre_finite_projection.Facts] (m : (ℓ : Loc Cert.AttnOneIdeal.nD Cert.AttnOneIdeal.τ Cert.AttnOneIdeal.sig) → Buf (Elt Ideal) ℓ) : Prop :=
  ∀ c : Dev Cert.AttnOneIdeal.nD,
    (Cert.Pre_finite_projection.fn (F := Ideal) (m ((c.tc : Thread Cert.AttnOneIdeal.nD Cert.AttnOneIdeal.τ).loc Cert.AttnOneIdeal.main_arg0))) = (fun _ => 1#1)

def Pre_AttnOneRefIdeal (m : (ℓ : Loc Cert.AttnOneRefIdeal.nD Cert.AttnOneRefIdeal.τ Cert.AttnOneRefIdeal.sig) → Buf (Elt Ideal) ℓ) : Prop :=
  True

def Pre_AttnOneRefIdeal_finite_projection [hPre_finite_projection : Cert.Pre_finite_projection.Facts] (m : (ℓ : Loc Cert.AttnOneRefIdeal.nD Cert.AttnOneRefIdeal.τ Cert.AttnOneRefIdeal.sig) → Buf (Elt Ideal) ℓ) : Prop :=
  ∀ c : Dev Cert.AttnOneRefIdeal.nD,
    (Cert.Pre_finite_projection.fn (F := Ideal) (m ((c.tc : Thread Cert.AttnOneRefIdeal.nD Cert.AttnOneRefIdeal.τ).loc Cert.AttnOneRefIdeal.main_arg0))) = (fun _ => 1#1)

def Pre_AttnFour (m : (ℓ : Loc Cert.AttnFour.nD Cert.AttnFour.τ Cert.AttnFour.sig) → Buf (Elt Bits) ℓ) : Prop :=
  True

def Pre_AttnFourIdeal (m : (ℓ : Loc Cert.AttnFourIdeal.nD Cert.AttnFourIdeal.τ Cert.AttnFourIdeal.sig) → Buf (Elt Ideal) ℓ) : Prop :=
  True

def Pre_AttnFourIdeal_finite_projection [hPre_finite_projection : Cert.Pre_finite_projection.Facts] (m : (ℓ : Loc Cert.AttnFourIdeal.nD Cert.AttnFourIdeal.τ Cert.AttnFourIdeal.sig) → Buf (Elt Ideal) ℓ) : Prop :=
  ∀ c : Dev Cert.AttnFourIdeal.nD,
    (Cert.Pre_finite_projection.fn (F := Ideal) (m ((c.tc : Thread Cert.AttnFourIdeal.nD Cert.AttnFourIdeal.τ).loc Cert.AttnFourIdeal.main_arg0))) = (fun _ => 1#1)

def Pre_AttnFourRefIdeal (m : (ℓ : Loc Cert.AttnFourRefIdeal.nD Cert.AttnFourRefIdeal.τ Cert.AttnFourRefIdeal.sig) → Buf (Elt Ideal) ℓ) : Prop :=
  True

def Pre_AttnFourRefIdeal_finite_projection [hPre_finite_projection : Cert.Pre_finite_projection.Facts] (m : (ℓ : Loc Cert.AttnFourRefIdeal.nD Cert.AttnFourRefIdeal.τ Cert.AttnFourRefIdeal.sig) → Buf (Elt Ideal) ℓ) : Prop :=
  ∀ c : Dev Cert.AttnFourRefIdeal.nD,
    (Cert.Pre_finite_projection.fn (F := Ideal) (m ((c.tc : Thread Cert.AttnFourRefIdeal.nD Cert.AttnFourRefIdeal.τ).loc Cert.AttnFourRefIdeal.main_arg0))) = (fun _ => 1#1)

def Pre_AttnSixteen (m : (ℓ : Loc Cert.AttnSixteen.nD Cert.AttnSixteen.τ Cert.AttnSixteen.sig) → Buf (Elt Bits) ℓ) : Prop :=
  True

def Pre_AttnSixteenIdeal (m : (ℓ : Loc Cert.AttnSixteenIdeal.nD Cert.AttnSixteenIdeal.τ Cert.AttnSixteenIdeal.sig) → Buf (Elt Ideal) ℓ) : Prop :=
  True

def Pre_AttnSixteenIdeal_finite_projection [hPre_finite_projection : Cert.Pre_finite_projection.Facts] (m : (ℓ : Loc Cert.AttnSixteenIdeal.nD Cert.AttnSixteenIdeal.τ Cert.AttnSixteenIdeal.sig) → Buf (Elt Ideal) ℓ) : Prop :=
  ∀ c : Dev Cert.AttnSixteenIdeal.nD,
    (Cert.Pre_finite_projection.fn (F := Ideal) (m ((c.tc : Thread Cert.AttnSixteenIdeal.nD Cert.AttnSixteenIdeal.τ).loc Cert.AttnSixteenIdeal.main_arg0))) = (fun _ => 1#1)

def Pre_AttnSixteenRefIdeal (m : (ℓ : Loc Cert.AttnSixteenRefIdeal.nD Cert.AttnSixteenRefIdeal.τ Cert.AttnSixteenRefIdeal.sig) → Buf (Elt Ideal) ℓ) : Prop :=
  True

def Pre_AttnSixteenRefIdeal_finite_projection [hPre_finite_projection : Cert.Pre_finite_projection.Facts] (m : (ℓ : Loc Cert.AttnSixteenRefIdeal.nD Cert.AttnSixteenRefIdeal.τ Cert.AttnSixteenRefIdeal.sig) → Buf (Elt Ideal) ℓ) : Prop :=
  ∀ c : Dev Cert.AttnSixteenRefIdeal.nD,
    (Cert.Pre_finite_projection.fn (F := Ideal) (m ((c.tc : Thread Cert.AttnSixteenRefIdeal.nD Cert.AttnSixteenRefIdeal.τ).loc Cert.AttnSixteenRefIdeal.main_arg0))) = (fun _ => 1#1)

def Pre_Norm (m : (ℓ : Loc Cert.Norm.nD Cert.Norm.τ Cert.Norm.sig) → Buf (Elt Bits) ℓ) : Prop :=
  True

def Pre_NormIdeal (m : (ℓ : Loc Cert.NormIdeal.nD Cert.NormIdeal.τ Cert.NormIdeal.sig) → Buf (Elt Ideal) ℓ) : Prop :=
  True

def Pre_NormRefIdeal (m : (ℓ : Loc Cert.NormRefIdeal.nD Cert.NormRefIdeal.τ Cert.NormRefIdeal.sig) → Buf (Elt Ideal) ℓ) : Prop :=
  True

def Pre_InProj (m : (ℓ : Loc Cert.InProj.nD Cert.InProj.τ Cert.InProj.sig) → Buf (Elt Bits) ℓ) : Prop :=
  True

def Pre_InProjIdeal (m : (ℓ : Loc Cert.InProjIdeal.nD Cert.InProjIdeal.τ Cert.InProjIdeal.sig) → Buf (Elt Ideal) ℓ) : Prop :=
  True

def Pre_InProjRefIdeal (m : (ℓ : Loc Cert.InProjRefIdeal.nD Cert.InProjRefIdeal.τ Cert.InProjRefIdeal.sig) → Buf (Elt Ideal) ℓ) : Prop :=
  True

def Pre_Mix (m : (ℓ : Loc Cert.Mix.nD Cert.Mix.τ Cert.Mix.sig) → Buf (Elt Bits) ℓ) : Prop :=
  True

def Pre_MixIdeal (m : (ℓ : Loc Cert.MixIdeal.nD Cert.MixIdeal.τ Cert.MixIdeal.sig) → Buf (Elt Ideal) ℓ) : Prop :=
  True

def Pre_MixIdeal_finite_lse [hPre_finite_lse : Cert.Pre_finite_lse.Facts] (m : (ℓ : Loc Cert.MixIdeal.nD Cert.MixIdeal.τ Cert.MixIdeal.sig) → Buf (Elt Ideal) ℓ) : Prop :=
  ∀ c : Dev Cert.MixIdeal.nD,
    (Cert.Pre_finite_lse.fn (F := Ideal) (m ((c.tc : Thread Cert.MixIdeal.nD Cert.MixIdeal.τ).loc Cert.MixIdeal.main_arg0)) (m ((c.tc : Thread Cert.MixIdeal.nD Cert.MixIdeal.τ).loc Cert.MixIdeal.main_arg1)) (m ((c.tc : Thread Cert.MixIdeal.nD Cert.MixIdeal.τ).loc Cert.MixIdeal.main_arg2)) (m ((c.tc : Thread Cert.MixIdeal.nD Cert.MixIdeal.τ).loc Cert.MixIdeal.main_arg3)) (m ((c.tc : Thread Cert.MixIdeal.nD Cert.MixIdeal.τ).loc Cert.MixIdeal.main_arg4)) (m ((c.tc : Thread Cert.MixIdeal.nD Cert.MixIdeal.τ).loc Cert.MixIdeal.main_arg5)) (m ((c.tc : Thread Cert.MixIdeal.nD Cert.MixIdeal.τ).loc Cert.MixIdeal.main_arg6)) (m ((c.tc : Thread Cert.MixIdeal.nD Cert.MixIdeal.τ).loc Cert.MixIdeal.main_arg7)) (m ((c.tc : Thread Cert.MixIdeal.nD Cert.MixIdeal.τ).loc Cert.MixIdeal.main_arg8)) (m ((c.tc : Thread Cert.MixIdeal.nD Cert.MixIdeal.τ).loc Cert.MixIdeal.main_arg9))).1 = (fun _ => 1#1)
    ∧ (Cert.Pre_finite_lse.fn (F := Ideal) (m ((c.tc : Thread Cert.MixIdeal.nD Cert.MixIdeal.τ).loc Cert.MixIdeal.main_arg0)) (m ((c.tc : Thread Cert.MixIdeal.nD Cert.MixIdeal.τ).loc Cert.MixIdeal.main_arg1)) (m ((c.tc : Thread Cert.MixIdeal.nD Cert.MixIdeal.τ).loc Cert.MixIdeal.main_arg2)) (m ((c.tc : Thread Cert.MixIdeal.nD Cert.MixIdeal.τ).loc Cert.MixIdeal.main_arg3)) (m ((c.tc : Thread Cert.MixIdeal.nD Cert.MixIdeal.τ).loc Cert.MixIdeal.main_arg4)) (m ((c.tc : Thread Cert.MixIdeal.nD Cert.MixIdeal.τ).loc Cert.MixIdeal.main_arg5)) (m ((c.tc : Thread Cert.MixIdeal.nD Cert.MixIdeal.τ).loc Cert.MixIdeal.main_arg6)) (m ((c.tc : Thread Cert.MixIdeal.nD Cert.MixIdeal.τ).loc Cert.MixIdeal.main_arg7)) (m ((c.tc : Thread Cert.MixIdeal.nD Cert.MixIdeal.τ).loc Cert.MixIdeal.main_arg8)) (m ((c.tc : Thread Cert.MixIdeal.nD Cert.MixIdeal.τ).loc Cert.MixIdeal.main_arg9))).2.1 = (fun _ => 1#1)
    ∧ (Cert.Pre_finite_lse.fn (F := Ideal) (m ((c.tc : Thread Cert.MixIdeal.nD Cert.MixIdeal.τ).loc Cert.MixIdeal.main_arg0)) (m ((c.tc : Thread Cert.MixIdeal.nD Cert.MixIdeal.τ).loc Cert.MixIdeal.main_arg1)) (m ((c.tc : Thread Cert.MixIdeal.nD Cert.MixIdeal.τ).loc Cert.MixIdeal.main_arg2)) (m ((c.tc : Thread Cert.MixIdeal.nD Cert.MixIdeal.τ).loc Cert.MixIdeal.main_arg3)) (m ((c.tc : Thread Cert.MixIdeal.nD Cert.MixIdeal.τ).loc Cert.MixIdeal.main_arg4)) (m ((c.tc : Thread Cert.MixIdeal.nD Cert.MixIdeal.τ).loc Cert.MixIdeal.main_arg5)) (m ((c.tc : Thread Cert.MixIdeal.nD Cert.MixIdeal.τ).loc Cert.MixIdeal.main_arg6)) (m ((c.tc : Thread Cert.MixIdeal.nD Cert.MixIdeal.τ).loc Cert.MixIdeal.main_arg7)) (m ((c.tc : Thread Cert.MixIdeal.nD Cert.MixIdeal.τ).loc Cert.MixIdeal.main_arg8)) (m ((c.tc : Thread Cert.MixIdeal.nD Cert.MixIdeal.τ).loc Cert.MixIdeal.main_arg9))).2.2 = (fun _ => 1#1)

def Pre_MixRefIdeal (m : (ℓ : Loc Cert.MixRefIdeal.nD Cert.MixRefIdeal.τ Cert.MixRefIdeal.sig) → Buf (Elt Ideal) ℓ) : Prop :=
  True

def Pre_MixRefIdeal_finite_lse [hPre_finite_lse : Cert.Pre_finite_lse.Facts] (m : (ℓ : Loc Cert.MixRefIdeal.nD Cert.MixRefIdeal.τ Cert.MixRefIdeal.sig) → Buf (Elt Ideal) ℓ) : Prop :=
  ∀ c : Dev Cert.MixRefIdeal.nD,
    (Cert.Pre_finite_lse.fn (F := Ideal) (m ((c.tc : Thread Cert.MixRefIdeal.nD Cert.MixRefIdeal.τ).loc Cert.MixRefIdeal.main_arg0)) (m ((c.tc : Thread Cert.MixRefIdeal.nD Cert.MixRefIdeal.τ).loc Cert.MixRefIdeal.main_arg1)) (m ((c.tc : Thread Cert.MixRefIdeal.nD Cert.MixRefIdeal.τ).loc Cert.MixRefIdeal.main_arg2)) (m ((c.tc : Thread Cert.MixRefIdeal.nD Cert.MixRefIdeal.τ).loc Cert.MixRefIdeal.main_arg3)) (m ((c.tc : Thread Cert.MixRefIdeal.nD Cert.MixRefIdeal.τ).loc Cert.MixRefIdeal.main_arg4)) (m ((c.tc : Thread Cert.MixRefIdeal.nD Cert.MixRefIdeal.τ).loc Cert.MixRefIdeal.main_arg5)) (m ((c.tc : Thread Cert.MixRefIdeal.nD Cert.MixRefIdeal.τ).loc Cert.MixRefIdeal.main_arg6)) (m ((c.tc : Thread Cert.MixRefIdeal.nD Cert.MixRefIdeal.τ).loc Cert.MixRefIdeal.main_arg7)) (m ((c.tc : Thread Cert.MixRefIdeal.nD Cert.MixRefIdeal.τ).loc Cert.MixRefIdeal.main_arg8)) (m ((c.tc : Thread Cert.MixRefIdeal.nD Cert.MixRefIdeal.τ).loc Cert.MixRefIdeal.main_arg9))).1 = (fun _ => 1#1)
    ∧ (Cert.Pre_finite_lse.fn (F := Ideal) (m ((c.tc : Thread Cert.MixRefIdeal.nD Cert.MixRefIdeal.τ).loc Cert.MixRefIdeal.main_arg0)) (m ((c.tc : Thread Cert.MixRefIdeal.nD Cert.MixRefIdeal.τ).loc Cert.MixRefIdeal.main_arg1)) (m ((c.tc : Thread Cert.MixRefIdeal.nD Cert.MixRefIdeal.τ).loc Cert.MixRefIdeal.main_arg2)) (m ((c.tc : Thread Cert.MixRefIdeal.nD Cert.MixRefIdeal.τ).loc Cert.MixRefIdeal.main_arg3)) (m ((c.tc : Thread Cert.MixRefIdeal.nD Cert.MixRefIdeal.τ).loc Cert.MixRefIdeal.main_arg4)) (m ((c.tc : Thread Cert.MixRefIdeal.nD Cert.MixRefIdeal.τ).loc Cert.MixRefIdeal.main_arg5)) (m ((c.tc : Thread Cert.MixRefIdeal.nD Cert.MixRefIdeal.τ).loc Cert.MixRefIdeal.main_arg6)) (m ((c.tc : Thread Cert.MixRefIdeal.nD Cert.MixRefIdeal.τ).loc Cert.MixRefIdeal.main_arg7)) (m ((c.tc : Thread Cert.MixRefIdeal.nD Cert.MixRefIdeal.τ).loc Cert.MixRefIdeal.main_arg8)) (m ((c.tc : Thread Cert.MixRefIdeal.nD Cert.MixRefIdeal.τ).loc Cert.MixRefIdeal.main_arg9))).2.1 = (fun _ => 1#1)
    ∧ (Cert.Pre_finite_lse.fn (F := Ideal) (m ((c.tc : Thread Cert.MixRefIdeal.nD Cert.MixRefIdeal.τ).loc Cert.MixRefIdeal.main_arg0)) (m ((c.tc : Thread Cert.MixRefIdeal.nD Cert.MixRefIdeal.τ).loc Cert.MixRefIdeal.main_arg1)) (m ((c.tc : Thread Cert.MixRefIdeal.nD Cert.MixRefIdeal.τ).loc Cert.MixRefIdeal.main_arg2)) (m ((c.tc : Thread Cert.MixRefIdeal.nD Cert.MixRefIdeal.τ).loc Cert.MixRefIdeal.main_arg3)) (m ((c.tc : Thread Cert.MixRefIdeal.nD Cert.MixRefIdeal.τ).loc Cert.MixRefIdeal.main_arg4)) (m ((c.tc : Thread Cert.MixRefIdeal.nD Cert.MixRefIdeal.τ).loc Cert.MixRefIdeal.main_arg5)) (m ((c.tc : Thread Cert.MixRefIdeal.nD Cert.MixRefIdeal.τ).loc Cert.MixRefIdeal.main_arg6)) (m ((c.tc : Thread Cert.MixRefIdeal.nD Cert.MixRefIdeal.τ).loc Cert.MixRefIdeal.main_arg7)) (m ((c.tc : Thread Cert.MixRefIdeal.nD Cert.MixRefIdeal.τ).loc Cert.MixRefIdeal.main_arg8)) (m ((c.tc : Thread Cert.MixRefIdeal.nD Cert.MixRefIdeal.τ).loc Cert.MixRefIdeal.main_arg9))).2.2 = (fun _ => 1#1)

def Pre_OutProj (m : (ℓ : Loc Cert.OutProj.nD Cert.OutProj.τ Cert.OutProj.sig) → Buf (Elt Bits) ℓ) : Prop :=
  True

def Pre_OutProjIdeal (m : (ℓ : Loc Cert.OutProjIdeal.nD Cert.OutProjIdeal.τ Cert.OutProjIdeal.sig) → Buf (Elt Ideal) ℓ) : Prop :=
  True

def Pre_OutProjRefIdeal (m : (ℓ : Loc Cert.OutProjRefIdeal.nD Cert.OutProjRefIdeal.τ Cert.OutProjRefIdeal.sig) → Buf (Elt Ideal) ℓ) : Prop :=
  True

def quiescent_AttnOne [hAttnOne : Cert.AttnOne.Facts] : Prop :=
  ∀ (m : (ℓ : Loc Cert.AttnOne.nD Cert.AttnOne.τ Cert.AttnOne.sig) → Buf (Elt Bits) ℓ) (g : Dev Cert.AttnOne.nD → PrngReg), Pre_AttnOne m →
    θ_run (Cert.AttnOne.defs (F := Bits)) (onTc (τ := Cert.AttnOne.τ) (Cert.AttnOne.main (F := Bits))) ⟨m, fun _ => 0, g⟩ (fun r => (∀ c : Dev Cert.AttnOne.nD,
      r.2.mem ((c.tc : Thread Cert.AttnOne.nD Cert.AttnOne.τ).loc Cert.AttnOne.main_arg0) = m ((c.tc : Thread Cert.AttnOne.nD Cert.AttnOne.τ).loc Cert.AttnOne.main_arg0))
      ∧ r.2.sem = fun _ => 0)

def quiescent_AttnOneIdeal [hAttnOneIdeal : Cert.AttnOneIdeal.Facts] : Prop :=
  ∀ (m : (ℓ : Loc Cert.AttnOneIdeal.nD Cert.AttnOneIdeal.τ Cert.AttnOneIdeal.sig) → Buf (Elt Ideal) ℓ) (g : Dev Cert.AttnOneIdeal.nD → PrngReg), Pre_AttnOneIdeal m →
    θ_run (Cert.AttnOneIdeal.defs (F := Ideal)) (onTc (τ := Cert.AttnOneIdeal.τ) (Cert.AttnOneIdeal.main (F := Ideal))) ⟨m, fun _ => 0, g⟩ (fun r => (∀ c : Dev Cert.AttnOneIdeal.nD,
      r.2.mem ((c.tc : Thread Cert.AttnOneIdeal.nD Cert.AttnOneIdeal.τ).loc Cert.AttnOneIdeal.main_arg0) = m ((c.tc : Thread Cert.AttnOneIdeal.nD Cert.AttnOneIdeal.τ).loc Cert.AttnOneIdeal.main_arg0))
      ∧ r.2.sem = fun _ => 0)

def quiescent_AttnOneIdeal_pre_finite_projection [hAttnOneIdeal : Cert.AttnOneIdeal.Facts] [hPre_finite_projection : Cert.Pre_finite_projection.Facts] : Prop :=
  ∀ (m : (ℓ : Loc Cert.AttnOneIdeal.nD Cert.AttnOneIdeal.τ Cert.AttnOneIdeal.sig) → Buf (Elt Ideal) ℓ) (g : Dev Cert.AttnOneIdeal.nD → PrngReg), Pre_AttnOneIdeal_finite_projection m →
    θ_run (Cert.AttnOneIdeal.defs (F := Ideal)) (onTc (τ := Cert.AttnOneIdeal.τ) (Cert.AttnOneIdeal.main (F := Ideal))) ⟨m, fun _ => 0, g⟩ (fun r => (∀ c : Dev Cert.AttnOneIdeal.nD,
      r.2.mem ((c.tc : Thread Cert.AttnOneIdeal.nD Cert.AttnOneIdeal.τ).loc Cert.AttnOneIdeal.main_arg0) = m ((c.tc : Thread Cert.AttnOneIdeal.nD Cert.AttnOneIdeal.τ).loc Cert.AttnOneIdeal.main_arg0))
      ∧ r.2.sem = fun _ => 0)

def quiescent_AttnOneRefIdeal [hAttnOneRefIdeal : Cert.AttnOneRefIdeal.Facts] : Prop :=
  ∀ (m : (ℓ : Loc Cert.AttnOneRefIdeal.nD Cert.AttnOneRefIdeal.τ Cert.AttnOneRefIdeal.sig) → Buf (Elt Ideal) ℓ) (g : Dev Cert.AttnOneRefIdeal.nD → PrngReg), Pre_AttnOneRefIdeal m →
    θ_run (Cert.AttnOneRefIdeal.defs (F := Ideal)) (onTc (τ := Cert.AttnOneRefIdeal.τ) (Cert.AttnOneRefIdeal.main (F := Ideal))) ⟨m, fun _ => 0, g⟩ (fun r => (∀ c : Dev Cert.AttnOneRefIdeal.nD,
      r.2.mem ((c.tc : Thread Cert.AttnOneRefIdeal.nD Cert.AttnOneRefIdeal.τ).loc Cert.AttnOneRefIdeal.main_arg0) = m ((c.tc : Thread Cert.AttnOneRefIdeal.nD Cert.AttnOneRefIdeal.τ).loc Cert.AttnOneRefIdeal.main_arg0))
      ∧ r.2.sem = fun _ => 0)

def quiescent_AttnOneRefIdeal_pre_finite_projection [hAttnOneRefIdeal : Cert.AttnOneRefIdeal.Facts] [hPre_finite_projection : Cert.Pre_finite_projection.Facts] : Prop :=
  ∀ (m : (ℓ : Loc Cert.AttnOneRefIdeal.nD Cert.AttnOneRefIdeal.τ Cert.AttnOneRefIdeal.sig) → Buf (Elt Ideal) ℓ) (g : Dev Cert.AttnOneRefIdeal.nD → PrngReg), Pre_AttnOneRefIdeal_finite_projection m →
    θ_run (Cert.AttnOneRefIdeal.defs (F := Ideal)) (onTc (τ := Cert.AttnOneRefIdeal.τ) (Cert.AttnOneRefIdeal.main (F := Ideal))) ⟨m, fun _ => 0, g⟩ (fun r => (∀ c : Dev Cert.AttnOneRefIdeal.nD,
      r.2.mem ((c.tc : Thread Cert.AttnOneRefIdeal.nD Cert.AttnOneRefIdeal.τ).loc Cert.AttnOneRefIdeal.main_arg0) = m ((c.tc : Thread Cert.AttnOneRefIdeal.nD Cert.AttnOneRefIdeal.τ).loc Cert.AttnOneRefIdeal.main_arg0))
      ∧ r.2.sem = fun _ => 0)

def quiescent_AttnFour [hAttnFour : Cert.AttnFour.Facts] : Prop :=
  ∀ (m : (ℓ : Loc Cert.AttnFour.nD Cert.AttnFour.τ Cert.AttnFour.sig) → Buf (Elt Bits) ℓ) (g : Dev Cert.AttnFour.nD → PrngReg), Pre_AttnFour m →
    θ_run (Cert.AttnFour.defs (F := Bits)) (onTc (τ := Cert.AttnFour.τ) (Cert.AttnFour.main (F := Bits))) ⟨m, fun _ => 0, g⟩ (fun r => (∀ c : Dev Cert.AttnFour.nD,
      r.2.mem ((c.tc : Thread Cert.AttnFour.nD Cert.AttnFour.τ).loc Cert.AttnFour.main_arg0) = m ((c.tc : Thread Cert.AttnFour.nD Cert.AttnFour.τ).loc Cert.AttnFour.main_arg0))
      ∧ r.2.sem = fun _ => 0)

def quiescent_AttnFourIdeal [hAttnFourIdeal : Cert.AttnFourIdeal.Facts] : Prop :=
  ∀ (m : (ℓ : Loc Cert.AttnFourIdeal.nD Cert.AttnFourIdeal.τ Cert.AttnFourIdeal.sig) → Buf (Elt Ideal) ℓ) (g : Dev Cert.AttnFourIdeal.nD → PrngReg), Pre_AttnFourIdeal m →
    θ_run (Cert.AttnFourIdeal.defs (F := Ideal)) (onTc (τ := Cert.AttnFourIdeal.τ) (Cert.AttnFourIdeal.main (F := Ideal))) ⟨m, fun _ => 0, g⟩ (fun r => (∀ c : Dev Cert.AttnFourIdeal.nD,
      r.2.mem ((c.tc : Thread Cert.AttnFourIdeal.nD Cert.AttnFourIdeal.τ).loc Cert.AttnFourIdeal.main_arg0) = m ((c.tc : Thread Cert.AttnFourIdeal.nD Cert.AttnFourIdeal.τ).loc Cert.AttnFourIdeal.main_arg0))
      ∧ r.2.sem = fun _ => 0)

def quiescent_AttnFourIdeal_pre_finite_projection [hAttnFourIdeal : Cert.AttnFourIdeal.Facts] [hPre_finite_projection : Cert.Pre_finite_projection.Facts] : Prop :=
  ∀ (m : (ℓ : Loc Cert.AttnFourIdeal.nD Cert.AttnFourIdeal.τ Cert.AttnFourIdeal.sig) → Buf (Elt Ideal) ℓ) (g : Dev Cert.AttnFourIdeal.nD → PrngReg), Pre_AttnFourIdeal_finite_projection m →
    θ_run (Cert.AttnFourIdeal.defs (F := Ideal)) (onTc (τ := Cert.AttnFourIdeal.τ) (Cert.AttnFourIdeal.main (F := Ideal))) ⟨m, fun _ => 0, g⟩ (fun r => (∀ c : Dev Cert.AttnFourIdeal.nD,
      r.2.mem ((c.tc : Thread Cert.AttnFourIdeal.nD Cert.AttnFourIdeal.τ).loc Cert.AttnFourIdeal.main_arg0) = m ((c.tc : Thread Cert.AttnFourIdeal.nD Cert.AttnFourIdeal.τ).loc Cert.AttnFourIdeal.main_arg0))
      ∧ r.2.sem = fun _ => 0)

def quiescent_AttnFourRefIdeal [hAttnFourRefIdeal : Cert.AttnFourRefIdeal.Facts] : Prop :=
  ∀ (m : (ℓ : Loc Cert.AttnFourRefIdeal.nD Cert.AttnFourRefIdeal.τ Cert.AttnFourRefIdeal.sig) → Buf (Elt Ideal) ℓ) (g : Dev Cert.AttnFourRefIdeal.nD → PrngReg), Pre_AttnFourRefIdeal m →
    θ_run (Cert.AttnFourRefIdeal.defs (F := Ideal)) (onTc (τ := Cert.AttnFourRefIdeal.τ) (Cert.AttnFourRefIdeal.main (F := Ideal))) ⟨m, fun _ => 0, g⟩ (fun r => (∀ c : Dev Cert.AttnFourRefIdeal.nD,
      r.2.mem ((c.tc : Thread Cert.AttnFourRefIdeal.nD Cert.AttnFourRefIdeal.τ).loc Cert.AttnFourRefIdeal.main_arg0) = m ((c.tc : Thread Cert.AttnFourRefIdeal.nD Cert.AttnFourRefIdeal.τ).loc Cert.AttnFourRefIdeal.main_arg0))
      ∧ r.2.sem = fun _ => 0)

def quiescent_AttnFourRefIdeal_pre_finite_projection [hAttnFourRefIdeal : Cert.AttnFourRefIdeal.Facts] [hPre_finite_projection : Cert.Pre_finite_projection.Facts] : Prop :=
  ∀ (m : (ℓ : Loc Cert.AttnFourRefIdeal.nD Cert.AttnFourRefIdeal.τ Cert.AttnFourRefIdeal.sig) → Buf (Elt Ideal) ℓ) (g : Dev Cert.AttnFourRefIdeal.nD → PrngReg), Pre_AttnFourRefIdeal_finite_projection m →
    θ_run (Cert.AttnFourRefIdeal.defs (F := Ideal)) (onTc (τ := Cert.AttnFourRefIdeal.τ) (Cert.AttnFourRefIdeal.main (F := Ideal))) ⟨m, fun _ => 0, g⟩ (fun r => (∀ c : Dev Cert.AttnFourRefIdeal.nD,
      r.2.mem ((c.tc : Thread Cert.AttnFourRefIdeal.nD Cert.AttnFourRefIdeal.τ).loc Cert.AttnFourRefIdeal.main_arg0) = m ((c.tc : Thread Cert.AttnFourRefIdeal.nD Cert.AttnFourRefIdeal.τ).loc Cert.AttnFourRefIdeal.main_arg0))
      ∧ r.2.sem = fun _ => 0)

def quiescent_AttnSixteen [hAttnSixteen : Cert.AttnSixteen.Facts] : Prop :=
  ∀ (m : (ℓ : Loc Cert.AttnSixteen.nD Cert.AttnSixteen.τ Cert.AttnSixteen.sig) → Buf (Elt Bits) ℓ) (g : Dev Cert.AttnSixteen.nD → PrngReg), Pre_AttnSixteen m →
    θ_run (Cert.AttnSixteen.defs (F := Bits)) (onTc (τ := Cert.AttnSixteen.τ) (Cert.AttnSixteen.main (F := Bits))) ⟨m, fun _ => 0, g⟩ (fun r => (∀ c : Dev Cert.AttnSixteen.nD,
      r.2.mem ((c.tc : Thread Cert.AttnSixteen.nD Cert.AttnSixteen.τ).loc Cert.AttnSixteen.main_arg0) = m ((c.tc : Thread Cert.AttnSixteen.nD Cert.AttnSixteen.τ).loc Cert.AttnSixteen.main_arg0))
      ∧ r.2.sem = fun _ => 0)

def quiescent_AttnSixteenIdeal [hAttnSixteenIdeal : Cert.AttnSixteenIdeal.Facts] : Prop :=
  ∀ (m : (ℓ : Loc Cert.AttnSixteenIdeal.nD Cert.AttnSixteenIdeal.τ Cert.AttnSixteenIdeal.sig) → Buf (Elt Ideal) ℓ) (g : Dev Cert.AttnSixteenIdeal.nD → PrngReg), Pre_AttnSixteenIdeal m →
    θ_run (Cert.AttnSixteenIdeal.defs (F := Ideal)) (onTc (τ := Cert.AttnSixteenIdeal.τ) (Cert.AttnSixteenIdeal.main (F := Ideal))) ⟨m, fun _ => 0, g⟩ (fun r => (∀ c : Dev Cert.AttnSixteenIdeal.nD,
      r.2.mem ((c.tc : Thread Cert.AttnSixteenIdeal.nD Cert.AttnSixteenIdeal.τ).loc Cert.AttnSixteenIdeal.main_arg0) = m ((c.tc : Thread Cert.AttnSixteenIdeal.nD Cert.AttnSixteenIdeal.τ).loc Cert.AttnSixteenIdeal.main_arg0))
      ∧ r.2.sem = fun _ => 0)

def quiescent_AttnSixteenIdeal_pre_finite_projection [hAttnSixteenIdeal : Cert.AttnSixteenIdeal.Facts] [hPre_finite_projection : Cert.Pre_finite_projection.Facts] : Prop :=
  ∀ (m : (ℓ : Loc Cert.AttnSixteenIdeal.nD Cert.AttnSixteenIdeal.τ Cert.AttnSixteenIdeal.sig) → Buf (Elt Ideal) ℓ) (g : Dev Cert.AttnSixteenIdeal.nD → PrngReg), Pre_AttnSixteenIdeal_finite_projection m →
    θ_run (Cert.AttnSixteenIdeal.defs (F := Ideal)) (onTc (τ := Cert.AttnSixteenIdeal.τ) (Cert.AttnSixteenIdeal.main (F := Ideal))) ⟨m, fun _ => 0, g⟩ (fun r => (∀ c : Dev Cert.AttnSixteenIdeal.nD,
      r.2.mem ((c.tc : Thread Cert.AttnSixteenIdeal.nD Cert.AttnSixteenIdeal.τ).loc Cert.AttnSixteenIdeal.main_arg0) = m ((c.tc : Thread Cert.AttnSixteenIdeal.nD Cert.AttnSixteenIdeal.τ).loc Cert.AttnSixteenIdeal.main_arg0))
      ∧ r.2.sem = fun _ => 0)

def quiescent_AttnSixteenRefIdeal [hAttnSixteenRefIdeal : Cert.AttnSixteenRefIdeal.Facts] : Prop :=
  ∀ (m : (ℓ : Loc Cert.AttnSixteenRefIdeal.nD Cert.AttnSixteenRefIdeal.τ Cert.AttnSixteenRefIdeal.sig) → Buf (Elt Ideal) ℓ) (g : Dev Cert.AttnSixteenRefIdeal.nD → PrngReg), Pre_AttnSixteenRefIdeal m →
    θ_run (Cert.AttnSixteenRefIdeal.defs (F := Ideal)) (onTc (τ := Cert.AttnSixteenRefIdeal.τ) (Cert.AttnSixteenRefIdeal.main (F := Ideal))) ⟨m, fun _ => 0, g⟩ (fun r => (∀ c : Dev Cert.AttnSixteenRefIdeal.nD,
      r.2.mem ((c.tc : Thread Cert.AttnSixteenRefIdeal.nD Cert.AttnSixteenRefIdeal.τ).loc Cert.AttnSixteenRefIdeal.main_arg0) = m ((c.tc : Thread Cert.AttnSixteenRefIdeal.nD Cert.AttnSixteenRefIdeal.τ).loc Cert.AttnSixteenRefIdeal.main_arg0))
      ∧ r.2.sem = fun _ => 0)

def quiescent_AttnSixteenRefIdeal_pre_finite_projection [hAttnSixteenRefIdeal : Cert.AttnSixteenRefIdeal.Facts] [hPre_finite_projection : Cert.Pre_finite_projection.Facts] : Prop :=
  ∀ (m : (ℓ : Loc Cert.AttnSixteenRefIdeal.nD Cert.AttnSixteenRefIdeal.τ Cert.AttnSixteenRefIdeal.sig) → Buf (Elt Ideal) ℓ) (g : Dev Cert.AttnSixteenRefIdeal.nD → PrngReg), Pre_AttnSixteenRefIdeal_finite_projection m →
    θ_run (Cert.AttnSixteenRefIdeal.defs (F := Ideal)) (onTc (τ := Cert.AttnSixteenRefIdeal.τ) (Cert.AttnSixteenRefIdeal.main (F := Ideal))) ⟨m, fun _ => 0, g⟩ (fun r => (∀ c : Dev Cert.AttnSixteenRefIdeal.nD,
      r.2.mem ((c.tc : Thread Cert.AttnSixteenRefIdeal.nD Cert.AttnSixteenRefIdeal.τ).loc Cert.AttnSixteenRefIdeal.main_arg0) = m ((c.tc : Thread Cert.AttnSixteenRefIdeal.nD Cert.AttnSixteenRefIdeal.τ).loc Cert.AttnSixteenRefIdeal.main_arg0))
      ∧ r.2.sem = fun _ => 0)

def quiescent_Norm [hNorm : Cert.Norm.Facts] : Prop :=
  ∀ (m : (ℓ : Loc Cert.Norm.nD Cert.Norm.τ Cert.Norm.sig) → Buf (Elt Bits) ℓ) (g : Dev Cert.Norm.nD → PrngReg), Pre_Norm m →
    θ_run (Cert.Norm.defs (F := Bits)) (onTc (τ := Cert.Norm.τ) (Cert.Norm.main (F := Bits))) ⟨m, fun _ => 0, g⟩ (fun r => (∀ c : Dev Cert.Norm.nD,
      r.2.mem ((c.tc : Thread Cert.Norm.nD Cert.Norm.τ).loc Cert.Norm.main_arg0) = m ((c.tc : Thread Cert.Norm.nD Cert.Norm.τ).loc Cert.Norm.main_arg0)
      ∧ r.2.mem ((c.tc : Thread Cert.Norm.nD Cert.Norm.τ).loc Cert.Norm.main_arg1) = m ((c.tc : Thread Cert.Norm.nD Cert.Norm.τ).loc Cert.Norm.main_arg1))
      ∧ r.2.sem = fun _ => 0)

def quiescent_NormIdeal [hNormIdeal : Cert.NormIdeal.Facts] : Prop :=
  ∀ (m : (ℓ : Loc Cert.NormIdeal.nD Cert.NormIdeal.τ Cert.NormIdeal.sig) → Buf (Elt Ideal) ℓ) (g : Dev Cert.NormIdeal.nD → PrngReg), Pre_NormIdeal m →
    θ_run (Cert.NormIdeal.defs (F := Ideal)) (onTc (τ := Cert.NormIdeal.τ) (Cert.NormIdeal.main (F := Ideal))) ⟨m, fun _ => 0, g⟩ (fun r => (∀ c : Dev Cert.NormIdeal.nD,
      r.2.mem ((c.tc : Thread Cert.NormIdeal.nD Cert.NormIdeal.τ).loc Cert.NormIdeal.main_arg0) = m ((c.tc : Thread Cert.NormIdeal.nD Cert.NormIdeal.τ).loc Cert.NormIdeal.main_arg0)
      ∧ r.2.mem ((c.tc : Thread Cert.NormIdeal.nD Cert.NormIdeal.τ).loc Cert.NormIdeal.main_arg1) = m ((c.tc : Thread Cert.NormIdeal.nD Cert.NormIdeal.τ).loc Cert.NormIdeal.main_arg1))
      ∧ r.2.sem = fun _ => 0)

def quiescent_NormRefIdeal [hNormRefIdeal : Cert.NormRefIdeal.Facts] : Prop :=
  ∀ (m : (ℓ : Loc Cert.NormRefIdeal.nD Cert.NormRefIdeal.τ Cert.NormRefIdeal.sig) → Buf (Elt Ideal) ℓ) (g : Dev Cert.NormRefIdeal.nD → PrngReg), Pre_NormRefIdeal m →
    θ_run (Cert.NormRefIdeal.defs (F := Ideal)) (onTc (τ := Cert.NormRefIdeal.τ) (Cert.NormRefIdeal.main (F := Ideal))) ⟨m, fun _ => 0, g⟩ (fun r => (∀ c : Dev Cert.NormRefIdeal.nD,
      r.2.mem ((c.tc : Thread Cert.NormRefIdeal.nD Cert.NormRefIdeal.τ).loc Cert.NormRefIdeal.main_arg0) = m ((c.tc : Thread Cert.NormRefIdeal.nD Cert.NormRefIdeal.τ).loc Cert.NormRefIdeal.main_arg0)
      ∧ r.2.mem ((c.tc : Thread Cert.NormRefIdeal.nD Cert.NormRefIdeal.τ).loc Cert.NormRefIdeal.main_arg1) = m ((c.tc : Thread Cert.NormRefIdeal.nD Cert.NormRefIdeal.τ).loc Cert.NormRefIdeal.main_arg1))
      ∧ r.2.sem = fun _ => 0)

def quiescent_InProj [hInProj : Cert.InProj.Facts] : Prop :=
  ∀ (m : (ℓ : Loc Cert.InProj.nD Cert.InProj.τ Cert.InProj.sig) → Buf (Elt Bits) ℓ) (g : Dev Cert.InProj.nD → PrngReg), Pre_InProj m →
    θ_run (Cert.InProj.defs (F := Bits)) (onTc (τ := Cert.InProj.τ) (Cert.InProj.main (F := Bits))) ⟨m, fun _ => 0, g⟩ (fun r => (∀ c : Dev Cert.InProj.nD,
      r.2.mem ((c.tc : Thread Cert.InProj.nD Cert.InProj.τ).loc Cert.InProj.main_arg0) = m ((c.tc : Thread Cert.InProj.nD Cert.InProj.τ).loc Cert.InProj.main_arg0)
      ∧ r.2.mem ((c.tc : Thread Cert.InProj.nD Cert.InProj.τ).loc Cert.InProj.main_arg1) = m ((c.tc : Thread Cert.InProj.nD Cert.InProj.τ).loc Cert.InProj.main_arg1)
      ∧ r.2.mem ((c.tc : Thread Cert.InProj.nD Cert.InProj.τ).loc Cert.InProj.main_arg2) = m ((c.tc : Thread Cert.InProj.nD Cert.InProj.τ).loc Cert.InProj.main_arg2))
      ∧ r.2.sem = fun _ => 0)

def quiescent_InProjIdeal [hInProjIdeal : Cert.InProjIdeal.Facts] : Prop :=
  ∀ (m : (ℓ : Loc Cert.InProjIdeal.nD Cert.InProjIdeal.τ Cert.InProjIdeal.sig) → Buf (Elt Ideal) ℓ) (g : Dev Cert.InProjIdeal.nD → PrngReg), Pre_InProjIdeal m →
    θ_run (Cert.InProjIdeal.defs (F := Ideal)) (onTc (τ := Cert.InProjIdeal.τ) (Cert.InProjIdeal.main (F := Ideal))) ⟨m, fun _ => 0, g⟩ (fun r => (∀ c : Dev Cert.InProjIdeal.nD,
      r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
      ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
      ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2))
      ∧ r.2.sem = fun _ => 0)

def quiescent_InProjRefIdeal [hInProjRefIdeal : Cert.InProjRefIdeal.Facts] : Prop :=
  ∀ (m : (ℓ : Loc Cert.InProjRefIdeal.nD Cert.InProjRefIdeal.τ Cert.InProjRefIdeal.sig) → Buf (Elt Ideal) ℓ) (g : Dev Cert.InProjRefIdeal.nD → PrngReg), Pre_InProjRefIdeal m →
    θ_run (Cert.InProjRefIdeal.defs (F := Ideal)) (onTc (τ := Cert.InProjRefIdeal.τ) (Cert.InProjRefIdeal.main (F := Ideal))) ⟨m, fun _ => 0, g⟩ (fun r => (∀ c : Dev Cert.InProjRefIdeal.nD,
      r.2.mem ((c.tc : Thread Cert.InProjRefIdeal.nD Cert.InProjRefIdeal.τ).loc Cert.InProjRefIdeal.main_arg0) = m ((c.tc : Thread Cert.InProjRefIdeal.nD Cert.InProjRefIdeal.τ).loc Cert.InProjRefIdeal.main_arg0)
      ∧ r.2.mem ((c.tc : Thread Cert.InProjRefIdeal.nD Cert.InProjRefIdeal.τ).loc Cert.InProjRefIdeal.main_arg1) = m ((c.tc : Thread Cert.InProjRefIdeal.nD Cert.InProjRefIdeal.τ).loc Cert.InProjRefIdeal.main_arg1)
      ∧ r.2.mem ((c.tc : Thread Cert.InProjRefIdeal.nD Cert.InProjRefIdeal.τ).loc Cert.InProjRefIdeal.main_arg2) = m ((c.tc : Thread Cert.InProjRefIdeal.nD Cert.InProjRefIdeal.τ).loc Cert.InProjRefIdeal.main_arg2))
      ∧ r.2.sem = fun _ => 0)

def quiescent_Mix [hMix : Cert.Mix.Facts] : Prop :=
  ∀ (m : (ℓ : Loc Cert.Mix.nD Cert.Mix.τ Cert.Mix.sig) → Buf (Elt Bits) ℓ) (g : Dev Cert.Mix.nD → PrngReg), Pre_Mix m →
    θ_run (Cert.Mix.defs (F := Bits)) (onTc (τ := Cert.Mix.τ) (Cert.Mix.main (F := Bits))) ⟨m, fun _ => 0, g⟩ (fun r => (∀ c : Dev Cert.Mix.nD,
      r.2.mem ((c.tc : Thread Cert.Mix.nD Cert.Mix.τ).loc Cert.Mix.main_arg0) = m ((c.tc : Thread Cert.Mix.nD Cert.Mix.τ).loc Cert.Mix.main_arg0)
      ∧ r.2.mem ((c.tc : Thread Cert.Mix.nD Cert.Mix.τ).loc Cert.Mix.main_arg1) = m ((c.tc : Thread Cert.Mix.nD Cert.Mix.τ).loc Cert.Mix.main_arg1)
      ∧ r.2.mem ((c.tc : Thread Cert.Mix.nD Cert.Mix.τ).loc Cert.Mix.main_arg2) = m ((c.tc : Thread Cert.Mix.nD Cert.Mix.τ).loc Cert.Mix.main_arg2)
      ∧ r.2.mem ((c.tc : Thread Cert.Mix.nD Cert.Mix.τ).loc Cert.Mix.main_arg3) = m ((c.tc : Thread Cert.Mix.nD Cert.Mix.τ).loc Cert.Mix.main_arg3)
      ∧ r.2.mem ((c.tc : Thread Cert.Mix.nD Cert.Mix.τ).loc Cert.Mix.main_arg4) = m ((c.tc : Thread Cert.Mix.nD Cert.Mix.τ).loc Cert.Mix.main_arg4)
      ∧ r.2.mem ((c.tc : Thread Cert.Mix.nD Cert.Mix.τ).loc Cert.Mix.main_arg5) = m ((c.tc : Thread Cert.Mix.nD Cert.Mix.τ).loc Cert.Mix.main_arg5)
      ∧ r.2.mem ((c.tc : Thread Cert.Mix.nD Cert.Mix.τ).loc Cert.Mix.main_arg6) = m ((c.tc : Thread Cert.Mix.nD Cert.Mix.τ).loc Cert.Mix.main_arg6)
      ∧ r.2.mem ((c.tc : Thread Cert.Mix.nD Cert.Mix.τ).loc Cert.Mix.main_arg7) = m ((c.tc : Thread Cert.Mix.nD Cert.Mix.τ).loc Cert.Mix.main_arg7)
      ∧ r.2.mem ((c.tc : Thread Cert.Mix.nD Cert.Mix.τ).loc Cert.Mix.main_arg8) = m ((c.tc : Thread Cert.Mix.nD Cert.Mix.τ).loc Cert.Mix.main_arg8)
      ∧ r.2.mem ((c.tc : Thread Cert.Mix.nD Cert.Mix.τ).loc Cert.Mix.main_arg9) = m ((c.tc : Thread Cert.Mix.nD Cert.Mix.τ).loc Cert.Mix.main_arg9))
      ∧ r.2.sem = fun _ => 0)

def quiescent_MixIdeal [hMixIdeal : Cert.MixIdeal.Facts] : Prop :=
  ∀ (m : (ℓ : Loc Cert.MixIdeal.nD Cert.MixIdeal.τ Cert.MixIdeal.sig) → Buf (Elt Ideal) ℓ) (g : Dev Cert.MixIdeal.nD → PrngReg), Pre_MixIdeal m →
    θ_run (Cert.MixIdeal.defs (F := Ideal)) (onTc (τ := Cert.MixIdeal.τ) (Cert.MixIdeal.main (F := Ideal))) ⟨m, fun _ => 0, g⟩ (fun r => (∀ c : Dev Cert.MixIdeal.nD,
      r.2.mem ((c.tc : Thread Cert.MixIdeal.nD Cert.MixIdeal.τ).loc Cert.MixIdeal.main_arg0) = m ((c.tc : Thread Cert.MixIdeal.nD Cert.MixIdeal.τ).loc Cert.MixIdeal.main_arg0)
      ∧ r.2.mem ((c.tc : Thread Cert.MixIdeal.nD Cert.MixIdeal.τ).loc Cert.MixIdeal.main_arg1) = m ((c.tc : Thread Cert.MixIdeal.nD Cert.MixIdeal.τ).loc Cert.MixIdeal.main_arg1)
      ∧ r.2.mem ((c.tc : Thread Cert.MixIdeal.nD Cert.MixIdeal.τ).loc Cert.MixIdeal.main_arg2) = m ((c.tc : Thread Cert.MixIdeal.nD Cert.MixIdeal.τ).loc Cert.MixIdeal.main_arg2)
      ∧ r.2.mem ((c.tc : Thread Cert.MixIdeal.nD Cert.MixIdeal.τ).loc Cert.MixIdeal.main_arg3) = m ((c.tc : Thread Cert.MixIdeal.nD Cert.MixIdeal.τ).loc Cert.MixIdeal.main_arg3)
      ∧ r.2.mem ((c.tc : Thread Cert.MixIdeal.nD Cert.MixIdeal.τ).loc Cert.MixIdeal.main_arg4) = m ((c.tc : Thread Cert.MixIdeal.nD Cert.MixIdeal.τ).loc Cert.MixIdeal.main_arg4)
      ∧ r.2.mem ((c.tc : Thread Cert.MixIdeal.nD Cert.MixIdeal.τ).loc Cert.MixIdeal.main_arg5) = m ((c.tc : Thread Cert.MixIdeal.nD Cert.MixIdeal.τ).loc Cert.MixIdeal.main_arg5)
      ∧ r.2.mem ((c.tc : Thread Cert.MixIdeal.nD Cert.MixIdeal.τ).loc Cert.MixIdeal.main_arg6) = m ((c.tc : Thread Cert.MixIdeal.nD Cert.MixIdeal.τ).loc Cert.MixIdeal.main_arg6)
      ∧ r.2.mem ((c.tc : Thread Cert.MixIdeal.nD Cert.MixIdeal.τ).loc Cert.MixIdeal.main_arg7) = m ((c.tc : Thread Cert.MixIdeal.nD Cert.MixIdeal.τ).loc Cert.MixIdeal.main_arg7)
      ∧ r.2.mem ((c.tc : Thread Cert.MixIdeal.nD Cert.MixIdeal.τ).loc Cert.MixIdeal.main_arg8) = m ((c.tc : Thread Cert.MixIdeal.nD Cert.MixIdeal.τ).loc Cert.MixIdeal.main_arg8)
      ∧ r.2.mem ((c.tc : Thread Cert.MixIdeal.nD Cert.MixIdeal.τ).loc Cert.MixIdeal.main_arg9) = m ((c.tc : Thread Cert.MixIdeal.nD Cert.MixIdeal.τ).loc Cert.MixIdeal.main_arg9))
      ∧ r.2.sem = fun _ => 0)

def quiescent_MixIdeal_pre_finite_lse [hMixIdeal : Cert.MixIdeal.Facts] [hPre_finite_lse : Cert.Pre_finite_lse.Facts] : Prop :=
  ∀ (m : (ℓ : Loc Cert.MixIdeal.nD Cert.MixIdeal.τ Cert.MixIdeal.sig) → Buf (Elt Ideal) ℓ) (g : Dev Cert.MixIdeal.nD → PrngReg), Pre_MixIdeal_finite_lse m →
    θ_run (Cert.MixIdeal.defs (F := Ideal)) (onTc (τ := Cert.MixIdeal.τ) (Cert.MixIdeal.main (F := Ideal))) ⟨m, fun _ => 0, g⟩ (fun r => (∀ c : Dev Cert.MixIdeal.nD,
      r.2.mem ((c.tc : Thread Cert.MixIdeal.nD Cert.MixIdeal.τ).loc Cert.MixIdeal.main_arg0) = m ((c.tc : Thread Cert.MixIdeal.nD Cert.MixIdeal.τ).loc Cert.MixIdeal.main_arg0)
      ∧ r.2.mem ((c.tc : Thread Cert.MixIdeal.nD Cert.MixIdeal.τ).loc Cert.MixIdeal.main_arg1) = m ((c.tc : Thread Cert.MixIdeal.nD Cert.MixIdeal.τ).loc Cert.MixIdeal.main_arg1)
      ∧ r.2.mem ((c.tc : Thread Cert.MixIdeal.nD Cert.MixIdeal.τ).loc Cert.MixIdeal.main_arg2) = m ((c.tc : Thread Cert.MixIdeal.nD Cert.MixIdeal.τ).loc Cert.MixIdeal.main_arg2)
      ∧ r.2.mem ((c.tc : Thread Cert.MixIdeal.nD Cert.MixIdeal.τ).loc Cert.MixIdeal.main_arg3) = m ((c.tc : Thread Cert.MixIdeal.nD Cert.MixIdeal.τ).loc Cert.MixIdeal.main_arg3)
      ∧ r.2.mem ((c.tc : Thread Cert.MixIdeal.nD Cert.MixIdeal.τ).loc Cert.MixIdeal.main_arg4) = m ((c.tc : Thread Cert.MixIdeal.nD Cert.MixIdeal.τ).loc Cert.MixIdeal.main_arg4)
      ∧ r.2.mem ((c.tc : Thread Cert.MixIdeal.nD Cert.MixIdeal.τ).loc Cert.MixIdeal.main_arg5) = m ((c.tc : Thread Cert.MixIdeal.nD Cert.MixIdeal.τ).loc Cert.MixIdeal.main_arg5)
      ∧ r.2.mem ((c.tc : Thread Cert.MixIdeal.nD Cert.MixIdeal.τ).loc Cert.MixIdeal.main_arg6) = m ((c.tc : Thread Cert.MixIdeal.nD Cert.MixIdeal.τ).loc Cert.MixIdeal.main_arg6)
      ∧ r.2.mem ((c.tc : Thread Cert.MixIdeal.nD Cert.MixIdeal.τ).loc Cert.MixIdeal.main_arg7) = m ((c.tc : Thread Cert.MixIdeal.nD Cert.MixIdeal.τ).loc Cert.MixIdeal.main_arg7)
      ∧ r.2.mem ((c.tc : Thread Cert.MixIdeal.nD Cert.MixIdeal.τ).loc Cert.MixIdeal.main_arg8) = m ((c.tc : Thread Cert.MixIdeal.nD Cert.MixIdeal.τ).loc Cert.MixIdeal.main_arg8)
      ∧ r.2.mem ((c.tc : Thread Cert.MixIdeal.nD Cert.MixIdeal.τ).loc Cert.MixIdeal.main_arg9) = m ((c.tc : Thread Cert.MixIdeal.nD Cert.MixIdeal.τ).loc Cert.MixIdeal.main_arg9))
      ∧ r.2.sem = fun _ => 0)

def quiescent_MixRefIdeal [hMixRefIdeal : Cert.MixRefIdeal.Facts] : Prop :=
  ∀ (m : (ℓ : Loc Cert.MixRefIdeal.nD Cert.MixRefIdeal.τ Cert.MixRefIdeal.sig) → Buf (Elt Ideal) ℓ) (g : Dev Cert.MixRefIdeal.nD → PrngReg), Pre_MixRefIdeal m →
    θ_run (Cert.MixRefIdeal.defs (F := Ideal)) (onTc (τ := Cert.MixRefIdeal.τ) (Cert.MixRefIdeal.main (F := Ideal))) ⟨m, fun _ => 0, g⟩ (fun r => (∀ c : Dev Cert.MixRefIdeal.nD,
      r.2.mem ((c.tc : Thread Cert.MixRefIdeal.nD Cert.MixRefIdeal.τ).loc Cert.MixRefIdeal.main_arg0) = m ((c.tc : Thread Cert.MixRefIdeal.nD Cert.MixRefIdeal.τ).loc Cert.MixRefIdeal.main_arg0)
      ∧ r.2.mem ((c.tc : Thread Cert.MixRefIdeal.nD Cert.MixRefIdeal.τ).loc Cert.MixRefIdeal.main_arg1) = m ((c.tc : Thread Cert.MixRefIdeal.nD Cert.MixRefIdeal.τ).loc Cert.MixRefIdeal.main_arg1)
      ∧ r.2.mem ((c.tc : Thread Cert.MixRefIdeal.nD Cert.MixRefIdeal.τ).loc Cert.MixRefIdeal.main_arg2) = m ((c.tc : Thread Cert.MixRefIdeal.nD Cert.MixRefIdeal.τ).loc Cert.MixRefIdeal.main_arg2)
      ∧ r.2.mem ((c.tc : Thread Cert.MixRefIdeal.nD Cert.MixRefIdeal.τ).loc Cert.MixRefIdeal.main_arg3) = m ((c.tc : Thread Cert.MixRefIdeal.nD Cert.MixRefIdeal.τ).loc Cert.MixRefIdeal.main_arg3)
      ∧ r.2.mem ((c.tc : Thread Cert.MixRefIdeal.nD Cert.MixRefIdeal.τ).loc Cert.MixRefIdeal.main_arg4) = m ((c.tc : Thread Cert.MixRefIdeal.nD Cert.MixRefIdeal.τ).loc Cert.MixRefIdeal.main_arg4)
      ∧ r.2.mem ((c.tc : Thread Cert.MixRefIdeal.nD Cert.MixRefIdeal.τ).loc Cert.MixRefIdeal.main_arg5) = m ((c.tc : Thread Cert.MixRefIdeal.nD Cert.MixRefIdeal.τ).loc Cert.MixRefIdeal.main_arg5)
      ∧ r.2.mem ((c.tc : Thread Cert.MixRefIdeal.nD Cert.MixRefIdeal.τ).loc Cert.MixRefIdeal.main_arg6) = m ((c.tc : Thread Cert.MixRefIdeal.nD Cert.MixRefIdeal.τ).loc Cert.MixRefIdeal.main_arg6)
      ∧ r.2.mem ((c.tc : Thread Cert.MixRefIdeal.nD Cert.MixRefIdeal.τ).loc Cert.MixRefIdeal.main_arg7) = m ((c.tc : Thread Cert.MixRefIdeal.nD Cert.MixRefIdeal.τ).loc Cert.MixRefIdeal.main_arg7)
      ∧ r.2.mem ((c.tc : Thread Cert.MixRefIdeal.nD Cert.MixRefIdeal.τ).loc Cert.MixRefIdeal.main_arg8) = m ((c.tc : Thread Cert.MixRefIdeal.nD Cert.MixRefIdeal.τ).loc Cert.MixRefIdeal.main_arg8)
      ∧ r.2.mem ((c.tc : Thread Cert.MixRefIdeal.nD Cert.MixRefIdeal.τ).loc Cert.MixRefIdeal.main_arg9) = m ((c.tc : Thread Cert.MixRefIdeal.nD Cert.MixRefIdeal.τ).loc Cert.MixRefIdeal.main_arg9))
      ∧ r.2.sem = fun _ => 0)

def quiescent_MixRefIdeal_pre_finite_lse [hMixRefIdeal : Cert.MixRefIdeal.Facts] [hPre_finite_lse : Cert.Pre_finite_lse.Facts] : Prop :=
  ∀ (m : (ℓ : Loc Cert.MixRefIdeal.nD Cert.MixRefIdeal.τ Cert.MixRefIdeal.sig) → Buf (Elt Ideal) ℓ) (g : Dev Cert.MixRefIdeal.nD → PrngReg), Pre_MixRefIdeal_finite_lse m →
    θ_run (Cert.MixRefIdeal.defs (F := Ideal)) (onTc (τ := Cert.MixRefIdeal.τ) (Cert.MixRefIdeal.main (F := Ideal))) ⟨m, fun _ => 0, g⟩ (fun r => (∀ c : Dev Cert.MixRefIdeal.nD,
      r.2.mem ((c.tc : Thread Cert.MixRefIdeal.nD Cert.MixRefIdeal.τ).loc Cert.MixRefIdeal.main_arg0) = m ((c.tc : Thread Cert.MixRefIdeal.nD Cert.MixRefIdeal.τ).loc Cert.MixRefIdeal.main_arg0)
      ∧ r.2.mem ((c.tc : Thread Cert.MixRefIdeal.nD Cert.MixRefIdeal.τ).loc Cert.MixRefIdeal.main_arg1) = m ((c.tc : Thread Cert.MixRefIdeal.nD Cert.MixRefIdeal.τ).loc Cert.MixRefIdeal.main_arg1)
      ∧ r.2.mem ((c.tc : Thread Cert.MixRefIdeal.nD Cert.MixRefIdeal.τ).loc Cert.MixRefIdeal.main_arg2) = m ((c.tc : Thread Cert.MixRefIdeal.nD Cert.MixRefIdeal.τ).loc Cert.MixRefIdeal.main_arg2)
      ∧ r.2.mem ((c.tc : Thread Cert.MixRefIdeal.nD Cert.MixRefIdeal.τ).loc Cert.MixRefIdeal.main_arg3) = m ((c.tc : Thread Cert.MixRefIdeal.nD Cert.MixRefIdeal.τ).loc Cert.MixRefIdeal.main_arg3)
      ∧ r.2.mem ((c.tc : Thread Cert.MixRefIdeal.nD Cert.MixRefIdeal.τ).loc Cert.MixRefIdeal.main_arg4) = m ((c.tc : Thread Cert.MixRefIdeal.nD Cert.MixRefIdeal.τ).loc Cert.MixRefIdeal.main_arg4)
      ∧ r.2.mem ((c.tc : Thread Cert.MixRefIdeal.nD Cert.MixRefIdeal.τ).loc Cert.MixRefIdeal.main_arg5) = m ((c.tc : Thread Cert.MixRefIdeal.nD Cert.MixRefIdeal.τ).loc Cert.MixRefIdeal.main_arg5)
      ∧ r.2.mem ((c.tc : Thread Cert.MixRefIdeal.nD Cert.MixRefIdeal.τ).loc Cert.MixRefIdeal.main_arg6) = m ((c.tc : Thread Cert.MixRefIdeal.nD Cert.MixRefIdeal.τ).loc Cert.MixRefIdeal.main_arg6)
      ∧ r.2.mem ((c.tc : Thread Cert.MixRefIdeal.nD Cert.MixRefIdeal.τ).loc Cert.MixRefIdeal.main_arg7) = m ((c.tc : Thread Cert.MixRefIdeal.nD Cert.MixRefIdeal.τ).loc Cert.MixRefIdeal.main_arg7)
      ∧ r.2.mem ((c.tc : Thread Cert.MixRefIdeal.nD Cert.MixRefIdeal.τ).loc Cert.MixRefIdeal.main_arg8) = m ((c.tc : Thread Cert.MixRefIdeal.nD Cert.MixRefIdeal.τ).loc Cert.MixRefIdeal.main_arg8)
      ∧ r.2.mem ((c.tc : Thread Cert.MixRefIdeal.nD Cert.MixRefIdeal.τ).loc Cert.MixRefIdeal.main_arg9) = m ((c.tc : Thread Cert.MixRefIdeal.nD Cert.MixRefIdeal.τ).loc Cert.MixRefIdeal.main_arg9))
      ∧ r.2.sem = fun _ => 0)

def quiescent_OutProj [hOutProj : Cert.OutProj.Facts] : Prop :=
  ∀ (m : (ℓ : Loc Cert.OutProj.nD Cert.OutProj.τ Cert.OutProj.sig) → Buf (Elt Bits) ℓ) (g : Dev Cert.OutProj.nD → PrngReg), Pre_OutProj m →
    θ_run (Cert.OutProj.defs (F := Bits)) (onTc (τ := Cert.OutProj.τ) (Cert.OutProj.main (F := Bits))) ⟨m, fun _ => 0, g⟩ (fun r => (∀ c : Dev Cert.OutProj.nD,
      r.2.mem ((c.tc : Thread Cert.OutProj.nD Cert.OutProj.τ).loc Cert.OutProj.main_arg0) = m ((c.tc : Thread Cert.OutProj.nD Cert.OutProj.τ).loc Cert.OutProj.main_arg0)
      ∧ r.2.mem ((c.tc : Thread Cert.OutProj.nD Cert.OutProj.τ).loc Cert.OutProj.main_arg1) = m ((c.tc : Thread Cert.OutProj.nD Cert.OutProj.τ).loc Cert.OutProj.main_arg1)
      ∧ r.2.mem ((c.tc : Thread Cert.OutProj.nD Cert.OutProj.τ).loc Cert.OutProj.main_arg2) = m ((c.tc : Thread Cert.OutProj.nD Cert.OutProj.τ).loc Cert.OutProj.main_arg2)
      ∧ r.2.mem ((c.tc : Thread Cert.OutProj.nD Cert.OutProj.τ).loc Cert.OutProj.main_arg3) = m ((c.tc : Thread Cert.OutProj.nD Cert.OutProj.τ).loc Cert.OutProj.main_arg3))
      ∧ r.2.sem = fun _ => 0)

def quiescent_OutProjIdeal [hOutProjIdeal : Cert.OutProjIdeal.Facts] : Prop :=
  ∀ (m : (ℓ : Loc Cert.OutProjIdeal.nD Cert.OutProjIdeal.τ Cert.OutProjIdeal.sig) → Buf (Elt Ideal) ℓ) (g : Dev Cert.OutProjIdeal.nD → PrngReg), Pre_OutProjIdeal m →
    θ_run (Cert.OutProjIdeal.defs (F := Ideal)) (onTc (τ := Cert.OutProjIdeal.τ) (Cert.OutProjIdeal.main (F := Ideal))) ⟨m, fun _ => 0, g⟩ (fun r => (∀ c : Dev Cert.OutProjIdeal.nD,
      r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
      ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1)
      ∧ r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2)
      ∧ r.2.mem ((c.tc : Thread Cert.OutProjIdeal.nD Cert.OutProjIdeal.τ).loc Cert.OutProjIdeal.main_arg3) = m ((c.tc : Thread Cert.OutProjIdeal.nD Cert.OutProjIdeal.τ).loc Cert.OutProjIdeal.main_arg3))
      ∧ r.2.sem = fun _ => 0)

def quiescent_OutProjRefIdeal [hOutProjRefIdeal : Cert.OutProjRefIdeal.Facts] : Prop :=
  ∀ (m : (ℓ : Loc Cert.OutProjRefIdeal.nD Cert.OutProjRefIdeal.τ Cert.OutProjRefIdeal.sig) → Buf (Elt Ideal) ℓ) (g : Dev Cert.OutProjRefIdeal.nD → PrngReg), Pre_OutProjRefIdeal m →
    θ_run (Cert.OutProjRefIdeal.defs (F := Ideal)) (onTc (τ := Cert.OutProjRefIdeal.τ) (Cert.OutProjRefIdeal.main (F := Ideal))) ⟨m, fun _ => 0, g⟩ (fun r => (∀ c : Dev Cert.OutProjRefIdeal.nD,
      r.2.mem ((c.tc : Thread Cert.OutProjRefIdeal.nD Cert.OutProjRefIdeal.τ).loc Cert.OutProjRefIdeal.main_arg0) = m ((c.tc : Thread Cert.OutProjRefIdeal.nD Cert.OutProjRefIdeal.τ).loc Cert.OutProjRefIdeal.main_arg0)
      ∧ r.2.mem ((c.tc : Thread Cert.OutProjRefIdeal.nD Cert.OutProjRefIdeal.τ).loc Cert.OutProjRefIdeal.main_arg1) = m ((c.tc : Thread Cert.OutProjRefIdeal.nD Cert.OutProjRefIdeal.τ).loc Cert.OutProjRefIdeal.main_arg1)
      ∧ r.2.mem ((c.tc : Thread Cert.OutProjRefIdeal.nD Cert.OutProjRefIdeal.τ).loc Cert.OutProjRefIdeal.main_arg2) = m ((c.tc : Thread Cert.OutProjRefIdeal.nD Cert.OutProjRefIdeal.τ).loc Cert.OutProjRefIdeal.main_arg2)
      ∧ r.2.mem ((c.tc : Thread Cert.OutProjRefIdeal.nD Cert.OutProjRefIdeal.τ).loc Cert.OutProjRefIdeal.main_arg3) = m ((c.tc : Thread Cert.OutProjRefIdeal.nD Cert.OutProjRefIdeal.τ).loc Cert.OutProjRefIdeal.main_arg3))
      ∧ r.2.sem = fun _ => 0)

def preserves_AttnOne_AttnOneIdeal : Prop :=
  IdealRules.named_const.Statement Cert.AttnOneIdeal.κ "mask" .f32 0xF149F2CA#32 ⊥

def algebraic_AttnOneIdeal_AttnOneRefIdeal_pre_finite_projection [hAttnOneIdeal : Cert.AttnOneIdeal.Facts] [hAttnOneRefIdeal : Cert.AttnOneRefIdeal.Facts] [hPre_finite_projection : Cert.Pre_finite_projection.Facts] : Prop :=
  ∀ (m : (ℓ : Loc Cert.AttnOneIdeal.nD Cert.AttnOneIdeal.τ Cert.AttnOneIdeal.sig) → Buf (Elt Ideal) ℓ) (g : Dev Cert.AttnOneIdeal.nD → PrngReg)
    (m' : (ℓ : Loc Cert.AttnOneRefIdeal.nD Cert.AttnOneRefIdeal.τ Cert.AttnOneRefIdeal.sig) → Buf (Elt Ideal) ℓ) (g' : Dev Cert.AttnOneRefIdeal.nD → PrngReg), Pre_AttnOneIdeal_finite_projection m →
    (∀ c : Dev Cert.AttnOneIdeal.nD,
      m' ((c.tc : Thread Cert.AttnOneRefIdeal.nD Cert.AttnOneRefIdeal.τ).loc Cert.AttnOneRefIdeal.main_arg0) = m ((c.tc : Thread Cert.AttnOneIdeal.nD Cert.AttnOneIdeal.τ).loc Cert.AttnOneIdeal.main_arg0)) →
    ∃ (v0 : (c : Dev Cert.AttnOneIdeal.nD) → Buf (Elt Ideal) ((c.tc : Thread Cert.AttnOneIdeal.nD Cert.AttnOneIdeal.τ).loc Cert.AttnOneIdeal.main_v1_0)) (v1 : (c : Dev Cert.AttnOneIdeal.nD) → Buf (Elt Ideal) ((c.tc : Thread Cert.AttnOneIdeal.nD Cert.AttnOneIdeal.τ).loc Cert.AttnOneIdeal.main_v1_1)),
      θ_run (Cert.AttnOneIdeal.defs (F := Ideal)) (onTc (τ := Cert.AttnOneIdeal.τ) (Cert.AttnOneIdeal.main (F := Ideal))) ⟨m, fun _ => 0, g⟩ (fun r => ∀ c : Dev Cert.AttnOneIdeal.nD,
          r.2.mem ((c.tc : Thread Cert.AttnOneIdeal.nD Cert.AttnOneIdeal.τ).loc Cert.AttnOneIdeal.main_v1_0) = v0 c
          ∧ r.2.mem ((c.tc : Thread Cert.AttnOneIdeal.nD Cert.AttnOneIdeal.τ).loc Cert.AttnOneIdeal.main_v1_1) = v1 c
          ∧ r.2.mem ((c.tc : Thread Cert.AttnOneIdeal.nD Cert.AttnOneIdeal.τ).loc Cert.AttnOneIdeal.main_arg0) = m ((c.tc : Thread Cert.AttnOneIdeal.nD Cert.AttnOneIdeal.τ).loc Cert.AttnOneIdeal.main_arg0))
      ∧ θ_run (Cert.AttnOneRefIdeal.defs (F := Ideal)) (onTc (τ := Cert.AttnOneRefIdeal.τ) (Cert.AttnOneRefIdeal.main (F := Ideal))) ⟨m', fun _ => 0, g'⟩ (fun r => ∀ c : Dev Cert.AttnOneRefIdeal.nD,
          r.2.mem ((c.tc : Thread Cert.AttnOneRefIdeal.nD Cert.AttnOneRefIdeal.τ).loc Cert.AttnOneRefIdeal.main_v44) = v0 c
          ∧ r.2.mem ((c.tc : Thread Cert.AttnOneRefIdeal.nD Cert.AttnOneRefIdeal.τ).loc Cert.AttnOneRefIdeal.main_v48) = v1 c
          ∧ r.2.mem ((c.tc : Thread Cert.AttnOneRefIdeal.nD Cert.AttnOneRefIdeal.τ).loc Cert.AttnOneRefIdeal.main_arg0) = m' ((c.tc : Thread Cert.AttnOneRefIdeal.nD Cert.AttnOneRefIdeal.τ).loc Cert.AttnOneRefIdeal.main_arg0))

def preserves_AttnFour_AttnFourIdeal : Prop :=
  IdealRules.named_const.Statement Cert.AttnFourIdeal.κ "mask" .f32 0xF149F2CA#32 ⊥

def algebraic_AttnFourIdeal_AttnFourRefIdeal_pre_finite_projection [hAttnFourIdeal : Cert.AttnFourIdeal.Facts] [hAttnFourRefIdeal : Cert.AttnFourRefIdeal.Facts] [hPre_finite_projection : Cert.Pre_finite_projection.Facts] : Prop :=
  ∀ (m : (ℓ : Loc Cert.AttnFourIdeal.nD Cert.AttnFourIdeal.τ Cert.AttnFourIdeal.sig) → Buf (Elt Ideal) ℓ) (g : Dev Cert.AttnFourIdeal.nD → PrngReg)
    (m' : (ℓ : Loc Cert.AttnFourRefIdeal.nD Cert.AttnFourRefIdeal.τ Cert.AttnFourRefIdeal.sig) → Buf (Elt Ideal) ℓ) (g' : Dev Cert.AttnFourRefIdeal.nD → PrngReg), Pre_AttnFourIdeal_finite_projection m →
    (∀ c : Dev Cert.AttnFourIdeal.nD,
      m' ((c.tc : Thread Cert.AttnFourRefIdeal.nD Cert.AttnFourRefIdeal.τ).loc Cert.AttnFourRefIdeal.main_arg0) = m ((c.tc : Thread Cert.AttnFourIdeal.nD Cert.AttnFourIdeal.τ).loc Cert.AttnFourIdeal.main_arg0)) →
    ∃ (v0 : (c : Dev Cert.AttnFourIdeal.nD) → Buf (Elt Ideal) ((c.tc : Thread Cert.AttnFourIdeal.nD Cert.AttnFourIdeal.τ).loc Cert.AttnFourIdeal.main_v1_0)) (v1 : (c : Dev Cert.AttnFourIdeal.nD) → Buf (Elt Ideal) ((c.tc : Thread Cert.AttnFourIdeal.nD Cert.AttnFourIdeal.τ).loc Cert.AttnFourIdeal.main_v1_1)),
      θ_run (Cert.AttnFourIdeal.defs (F := Ideal)) (onTc (τ := Cert.AttnFourIdeal.τ) (Cert.AttnFourIdeal.main (F := Ideal))) ⟨m, fun _ => 0, g⟩ (fun r => ∀ c : Dev Cert.AttnFourIdeal.nD,
          r.2.mem ((c.tc : Thread Cert.AttnFourIdeal.nD Cert.AttnFourIdeal.τ).loc Cert.AttnFourIdeal.main_v1_0) = v0 c
          ∧ r.2.mem ((c.tc : Thread Cert.AttnFourIdeal.nD Cert.AttnFourIdeal.τ).loc Cert.AttnFourIdeal.main_v1_1) = v1 c
          ∧ r.2.mem ((c.tc : Thread Cert.AttnFourIdeal.nD Cert.AttnFourIdeal.τ).loc Cert.AttnFourIdeal.main_arg0) = m ((c.tc : Thread Cert.AttnFourIdeal.nD Cert.AttnFourIdeal.τ).loc Cert.AttnFourIdeal.main_arg0))
      ∧ θ_run (Cert.AttnFourRefIdeal.defs (F := Ideal)) (onTc (τ := Cert.AttnFourRefIdeal.τ) (Cert.AttnFourRefIdeal.main (F := Ideal))) ⟨m', fun _ => 0, g'⟩ (fun r => ∀ c : Dev Cert.AttnFourRefIdeal.nD,
          r.2.mem ((c.tc : Thread Cert.AttnFourRefIdeal.nD Cert.AttnFourRefIdeal.τ).loc Cert.AttnFourRefIdeal.main_v44) = v0 c
          ∧ r.2.mem ((c.tc : Thread Cert.AttnFourRefIdeal.nD Cert.AttnFourRefIdeal.τ).loc Cert.AttnFourRefIdeal.main_v48) = v1 c
          ∧ r.2.mem ((c.tc : Thread Cert.AttnFourRefIdeal.nD Cert.AttnFourRefIdeal.τ).loc Cert.AttnFourRefIdeal.main_arg0) = m' ((c.tc : Thread Cert.AttnFourRefIdeal.nD Cert.AttnFourRefIdeal.τ).loc Cert.AttnFourRefIdeal.main_arg0))

def preserves_AttnSixteen_AttnSixteenIdeal : Prop :=
  IdealRules.named_const.Statement Cert.AttnSixteenIdeal.κ "mask" .f32 0xF149F2CA#32 ⊥

def algebraic_AttnSixteenIdeal_AttnSixteenRefIdeal_pre_finite_projection [hAttnSixteenIdeal : Cert.AttnSixteenIdeal.Facts] [hAttnSixteenRefIdeal : Cert.AttnSixteenRefIdeal.Facts] [hPre_finite_projection : Cert.Pre_finite_projection.Facts] : Prop :=
  ∀ (m : (ℓ : Loc Cert.AttnSixteenIdeal.nD Cert.AttnSixteenIdeal.τ Cert.AttnSixteenIdeal.sig) → Buf (Elt Ideal) ℓ) (g : Dev Cert.AttnSixteenIdeal.nD → PrngReg)
    (m' : (ℓ : Loc Cert.AttnSixteenRefIdeal.nD Cert.AttnSixteenRefIdeal.τ Cert.AttnSixteenRefIdeal.sig) → Buf (Elt Ideal) ℓ) (g' : Dev Cert.AttnSixteenRefIdeal.nD → PrngReg), Pre_AttnSixteenIdeal_finite_projection m →
    (∀ c : Dev Cert.AttnSixteenIdeal.nD,
      m' ((c.tc : Thread Cert.AttnSixteenRefIdeal.nD Cert.AttnSixteenRefIdeal.τ).loc Cert.AttnSixteenRefIdeal.main_arg0) = m ((c.tc : Thread Cert.AttnSixteenIdeal.nD Cert.AttnSixteenIdeal.τ).loc Cert.AttnSixteenIdeal.main_arg0)) →
    ∃ (v0 : (c : Dev Cert.AttnSixteenIdeal.nD) → Buf (Elt Ideal) ((c.tc : Thread Cert.AttnSixteenIdeal.nD Cert.AttnSixteenIdeal.τ).loc Cert.AttnSixteenIdeal.main_v1_0)) (v1 : (c : Dev Cert.AttnSixteenIdeal.nD) → Buf (Elt Ideal) ((c.tc : Thread Cert.AttnSixteenIdeal.nD Cert.AttnSixteenIdeal.τ).loc Cert.AttnSixteenIdeal.main_v1_1)),
      θ_run (Cert.AttnSixteenIdeal.defs (F := Ideal)) (onTc (τ := Cert.AttnSixteenIdeal.τ) (Cert.AttnSixteenIdeal.main (F := Ideal))) ⟨m, fun _ => 0, g⟩ (fun r => ∀ c : Dev Cert.AttnSixteenIdeal.nD,
          r.2.mem ((c.tc : Thread Cert.AttnSixteenIdeal.nD Cert.AttnSixteenIdeal.τ).loc Cert.AttnSixteenIdeal.main_v1_0) = v0 c
          ∧ r.2.mem ((c.tc : Thread Cert.AttnSixteenIdeal.nD Cert.AttnSixteenIdeal.τ).loc Cert.AttnSixteenIdeal.main_v1_1) = v1 c
          ∧ r.2.mem ((c.tc : Thread Cert.AttnSixteenIdeal.nD Cert.AttnSixteenIdeal.τ).loc Cert.AttnSixteenIdeal.main_arg0) = m ((c.tc : Thread Cert.AttnSixteenIdeal.nD Cert.AttnSixteenIdeal.τ).loc Cert.AttnSixteenIdeal.main_arg0))
      ∧ θ_run (Cert.AttnSixteenRefIdeal.defs (F := Ideal)) (onTc (τ := Cert.AttnSixteenRefIdeal.τ) (Cert.AttnSixteenRefIdeal.main (F := Ideal))) ⟨m', fun _ => 0, g'⟩ (fun r => ∀ c : Dev Cert.AttnSixteenRefIdeal.nD,
          r.2.mem ((c.tc : Thread Cert.AttnSixteenRefIdeal.nD Cert.AttnSixteenRefIdeal.τ).loc Cert.AttnSixteenRefIdeal.main_v44) = v0 c
          ∧ r.2.mem ((c.tc : Thread Cert.AttnSixteenRefIdeal.nD Cert.AttnSixteenRefIdeal.τ).loc Cert.AttnSixteenRefIdeal.main_v48) = v1 c
          ∧ r.2.mem ((c.tc : Thread Cert.AttnSixteenRefIdeal.nD Cert.AttnSixteenRefIdeal.τ).loc Cert.AttnSixteenRefIdeal.main_arg0) = m' ((c.tc : Thread Cert.AttnSixteenRefIdeal.nD Cert.AttnSixteenRefIdeal.τ).loc Cert.AttnSixteenRefIdeal.main_arg0))

def preserves_Norm_NormIdeal : Prop :=
  True

def algebraic_NormIdeal_NormRefIdeal [hNormIdeal : Cert.NormIdeal.Facts] [hNormRefIdeal : Cert.NormRefIdeal.Facts] : Prop :=
  ∀ (m : (ℓ : Loc Cert.NormIdeal.nD Cert.NormIdeal.τ Cert.NormIdeal.sig) → Buf (Elt Ideal) ℓ) (g : Dev Cert.NormIdeal.nD → PrngReg)
    (m' : (ℓ : Loc Cert.NormRefIdeal.nD Cert.NormRefIdeal.τ Cert.NormRefIdeal.sig) → Buf (Elt Ideal) ℓ) (g' : Dev Cert.NormRefIdeal.nD → PrngReg), Pre_NormIdeal m →
    (∀ c : Dev Cert.NormIdeal.nD,
      m' ((c.tc : Thread Cert.NormRefIdeal.nD Cert.NormRefIdeal.τ).loc Cert.NormRefIdeal.main_arg0) = m ((c.tc : Thread Cert.NormIdeal.nD Cert.NormIdeal.τ).loc Cert.NormIdeal.main_arg0)
      ∧ m' ((c.tc : Thread Cert.NormRefIdeal.nD Cert.NormRefIdeal.τ).loc Cert.NormRefIdeal.main_arg1) = m ((c.tc : Thread Cert.NormIdeal.nD Cert.NormIdeal.τ).loc Cert.NormIdeal.main_arg1)) →
    ∃ (v0 : (c : Dev Cert.NormIdeal.nD) → Buf (Elt Ideal) ((c.tc : Thread Cert.NormIdeal.nD Cert.NormIdeal.τ).loc Cert.NormIdeal.main_v3)),
      θ_run (Cert.NormIdeal.defs (F := Ideal)) (onTc (τ := Cert.NormIdeal.τ) (Cert.NormIdeal.main (F := Ideal))) ⟨m, fun _ => 0, g⟩ (fun r => ∀ c : Dev Cert.NormIdeal.nD,
          r.2.mem ((c.tc : Thread Cert.NormIdeal.nD Cert.NormIdeal.τ).loc Cert.NormIdeal.main_v3) = v0 c
          ∧ r.2.mem ((c.tc : Thread Cert.NormIdeal.nD Cert.NormIdeal.τ).loc Cert.NormIdeal.main_arg0) = m ((c.tc : Thread Cert.NormIdeal.nD Cert.NormIdeal.τ).loc Cert.NormIdeal.main_arg0)
          ∧ r.2.mem ((c.tc : Thread Cert.NormIdeal.nD Cert.NormIdeal.τ).loc Cert.NormIdeal.main_arg1) = m ((c.tc : Thread Cert.NormIdeal.nD Cert.NormIdeal.τ).loc Cert.NormIdeal.main_arg1))
      ∧ θ_run (Cert.NormRefIdeal.defs (F := Ideal)) (onTc (τ := Cert.NormRefIdeal.τ) (Cert.NormRefIdeal.main (F := Ideal))) ⟨m', fun _ => 0, g'⟩ (fun r => ∀ c : Dev Cert.NormRefIdeal.nD,
          r.2.mem ((c.tc : Thread Cert.NormRefIdeal.nD Cert.NormRefIdeal.τ).loc Cert.NormRefIdeal.main_v15) = v0 c
          ∧ r.2.mem ((c.tc : Thread Cert.NormRefIdeal.nD Cert.NormRefIdeal.τ).loc Cert.NormRefIdeal.main_arg0) = m' ((c.tc : Thread Cert.NormRefIdeal.nD Cert.NormRefIdeal.τ).loc Cert.NormRefIdeal.main_arg0)
          ∧ r.2.mem ((c.tc : Thread Cert.NormRefIdeal.nD Cert.NormRefIdeal.τ).loc Cert.NormRefIdeal.main_arg1) = m' ((c.tc : Thread Cert.NormRefIdeal.nD Cert.NormRefIdeal.τ).loc Cert.NormRefIdeal.main_arg1))

def preserves_InProj_InProjIdeal : Prop :=
  True

def algebraic_InProjIdeal_InProjRefIdeal [hInProjIdeal : Cert.InProjIdeal.Facts] [hInProjRefIdeal : Cert.InProjRefIdeal.Facts] : Prop :=
  ∀ (m : (ℓ : Loc Cert.InProjIdeal.nD Cert.InProjIdeal.τ Cert.InProjIdeal.sig) → Buf (Elt Ideal) ℓ) (g : Dev Cert.InProjIdeal.nD → PrngReg)
    (m' : (ℓ : Loc Cert.InProjRefIdeal.nD Cert.InProjRefIdeal.τ Cert.InProjRefIdeal.sig) → Buf (Elt Ideal) ℓ) (g' : Dev Cert.InProjRefIdeal.nD → PrngReg), Pre_InProjIdeal m →
    (∀ c : Dev Cert.InProjIdeal.nD,
      m' ((c.tc : Thread Cert.InProjRefIdeal.nD Cert.InProjRefIdeal.τ).loc Cert.InProjRefIdeal.main_arg0) = m ((c.tc : Thread Cert.InProjIdeal.nD Cert.InProjIdeal.τ).loc Cert.InProjIdeal.main_arg0)
      ∧ m' ((c.tc : Thread Cert.InProjRefIdeal.nD Cert.InProjRefIdeal.τ).loc Cert.InProjRefIdeal.main_arg1) = m ((c.tc : Thread Cert.InProjIdeal.nD Cert.InProjIdeal.τ).loc Cert.InProjIdeal.main_arg1)
      ∧ m' ((c.tc : Thread Cert.InProjRefIdeal.nD Cert.InProjRefIdeal.τ).loc Cert.InProjRefIdeal.main_arg2) = m ((c.tc : Thread Cert.InProjIdeal.nD Cert.InProjIdeal.τ).loc Cert.InProjIdeal.main_arg2)) →
    ∃ (v0 : (c : Dev Cert.InProjIdeal.nD) → Buf (Elt Ideal) ((c.tc : Thread Cert.InProjIdeal.nD Cert.InProjIdeal.τ).loc Cert.InProjIdeal.main_v23)),
      θ_run (Cert.InProjIdeal.defs (F := Ideal)) (onTc (τ := Cert.InProjIdeal.τ) (Cert.InProjIdeal.main (F := Ideal))) ⟨m, fun _ => 0, g⟩ (fun r => ∀ c : Dev Cert.InProjIdeal.nD,
          r.2.mem ((c.tc : Thread Cert.InProjIdeal.nD Cert.InProjIdeal.τ).loc Cert.InProjIdeal.main_v23) = v0 c
          ∧ r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
          ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
          ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2))
      ∧ θ_run (Cert.InProjRefIdeal.defs (F := Ideal)) (onTc (τ := Cert.InProjRefIdeal.τ) (Cert.InProjRefIdeal.main (F := Ideal))) ⟨m', fun _ => 0, g'⟩ (fun r => ∀ c : Dev Cert.InProjRefIdeal.nD,
          r.2.mem ((c.tc : Thread Cert.InProjRefIdeal.nD Cert.InProjRefIdeal.τ).loc Cert.InProjRefIdeal.main_v90) = v0 c
          ∧ r.2.mem ((c.tc : Thread Cert.InProjRefIdeal.nD Cert.InProjRefIdeal.τ).loc Cert.InProjRefIdeal.main_arg0) = m' ((c.tc : Thread Cert.InProjRefIdeal.nD Cert.InProjRefIdeal.τ).loc Cert.InProjRefIdeal.main_arg0)
          ∧ r.2.mem ((c.tc : Thread Cert.InProjRefIdeal.nD Cert.InProjRefIdeal.τ).loc Cert.InProjRefIdeal.main_arg1) = m' ((c.tc : Thread Cert.InProjRefIdeal.nD Cert.InProjRefIdeal.τ).loc Cert.InProjRefIdeal.main_arg1)
          ∧ r.2.mem ((c.tc : Thread Cert.InProjRefIdeal.nD Cert.InProjRefIdeal.τ).loc Cert.InProjRefIdeal.main_arg2) = m' ((c.tc : Thread Cert.InProjRefIdeal.nD Cert.InProjRefIdeal.τ).loc Cert.InProjRefIdeal.main_arg2))

def preserves_Mix_MixIdeal : Prop :=
  True

def algebraic_MixIdeal_MixRefIdeal_pre_finite_lse [hMixIdeal : Cert.MixIdeal.Facts] [hMixRefIdeal : Cert.MixRefIdeal.Facts] [hPre_finite_lse : Cert.Pre_finite_lse.Facts] : Prop :=
  ∀ (m : (ℓ : Loc Cert.MixIdeal.nD Cert.MixIdeal.τ Cert.MixIdeal.sig) → Buf (Elt Ideal) ℓ) (g : Dev Cert.MixIdeal.nD → PrngReg)
    (m' : (ℓ : Loc Cert.MixRefIdeal.nD Cert.MixRefIdeal.τ Cert.MixRefIdeal.sig) → Buf (Elt Ideal) ℓ) (g' : Dev Cert.MixRefIdeal.nD → PrngReg), Pre_MixIdeal_finite_lse m →
    (∀ c : Dev Cert.MixIdeal.nD,
      m' ((c.tc : Thread Cert.MixRefIdeal.nD Cert.MixRefIdeal.τ).loc Cert.MixRefIdeal.main_arg0) = m ((c.tc : Thread Cert.MixIdeal.nD Cert.MixIdeal.τ).loc Cert.MixIdeal.main_arg0)
      ∧ m' ((c.tc : Thread Cert.MixRefIdeal.nD Cert.MixRefIdeal.τ).loc Cert.MixRefIdeal.main_arg1) = m ((c.tc : Thread Cert.MixIdeal.nD Cert.MixIdeal.τ).loc Cert.MixIdeal.main_arg1)
      ∧ m' ((c.tc : Thread Cert.MixRefIdeal.nD Cert.MixRefIdeal.τ).loc Cert.MixRefIdeal.main_arg2) = m ((c.tc : Thread Cert.MixIdeal.nD Cert.MixIdeal.τ).loc Cert.MixIdeal.main_arg2)
      ∧ m' ((c.tc : Thread Cert.MixRefIdeal.nD Cert.MixRefIdeal.τ).loc Cert.MixRefIdeal.main_arg3) = m ((c.tc : Thread Cert.MixIdeal.nD Cert.MixIdeal.τ).loc Cert.MixIdeal.main_arg3)
      ∧ m' ((c.tc : Thread Cert.MixRefIdeal.nD Cert.MixRefIdeal.τ).loc Cert.MixRefIdeal.main_arg4) = m ((c.tc : Thread Cert.MixIdeal.nD Cert.MixIdeal.τ).loc Cert.MixIdeal.main_arg4)
      ∧ m' ((c.tc : Thread Cert.MixRefIdeal.nD Cert.MixRefIdeal.τ).loc Cert.MixRefIdeal.main_arg5) = m ((c.tc : Thread Cert.MixIdeal.nD Cert.MixIdeal.τ).loc Cert.MixIdeal.main_arg5)
      ∧ m' ((c.tc : Thread Cert.MixRefIdeal.nD Cert.MixRefIdeal.τ).loc Cert.MixRefIdeal.main_arg6) = m ((c.tc : Thread Cert.MixIdeal.nD Cert.MixIdeal.τ).loc Cert.MixIdeal.main_arg6)
      ∧ m' ((c.tc : Thread Cert.MixRefIdeal.nD Cert.MixRefIdeal.τ).loc Cert.MixRefIdeal.main_arg7) = m ((c.tc : Thread Cert.MixIdeal.nD Cert.MixIdeal.τ).loc Cert.MixIdeal.main_arg7)
      ∧ m' ((c.tc : Thread Cert.MixRefIdeal.nD Cert.MixRefIdeal.τ).loc Cert.MixRefIdeal.main_arg8) = m ((c.tc : Thread Cert.MixIdeal.nD Cert.MixIdeal.τ).loc Cert.MixIdeal.main_arg8)
      ∧ m' ((c.tc : Thread Cert.MixRefIdeal.nD Cert.MixRefIdeal.τ).loc Cert.MixRefIdeal.main_arg9) = m ((c.tc : Thread Cert.MixIdeal.nD Cert.MixIdeal.τ).loc Cert.MixIdeal.main_arg9)) →
    ∃ (v0 : (c : Dev Cert.MixIdeal.nD) → Buf (Elt Ideal) ((c.tc : Thread Cert.MixIdeal.nD Cert.MixIdeal.τ).loc Cert.MixIdeal.main_v10)),
      θ_run (Cert.MixIdeal.defs (F := Ideal)) (onTc (τ := Cert.MixIdeal.τ) (Cert.MixIdeal.main (F := Ideal))) ⟨m, fun _ => 0, g⟩ (fun r => ∀ c : Dev Cert.MixIdeal.nD,
          r.2.mem ((c.tc : Thread Cert.MixIdeal.nD Cert.MixIdeal.τ).loc Cert.MixIdeal.main_v10) = v0 c
          ∧ r.2.mem ((c.tc : Thread Cert.MixIdeal.nD Cert.MixIdeal.τ).loc Cert.MixIdeal.main_arg0) = m ((c.tc : Thread Cert.MixIdeal.nD Cert.MixIdeal.τ).loc Cert.MixIdeal.main_arg0)
          ∧ r.2.mem ((c.tc : Thread Cert.MixIdeal.nD Cert.MixIdeal.τ).loc Cert.MixIdeal.main_arg1) = m ((c.tc : Thread Cert.MixIdeal.nD Cert.MixIdeal.τ).loc Cert.MixIdeal.main_arg1)
          ∧ r.2.mem ((c.tc : Thread Cert.MixIdeal.nD Cert.MixIdeal.τ).loc Cert.MixIdeal.main_arg2) = m ((c.tc : Thread Cert.MixIdeal.nD Cert.MixIdeal.τ).loc Cert.MixIdeal.main_arg2)
          ∧ r.2.mem ((c.tc : Thread Cert.MixIdeal.nD Cert.MixIdeal.τ).loc Cert.MixIdeal.main_arg3) = m ((c.tc : Thread Cert.MixIdeal.nD Cert.MixIdeal.τ).loc Cert.MixIdeal.main_arg3)
          ∧ r.2.mem ((c.tc : Thread Cert.MixIdeal.nD Cert.MixIdeal.τ).loc Cert.MixIdeal.main_arg4) = m ((c.tc : Thread Cert.MixIdeal.nD Cert.MixIdeal.τ).loc Cert.MixIdeal.main_arg4)
          ∧ r.2.mem ((c.tc : Thread Cert.MixIdeal.nD Cert.MixIdeal.τ).loc Cert.MixIdeal.main_arg5) = m ((c.tc : Thread Cert.MixIdeal.nD Cert.MixIdeal.τ).loc Cert.MixIdeal.main_arg5)
          ∧ r.2.mem ((c.tc : Thread Cert.MixIdeal.nD Cert.MixIdeal.τ).loc Cert.MixIdeal.main_arg6) = m ((c.tc : Thread Cert.MixIdeal.nD Cert.MixIdeal.τ).loc Cert.MixIdeal.main_arg6)
          ∧ r.2.mem ((c.tc : Thread Cert.MixIdeal.nD Cert.MixIdeal.τ).loc Cert.MixIdeal.main_arg7) = m ((c.tc : Thread Cert.MixIdeal.nD Cert.MixIdeal.τ).loc Cert.MixIdeal.main_arg7)
          ∧ r.2.mem ((c.tc : Thread Cert.MixIdeal.nD Cert.MixIdeal.τ).loc Cert.MixIdeal.main_arg8) = m ((c.tc : Thread Cert.MixIdeal.nD Cert.MixIdeal.τ).loc Cert.MixIdeal.main_arg8)
          ∧ r.2.mem ((c.tc : Thread Cert.MixIdeal.nD Cert.MixIdeal.τ).loc Cert.MixIdeal.main_arg9) = m ((c.tc : Thread Cert.MixIdeal.nD Cert.MixIdeal.τ).loc Cert.MixIdeal.main_arg9))
      ∧ θ_run (Cert.MixRefIdeal.defs (F := Ideal)) (onTc (τ := Cert.MixRefIdeal.τ) (Cert.MixRefIdeal.main (F := Ideal))) ⟨m', fun _ => 0, g'⟩ (fun r => ∀ c : Dev Cert.MixRefIdeal.nD,
          r.2.mem ((c.tc : Thread Cert.MixRefIdeal.nD Cert.MixRefIdeal.τ).loc Cert.MixRefIdeal.main_v49) = v0 c
          ∧ r.2.mem ((c.tc : Thread Cert.MixRefIdeal.nD Cert.MixRefIdeal.τ).loc Cert.MixRefIdeal.main_arg0) = m' ((c.tc : Thread Cert.MixRefIdeal.nD Cert.MixRefIdeal.τ).loc Cert.MixRefIdeal.main_arg0)
          ∧ r.2.mem ((c.tc : Thread Cert.MixRefIdeal.nD Cert.MixRefIdeal.τ).loc Cert.MixRefIdeal.main_arg1) = m' ((c.tc : Thread Cert.MixRefIdeal.nD Cert.MixRefIdeal.τ).loc Cert.MixRefIdeal.main_arg1)
          ∧ r.2.mem ((c.tc : Thread Cert.MixRefIdeal.nD Cert.MixRefIdeal.τ).loc Cert.MixRefIdeal.main_arg2) = m' ((c.tc : Thread Cert.MixRefIdeal.nD Cert.MixRefIdeal.τ).loc Cert.MixRefIdeal.main_arg2)
          ∧ r.2.mem ((c.tc : Thread Cert.MixRefIdeal.nD Cert.MixRefIdeal.τ).loc Cert.MixRefIdeal.main_arg3) = m' ((c.tc : Thread Cert.MixRefIdeal.nD Cert.MixRefIdeal.τ).loc Cert.MixRefIdeal.main_arg3)
          ∧ r.2.mem ((c.tc : Thread Cert.MixRefIdeal.nD Cert.MixRefIdeal.τ).loc Cert.MixRefIdeal.main_arg4) = m' ((c.tc : Thread Cert.MixRefIdeal.nD Cert.MixRefIdeal.τ).loc Cert.MixRefIdeal.main_arg4)
          ∧ r.2.mem ((c.tc : Thread Cert.MixRefIdeal.nD Cert.MixRefIdeal.τ).loc Cert.MixRefIdeal.main_arg5) = m' ((c.tc : Thread Cert.MixRefIdeal.nD Cert.MixRefIdeal.τ).loc Cert.MixRefIdeal.main_arg5)
          ∧ r.2.mem ((c.tc : Thread Cert.MixRefIdeal.nD Cert.MixRefIdeal.τ).loc Cert.MixRefIdeal.main_arg6) = m' ((c.tc : Thread Cert.MixRefIdeal.nD Cert.MixRefIdeal.τ).loc Cert.MixRefIdeal.main_arg6)
          ∧ r.2.mem ((c.tc : Thread Cert.MixRefIdeal.nD Cert.MixRefIdeal.τ).loc Cert.MixRefIdeal.main_arg7) = m' ((c.tc : Thread Cert.MixRefIdeal.nD Cert.MixRefIdeal.τ).loc Cert.MixRefIdeal.main_arg7)
          ∧ r.2.mem ((c.tc : Thread Cert.MixRefIdeal.nD Cert.MixRefIdeal.τ).loc Cert.MixRefIdeal.main_arg8) = m' ((c.tc : Thread Cert.MixRefIdeal.nD Cert.MixRefIdeal.τ).loc Cert.MixRefIdeal.main_arg8)
          ∧ r.2.mem ((c.tc : Thread Cert.MixRefIdeal.nD Cert.MixRefIdeal.τ).loc Cert.MixRefIdeal.main_arg9) = m' ((c.tc : Thread Cert.MixRefIdeal.nD Cert.MixRefIdeal.τ).loc Cert.MixRefIdeal.main_arg9))

def preserves_OutProj_OutProjIdeal : Prop :=
  True

def algebraic_OutProjIdeal_OutProjRefIdeal [hOutProjIdeal : Cert.OutProjIdeal.Facts] [hOutProjRefIdeal : Cert.OutProjRefIdeal.Facts] : Prop :=
  ∀ (m : (ℓ : Loc Cert.OutProjIdeal.nD Cert.OutProjIdeal.τ Cert.OutProjIdeal.sig) → Buf (Elt Ideal) ℓ) (g : Dev Cert.OutProjIdeal.nD → PrngReg)
    (m' : (ℓ : Loc Cert.OutProjRefIdeal.nD Cert.OutProjRefIdeal.τ Cert.OutProjRefIdeal.sig) → Buf (Elt Ideal) ℓ) (g' : Dev Cert.OutProjRefIdeal.nD → PrngReg), Pre_OutProjIdeal m →
    (∀ c : Dev Cert.OutProjIdeal.nD,
      m' ((c.tc : Thread Cert.OutProjRefIdeal.nD Cert.OutProjRefIdeal.τ).loc Cert.OutProjRefIdeal.main_arg0) = m ((c.tc : Thread Cert.OutProjIdeal.nD Cert.OutProjIdeal.τ).loc Cert.OutProjIdeal.main_arg0)
      ∧ m' ((c.tc : Thread Cert.OutProjRefIdeal.nD Cert.OutProjRefIdeal.τ).loc Cert.OutProjRefIdeal.main_arg1) = m ((c.tc : Thread Cert.OutProjIdeal.nD Cert.OutProjIdeal.τ).loc Cert.OutProjIdeal.main_arg1)
      ∧ m' ((c.tc : Thread Cert.OutProjRefIdeal.nD Cert.OutProjRefIdeal.τ).loc Cert.OutProjRefIdeal.main_arg2) = m ((c.tc : Thread Cert.OutProjIdeal.nD Cert.OutProjIdeal.τ).loc Cert.OutProjIdeal.main_arg2)
      ∧ m' ((c.tc : Thread Cert.OutProjRefIdeal.nD Cert.OutProjRefIdeal.τ).loc Cert.OutProjRefIdeal.main_arg3) = m ((c.tc : Thread Cert.OutProjIdeal.nD Cert.OutProjIdeal.τ).loc Cert.OutProjIdeal.main_arg3)) →
    ∃ (v0 : (c : Dev Cert.OutProjIdeal.nD) → Buf (Elt Ideal) ((c.tc : Thread Cert.OutProjIdeal.nD Cert.OutProjIdeal.τ).loc Cert.OutProjIdeal.main_v4)),
      θ_run (Cert.OutProjIdeal.defs (F := Ideal)) (onTc (τ := Cert.OutProjIdeal.τ) (Cert.OutProjIdeal.main (F := Ideal))) ⟨m, fun _ => 0, g⟩ (fun r => ∀ c : Dev Cert.OutProjIdeal.nD,
          r.2.mem ((c.tc : Thread Cert.OutProjIdeal.nD Cert.OutProjIdeal.τ).loc Cert.OutProjIdeal.main_v4) = v0 c
          ∧ r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
          ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1)
          ∧ r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2)
          ∧ r.2.mem ((c.tc : Thread Cert.OutProjIdeal.nD Cert.OutProjIdeal.τ).loc Cert.OutProjIdeal.main_arg3) = m ((c.tc : Thread Cert.OutProjIdeal.nD Cert.OutProjIdeal.τ).loc Cert.OutProjIdeal.main_arg3))
      ∧ θ_run (Cert.OutProjRefIdeal.defs (F := Ideal)) (onTc (τ := Cert.OutProjRefIdeal.τ) (Cert.OutProjRefIdeal.main (F := Ideal))) ⟨m', fun _ => 0, g'⟩ (fun r => ∀ c : Dev Cert.OutProjRefIdeal.nD,
          r.2.mem ((c.tc : Thread Cert.OutProjRefIdeal.nD Cert.OutProjRefIdeal.τ).loc Cert.OutProjRefIdeal.main_v18) = v0 c
          ∧ r.2.mem ((c.tc : Thread Cert.OutProjRefIdeal.nD Cert.OutProjRefIdeal.τ).loc Cert.OutProjRefIdeal.main_arg0) = m' ((c.tc : Thread Cert.OutProjRefIdeal.nD Cert.OutProjRefIdeal.τ).loc Cert.OutProjRefIdeal.main_arg0)
          ∧ r.2.mem ((c.tc : Thread Cert.OutProjRefIdeal.nD Cert.OutProjRefIdeal.τ).loc Cert.OutProjRefIdeal.main_arg1) = m' ((c.tc : Thread Cert.OutProjRefIdeal.nD Cert.OutProjRefIdeal.τ).loc Cert.OutProjRefIdeal.main_arg1)
          ∧ r.2.mem ((c.tc : Thread Cert.OutProjRefIdeal.nD Cert.OutProjRefIdeal.τ).loc Cert.OutProjRefIdeal.main_arg2) = m' ((c.tc : Thread Cert.OutProjRefIdeal.nD Cert.OutProjRefIdeal.τ).loc Cert.OutProjRefIdeal.main_arg2)
          ∧ r.2.mem ((c.tc : Thread Cert.OutProjRefIdeal.nD Cert.OutProjRefIdeal.τ).loc Cert.OutProjRefIdeal.main_arg3) = m' ((c.tc : Thread Cert.OutProjRefIdeal.nD Cert.OutProjRefIdeal.τ).loc Cert.OutProjRefIdeal.main_arg3))

def Claim : Prop :=
  ∃ (hAttnOne : Cert.AttnOne.Facts) (hAttnOneIdeal : Cert.AttnOneIdeal.Facts) (hAttnOneRefIdeal : Cert.AttnOneRefIdeal.Facts) (hAttnFour : Cert.AttnFour.Facts) (hAttnFourIdeal : Cert.AttnFourIdeal.Facts) (hAttnFourRefIdeal : Cert.AttnFourRefIdeal.Facts) (hAttnSixteen : Cert.AttnSixteen.Facts) (hAttnSixteenIdeal : Cert.AttnSixteenIdeal.Facts) (hAttnSixteenRefIdeal : Cert.AttnSixteenRefIdeal.Facts) (hNorm : Cert.Norm.Facts) (hNormIdeal : Cert.NormIdeal.Facts) (hNormRefIdeal : Cert.NormRefIdeal.Facts) (hInProj : Cert.InProj.Facts) (hInProjIdeal : Cert.InProjIdeal.Facts) (hInProjRefIdeal : Cert.InProjRefIdeal.Facts) (hMix : Cert.Mix.Facts) (hMixIdeal : Cert.MixIdeal.Facts) (hMixRefIdeal : Cert.MixRefIdeal.Facts) (hOutProj : Cert.OutProj.Facts) (hOutProjIdeal : Cert.OutProjIdeal.Facts) (hOutProjRefIdeal : Cert.OutProjRefIdeal.Facts) (hPre_finite_projection : Cert.Pre_finite_projection.Facts) (hPre_finite_lse : Cert.Pre_finite_lse.Facts),
    quiescent_AttnOne (hAttnOne := hAttnOne)
    ∧ quiescent_AttnOneIdeal (hAttnOneIdeal := hAttnOneIdeal)
    ∧ quiescent_AttnOneIdeal_pre_finite_projection (hAttnOneIdeal := hAttnOneIdeal) (hPre_finite_projection := hPre_finite_projection)
    ∧ quiescent_AttnOneRefIdeal (hAttnOneRefIdeal := hAttnOneRefIdeal)
    ∧ quiescent_AttnOneRefIdeal_pre_finite_projection (hAttnOneRefIdeal := hAttnOneRefIdeal) (hPre_finite_projection := hPre_finite_projection)
    ∧ quiescent_AttnFour (hAttnFour := hAttnFour)
    ∧ quiescent_AttnFourIdeal (hAttnFourIdeal := hAttnFourIdeal)
    ∧ quiescent_AttnFourIdeal_pre_finite_projection (hAttnFourIdeal := hAttnFourIdeal) (hPre_finite_projection := hPre_finite_projection)
    ∧ quiescent_AttnFourRefIdeal (hAttnFourRefIdeal := hAttnFourRefIdeal)
    ∧ quiescent_AttnFourRefIdeal_pre_finite_projection (hAttnFourRefIdeal := hAttnFourRefIdeal) (hPre_finite_projection := hPre_finite_projection)
    ∧ quiescent_AttnSixteen (hAttnSixteen := hAttnSixteen)
    ∧ quiescent_AttnSixteenIdeal (hAttnSixteenIdeal := hAttnSixteenIdeal)
    ∧ quiescent_AttnSixteenIdeal_pre_finite_projection (hAttnSixteenIdeal := hAttnSixteenIdeal) (hPre_finite_projection := hPre_finite_projection)
    ∧ quiescent_AttnSixteenRefIdeal (hAttnSixteenRefIdeal := hAttnSixteenRefIdeal)
    ∧ quiescent_AttnSixteenRefIdeal_pre_finite_projection (hAttnSixteenRefIdeal := hAttnSixteenRefIdeal) (hPre_finite_projection := hPre_finite_projection)
    ∧ quiescent_Norm (hNorm := hNorm)
    ∧ quiescent_NormIdeal (hNormIdeal := hNormIdeal)
    ∧ quiescent_NormRefIdeal (hNormRefIdeal := hNormRefIdeal)
    ∧ quiescent_InProj (hInProj := hInProj)
    ∧ quiescent_InProjIdeal (hInProjIdeal := hInProjIdeal)
    ∧ quiescent_InProjRefIdeal (hInProjRefIdeal := hInProjRefIdeal)
    ∧ quiescent_Mix (hMix := hMix)
    ∧ quiescent_MixIdeal (hMixIdeal := hMixIdeal)
    ∧ quiescent_MixIdeal_pre_finite_lse (hMixIdeal := hMixIdeal) (hPre_finite_lse := hPre_finite_lse)
    ∧ quiescent_MixRefIdeal (hMixRefIdeal := hMixRefIdeal)
    ∧ quiescent_MixRefIdeal_pre_finite_lse (hMixRefIdeal := hMixRefIdeal) (hPre_finite_lse := hPre_finite_lse)
    ∧ quiescent_OutProj (hOutProj := hOutProj)
    ∧ quiescent_OutProjIdeal (hOutProjIdeal := hOutProjIdeal)
    ∧ quiescent_OutProjRefIdeal (hOutProjRefIdeal := hOutProjRefIdeal)
    ∧ preserves_AttnOne_AttnOneIdeal
    ∧ algebraic_AttnOneIdeal_AttnOneRefIdeal_pre_finite_projection (hAttnOneIdeal := hAttnOneIdeal) (hAttnOneRefIdeal := hAttnOneRefIdeal) (hPre_finite_projection := hPre_finite_projection)
    ∧ preserves_AttnFour_AttnFourIdeal
    ∧ algebraic_AttnFourIdeal_AttnFourRefIdeal_pre_finite_projection (hAttnFourIdeal := hAttnFourIdeal) (hAttnFourRefIdeal := hAttnFourRefIdeal) (hPre_finite_projection := hPre_finite_projection)
    ∧ preserves_AttnSixteen_AttnSixteenIdeal
    ∧ algebraic_AttnSixteenIdeal_AttnSixteenRefIdeal_pre_finite_projection (hAttnSixteenIdeal := hAttnSixteenIdeal) (hAttnSixteenRefIdeal := hAttnSixteenRefIdeal) (hPre_finite_projection := hPre_finite_projection)
    ∧ preserves_Norm_NormIdeal
    ∧ algebraic_NormIdeal_NormRefIdeal (hNormIdeal := hNormIdeal) (hNormRefIdeal := hNormRefIdeal)
    ∧ preserves_InProj_InProjIdeal
    ∧ algebraic_InProjIdeal_InProjRefIdeal (hInProjIdeal := hInProjIdeal) (hInProjRefIdeal := hInProjRefIdeal)
    ∧ preserves_Mix_MixIdeal
    ∧ algebraic_MixIdeal_MixRefIdeal_pre_finite_lse (hMixIdeal := hMixIdeal) (hMixRefIdeal := hMixRefIdeal) (hPre_finite_lse := hPre_finite_lse)
    ∧ preserves_OutProj_OutProjIdeal
    ∧ algebraic_OutProjIdeal_OutProjRefIdeal (hOutProjIdeal := hOutProjIdeal) (hOutProjRefIdeal := hOutProjRefIdeal)
-- ==== Pre_finite_lse.lean ====
abbrev S2x8192x1024 : Shape := ⟨3, ![2, 8192, 1024]⟩
abbrev S2x2048x4096 : Shape := ⟨3, ![2, 2048, 4096]⟩
abbrev S2x512x16384 : Shape := ⟨3, ![2, 512, 16384]⟩
abbrev S2x8192x128 : Shape := ⟨3, ![2, 8192, 128]⟩
abbrev S2x2048x512 : Shape := ⟨3, ![2, 2048, 512]⟩
abbrev S2x512x2048 : Shape := ⟨3, ![2, 512, 2048]⟩
abbrev S16384x22528 : Shape := ⟨2, ![16384, 22528]⟩
abbrev S16384x2048 : Shape := ⟨2, ![16384, 2048]⟩
abbrev S1x1024x4096 : Shape := ⟨3, ![1, 1024, 4096]⟩
abbrev S1x2048x4096 : Shape := ⟨3, ![1, 2048, 4096]⟩
abbrev S_ : Shape := ⟨0, ![]⟩

class Facts : Prop where
  bcast_S_S2x8192x128 : S_.BroadcastsInDim S2x8192x128 (![] : Fin 0 → Fin S2x8192x128.rank)
  bcast_S_S2x2048x512 : S_.BroadcastsInDim S2x2048x512 (![] : Fin 0 → Fin S2x2048x512.rank)
  bcast_S_S2x512x2048 : S_.BroadcastsInDim S2x512x2048 (![] : Fin 0 → Fin S2x512x2048.rank)

variable [Facts]

def fn {F : FTy → Type} [FloatOps F] (main_arg0 : FVec F S2x8192x1024 .bf16) (main_arg1 : FVec F S2x2048x4096 .bf16) (main_arg2 : FVec F S2x512x16384 .bf16) (main_arg3 : FVec F S2x8192x128 .f32) (main_arg4 : FVec F S2x2048x512 .f32) (main_arg5 : FVec F S2x512x2048 .f32) (main_arg6 : FVec F S16384x22528 .bf16) (main_arg7 : FVec F S16384x2048 .bf16) (main_arg8 : FVec F S1x1024x4096 .f32) (main_arg9 : FVec F S1x2048x4096 .f32) : IVec S2x8192x128 1 × IVec S2x2048x512 1 × IVec S2x512x2048 1 :=
  let main_v0 : FVec F S2x8192x128 .f32 := Host.absf main_arg3
  let main_cst : FVec F S_ .f32 := constant S_ .f32 0x7F800000#32
  let main_v1 : FVec F S2x8192x128 .f32 := broadcastInDim S2x8192x128 ![] bcast_S_S2x8192x128 main_cst
  let main_v2 : IVec S2x8192x128 1 := cmpf .olt main_v0 main_v1
  let main_v3 : FVec F S2x2048x512 .f32 := Host.absf main_arg4
  let main_cst_0 : FVec F S_ .f32 := constant S_ .f32 0x7F800000#32
  let main_v4 : FVec F S2x2048x512 .f32 := broadcastInDim S2x2048x512 ![] bcast_S_S2x2048x512 main_cst_0
  let main_v5 : IVec S2x2048x512 1 := cmpf .olt main_v3 main_v4
  let main_v6 : FVec F S2x512x2048 .f32 := Host.absf main_arg5
  let main_cst_1 : FVec F S_ .f32 := constant S_ .f32 0x7F800000#32
  let main_v7 : FVec F S2x512x2048 .f32 := broadcastInDim S2x512x2048 ![] bcast_S_S2x512x2048 main_cst_1
  let main_v8 : IVec S2x512x2048 1 := cmpf .olt main_v6 main_v7
  (main_v2, main_v5, main_v8)
-- ==== Pre_finite_projection.lean ====
abbrev S16384x22528 : Shape := ⟨2, ![16384, 22528]⟩
abbrev S_ : Shape := ⟨0, ![]⟩

class Facts : Prop where
  bitsLt_bf16_f32 : FTy.bits .bf16 < FTy.bits .f32
  bcast_S_S16384x22528 : S_.BroadcastsInDim S16384x22528 (![] : Fin 0 → Fin S16384x22528.rank)

variable [Facts]

def fn {F : FTy → Type} [FloatOps F] (main_arg0 : FVec F S16384x22528 .bf16) : IVec S16384x22528 1 :=
  let main_v0 : FVec F S16384x22528 .f32 := (extf .f32 · bitsLt_bf16_f32) main_arg0
  let main_v1 : FVec F S16384x22528 .f32 := Host.absf main_v0
  let main_cst : FVec F S_ .f32 := constant S_ .f32 0x7F800000#32
  let main_v2 : FVec F S16384x22528 .f32 := broadcastInDim S16384x22528 ![] bcast_S_S16384x22528 main_cst
  let main_v3 : IVec S16384x22528 1 := cmpf .olt main_v1 main_v2
  main_v3
-- ==== AttnOne.lean ====
abbrev S16384x22528 : Shape := ⟨2, ![16384, 22528]⟩
abbrev S2x8192x22528 : Shape := ⟨3, ![2, 8192, 22528]⟩
abbrev S2x8192x1024 : Shape := ⟨3, ![2, 8192, 1024]⟩
abbrev S2x8192x128 : Shape := ⟨3, ![2, 8192, 128]⟩
abbrev S1x256x1024 : Shape := ⟨3, ![1, 256, 1024]⟩
abbrev S1x64x1024 : Shape := ⟨3, ![1, 64, 1024]⟩
abbrev S1x256x128 : Shape := ⟨3, ![1, 256, 128]⟩
abbrev S384x1024 : Shape := ⟨2, ![384, 1024]⟩
abbrev S64x1024 : Shape := ⟨2, ![64, 1024]⟩
abbrev S256x1024 : Shape := ⟨2, ![256, 1024]⟩
abbrev S128x256 : Shape := ⟨2, ![128, 256]⟩
abbrev S128x128 : Shape := ⟨2, ![128, 128]⟩
abbrev S1x128x128 : Shape := ⟨3, ![1, 128, 128]⟩
abbrev S256x128 : Shape := ⟨2, ![256, 128]⟩
abbrev S128 : Shape := ⟨1, ![128]⟩
abbrev S128x1 : Shape := ⟨2, ![128, 1]⟩

abbrev nBuf : Space → Nat
  | .hbm => 4
  | .vmem => 20
  | .smem => 0
  | _ => 0

abbrev bufTy : (tb : Table) → Fin (tcTables nBuf tb) → BufTy
  | .hbm, ⟨0, _⟩ => ⟨S16384x22528, .bf16⟩
  | .hbm, ⟨1, _⟩ => ⟨S2x8192x22528, .bf16⟩
  | .hbm, ⟨2, _⟩ => ⟨S2x8192x1024, .bf16⟩
  | .hbm, ⟨3, _⟩ => ⟨S2x8192x128, .f32⟩
  | .local _ .vmem, ⟨0, _⟩ => ⟨S1x256x1024, .bf16⟩
  | .local _ .vmem, ⟨1, _⟩ => ⟨S1x256x1024, .bf16⟩
  | .local _ .vmem, ⟨2, _⟩ => ⟨S1x64x1024, .bf16⟩
  | .local _ .vmem, ⟨3, _⟩ => ⟨S1x64x1024, .bf16⟩
  | .local _ .vmem, ⟨4, _⟩ => ⟨S1x256x1024, .bf16⟩
  | .local _ .vmem, ⟨5, _⟩ => ⟨S1x256x1024, .bf16⟩
  | .local _ .vmem, ⟨6, _⟩ => ⟨S1x64x1024, .bf16⟩
  | .local _ .vmem, ⟨7, _⟩ => ⟨S1x64x1024, .bf16⟩
  | .local _ .vmem, ⟨8, _⟩ => ⟨S1x64x1024, .bf16⟩
  | .local _ .vmem, ⟨9, _⟩ => ⟨S1x64x1024, .bf16⟩
  | .local _ .vmem, ⟨10, _⟩ => ⟨S1x256x1024, .bf16⟩
  | .local _ .vmem, ⟨11, _⟩ => ⟨S1x256x1024, .bf16⟩
  | .local _ .vmem, ⟨12, _⟩ => ⟨S1x64x1024, .bf16⟩
  | .local _ .vmem, ⟨13, _⟩ => ⟨S1x64x1024, .bf16⟩
  | .local _ .vmem, ⟨14, _⟩ => ⟨S1x256x1024, .bf16⟩
  | .local _ .vmem, ⟨15, _⟩ => ⟨S1x256x1024, .bf16⟩
  | .local _ .vmem, ⟨16, _⟩ => ⟨S1x256x128, .f32⟩
  | .local _ .vmem, ⟨17, _⟩ => ⟨S1x256x128, .f32⟩
  | .local _ .vmem, ⟨18, _⟩ => ⟨S384x1024, .bf16⟩
  | .local _ .vmem, ⟨19, _⟩ => ⟨S384x1024, .bf16⟩
  | _, _ => ⟨S16384x22528, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1_0 : Ref sig .tc := ⟨.hbm, 2, rfl⟩
abbrev main_v1_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_scratch0 : Ref sig .tc := ⟨.vmem, 18, rfl⟩
abbrev cc0_scratch1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨3, ![2, 1, 32], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c22_i32 : BitVec 32 := 22#32
  let v0 : BitVec 32 := Scalar.muli arg1 c22_i32
  let c0_i32 : BitVec 32 := 0#32
  let v1 : BitVec 32 := Scalar.addi v0 c0_i32
  let c0_i32_0 : BitVec 32 := 0#32
  ![arg0.toNat, arg2.toNat, v1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg2 c4_i32
  let c1_i32 : BitVec 32 := 1#32
  let v1 : BitVec 32 := Scalar.subi v0 c1_i32
  let c0_i32 : BitVec 32 := 0#32
  let v2 : BitVec 32 := Scalar.maxsi v1 c0_i32
  let c22_i32 : BitVec 32 := 22#32
  let v3 : BitVec 32 := Scalar.muli arg1 c22_i32
  let c3_i32 : BitVec 32 := 3#32
  let v4 : BitVec 32 := Scalar.addi v3 c3_i32
  let c0_i32_0 : BitVec 32 := 0#32
  ![arg0.toNat, v2.toNat, v4.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c22_i32 : BitVec 32 := 22#32
  let v0 : BitVec 32 := Scalar.muli arg1 c22_i32
  let c3_i32 : BitVec 32 := 3#32
  let v1 : BitVec 32 := Scalar.addi v0 c3_i32
  let c0_i32 : BitVec 32 := 0#32
  ![arg0.toNat, arg2.toNat, v1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.addi arg2 c1_i32
  let c4_i32 : BitVec 32 := 4#32
  let v1 : BitVec 32 := Scalar.muli v0 c4_i32
  let c127_i32 : BitVec 32 := 127#32
  let v2 : BitVec 32 := Scalar.minsi v1 c127_i32
  let c22_i32 : BitVec 32 := 22#32
  let v3 : BitVec 32 := Scalar.muli arg1 c22_i32
  let c3_i32 : BitVec 32 := 3#32
  let v4 : BitVec 32 := Scalar.addi v3 c3_i32
  let c0_i32 : BitVec 32 := 0#32
  ![arg0.toNat, v2.toNat, v4.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg2 c4_i32
  let c1_i32 : BitVec 32 := 1#32
  let v1 : BitVec 32 := Scalar.subi v0 c1_i32
  let c0_i32 : BitVec 32 := 0#32
  let v2 : BitVec 32 := Scalar.maxsi v1 c0_i32
  let c22_i32 : BitVec 32 := 22#32
  let v3 : BitVec 32 := Scalar.muli arg1 c22_i32
  let c6_i32 : BitVec 32 := 6#32
  let v4 : BitVec 32 := Scalar.addi v3 c6_i32
  let c0_i32_0 : BitVec 32 := 0#32
  ![arg0.toNat, v2.toNat, v4.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c22_i32 : BitVec 32 := 22#32
  let v0 : BitVec 32 := Scalar.muli arg1 c22_i32
  let c6_i32 : BitVec 32 := 6#32
  let v1 : BitVec 32 := Scalar.addi v0 c6_i32
  let c0_i32 : BitVec 32 := 0#32
  ![arg0.toNat, arg2.toNat, v1.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.addi arg2 c1_i32
  let c4_i32 : BitVec 32 := 4#32
  let v1 : BitVec 32 := Scalar.muli v0 c4_i32
  let c127_i32 : BitVec 32 := 127#32
  let v2 : BitVec 32 := Scalar.minsi v1 c127_i32
  let c22_i32 : BitVec 32 := 22#32
  let v3 : BitVec 32 := Scalar.muli arg1 c22_i32
  let c6_i32 : BitVec 32 := 6#32
  let v4 : BitVec 32 := Scalar.addi v3 c6_i32
  let c0_i32 : BitVec 32 := 0#32
  ![arg0.toNat, v2.toNat, v4.toNat]

def cc0_transform_7 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_8 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 2 → Memref sig .tc .vmem S1x256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x64x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S1x256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S1x64x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S1x64x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 2 → Memref sig .tc .vmem S1x256x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]

abbrev stage0_6 : Fin 2 → Memref sig .tc .vmem S1x64x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]

abbrev stage0_7 : Fin 2 → Memref sig .tc .vmem S1x256x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, true]

abbrev stage0_8 : Fin 2 → Memref sig .tc .vmem S1x256x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, true]
-- ==== AttnOneIdeal.lean ====
variable {F : FTy → Type} [FloatOps F] [Named F]
def κ : String → Option EReal := fun
  | "mask" => some ⊥
  | _ => none
-- ==== AttnOneRefIdeal.lean ====
abbrev S16384x22528 : Shape := ⟨2, ![16384, 22528]⟩
abbrev S2x8192x22528 : Shape := ⟨3, ![2, 8192, 22528]⟩
abbrev S2x8192x3072 : Shape := ⟨3, ![2, 8192, 3072]⟩
abbrev S2x8192x24x128 : Shape := ⟨4, ![2, 8192, 24, 128]⟩
abbrev S2x8192x8x128 : Shape := ⟨4, ![2, 8192, 8, 128]⟩
abbrev S2x8192x1x8x128 : Shape := ⟨5, ![2, 8192, 1, 8, 128]⟩
abbrev S2x1x8192x8x128 : Shape := ⟨5, ![2, 1, 8192, 8, 128]⟩
abbrev S2x1x8x8192x8192 : Shape := ⟨5, ![2, 1, 8, 8192, 8192]⟩
abbrev S8192 : Shape := ⟨1, ![8192]⟩
abbrev S1x8192 : Shape := ⟨2, ![1, 8192]⟩
abbrev S8192x1 : Shape := ⟨2, ![8192, 1]⟩
abbrev S8192x8192 : Shape := ⟨2, ![8192, 8192]⟩
abbrev S_ : Shape := ⟨0, ![]⟩
abbrev S1x1x1x8192x8192 : Shape := ⟨5, ![1, 1, 1, 8192, 8192]⟩
abbrev S2x1x8x8192 : Shape := ⟨4, ![2, 1, 8, 8192]⟩
abbrev S2x1x8x8192x1 : Shape := ⟨5, ![2, 1, 8, 8192, 1]⟩
abbrev S2x1x8x128x8192 : Shape := ⟨5, ![2, 1, 8, 128, 8192]⟩
abbrev S2x8192x1024 : Shape := ⟨3, ![2, 8192, 1024]⟩
abbrev S2x8192x1x8 : Shape := ⟨4, ![2, 8192, 1, 8]⟩
abbrev S2x8192x1x128 : Shape := ⟨4, ![2, 8192, 1, 128]⟩
abbrev S2x8192x128 : Shape := ⟨3, ![2, 8192, 128]⟩

abbrev nBuf : Space → Nat
  | .hbm => 59
  | .vmem => 0
  | .smem => 0
  | _ => 0

abbrev bufTy : (tb : Table) → Fin (tcTables nBuf tb) → BufTy
  | .hbm, ⟨0, _⟩ => ⟨S16384x22528, .bf16⟩
  | .hbm, ⟨1, _⟩ => ⟨S16384x22528, .f32⟩
  | .hbm, ⟨2, _⟩ => ⟨S2x8192x22528, .f32⟩
  | .hbm, ⟨3, _⟩ => ⟨S2x8192x3072, .f32⟩
  | .hbm, ⟨4, _⟩ => ⟨S2x8192x3072, .f32⟩
  | .hbm, ⟨5, _⟩ => ⟨S2x8192x3072, .f32⟩
  | .hbm, ⟨6, _⟩ => ⟨S2x8192x24x128, .f32⟩
  | .hbm, ⟨7, _⟩ => ⟨S2x8192x8x128, .f32⟩
  | .hbm, ⟨8, _⟩ => ⟨S2x8192x1x8x128, .f32⟩
  | .hbm, ⟨9, _⟩ => ⟨S2x1x8192x8x128, .f32⟩
  | .hbm, ⟨10, _⟩ => ⟨S2x8192x24x128, .f32⟩
  | .hbm, ⟨11, _⟩ => ⟨S2x8192x8x128, .f32⟩
  | .hbm, ⟨12, _⟩ => ⟨S2x8192x1x8x128, .f32⟩
  | .hbm, ⟨13, _⟩ => ⟨S2x1x8192x8x128, .f32⟩
  | .hbm, ⟨14, _⟩ => ⟨S2x8192x24x128, .f32⟩
  | .hbm, ⟨15, _⟩ => ⟨S2x8192x8x128, .f32⟩
  | .hbm, ⟨16, _⟩ => ⟨S2x8192x1x8x128, .f32⟩
  | .hbm, ⟨17, _⟩ => ⟨S2x1x8192x8x128, .f32⟩
  | .hbm, ⟨18, _⟩ => ⟨S2x1x8x8192x8192, .f32⟩
  | .hbm, ⟨19, _⟩ => ⟨S8192, .i32⟩
  | .hbm, ⟨20, _⟩ => ⟨S1x8192, .i32⟩
  | .hbm, ⟨21, _⟩ => ⟨S8192x1, .i32⟩
  | .hbm, ⟨22, _⟩ => ⟨S8192x8192, .i32⟩
  | .hbm, ⟨23, _⟩ => ⟨S8192x8192, .i32⟩
  | .hbm, ⟨24, _⟩ => ⟨S8192x8192, .i32⟩
  | .hbm, ⟨25, _⟩ => ⟨S8192x8192, .i32⟩
  | .hbm, ⟨26, _⟩ => ⟨S_, .i32⟩
  | .hbm, ⟨27, _⟩ => ⟨S8192x8192, .i32⟩
  | .hbm, ⟨28, _⟩ => ⟨S8192x8192, .i1⟩
  | .hbm, ⟨29, _⟩ => ⟨S1x1x1x8192x8192, .i1⟩
  | .hbm, ⟨30, _⟩ => ⟨S_, .f32⟩
  | .hbm, ⟨31, _⟩ => ⟨S_, .f32⟩
  | .hbm, ⟨32, _⟩ => ⟨S2x1x8x8192x8192, .i1⟩
  | .hbm, ⟨33, _⟩ => ⟨S2x1x8x8192x8192, .f32⟩
  | .hbm, ⟨34, _⟩ => ⟨S2x1x8x8192x8192, .f32⟩
  | .hbm, ⟨35, _⟩ => ⟨S_, .f32⟩
  | .hbm, ⟨36, _⟩ => ⟨S2x1x8x8192, .f32⟩
  | .hbm, ⟨37, _⟩ => ⟨S2x1x8x8192x1, .f32⟩
  | .hbm, ⟨38, _⟩ => ⟨S2x1x8x8192x8192, .f32⟩
  | .hbm, ⟨39, _⟩ => ⟨S2x1x8x8192x8192, .f32⟩
  | .hbm, ⟨40, _⟩ => ⟨S2x1x8x8192x8192, .f32⟩
  | .hbm, ⟨41, _⟩ => ⟨S_, .f32⟩
  | .hbm, ⟨42, _⟩ => ⟨S2x1x8x8192, .f32⟩
  | .hbm, ⟨43, _⟩ => ⟨S2x1x8x8192x1, .f32⟩
  | .hbm, ⟨44, _⟩ => ⟨S2x1x8x8192x1, .f32⟩
  | .hbm, ⟨45, _⟩ => ⟨S2x1x8x8192x1, .f32⟩
  | .hbm, ⟨46, _⟩ => ⟨S2x1x8x8192x8192, .f32⟩
  | .hbm, ⟨47, _⟩ => ⟨S2x1x8x8192x8192, .f32⟩
  | .hbm, ⟨48, _⟩ => ⟨S2x1x8x8192x8192, .f32⟩
  | .hbm, ⟨49, _⟩ => ⟨S2x1x8x128x8192, .f32⟩
  | .hbm, ⟨50, _⟩ => ⟨S2x8192x1x8x128, .f32⟩
  | .hbm, ⟨51, _⟩ => ⟨S2x8192x1024, .f32⟩
  | .hbm, ⟨52, _⟩ => ⟨S2x8192x1024, .bf16⟩
  | .hbm, ⟨53, _⟩ => ⟨S2x1x8x8192, .f32⟩
  | .hbm, ⟨54, _⟩ => ⟨S2x8192x1x8, .f32⟩
  | .hbm, ⟨55, _⟩ => ⟨S_, .i32⟩
  | .hbm, ⟨56, _⟩ => ⟨S_, .f32⟩
  | .hbm, ⟨57, _⟩ => ⟨S2x8192x1x128, .f32⟩
  | .hbm, ⟨58, _⟩ => ⟨S2x8192x128, .f32⟩
  | _, _ => ⟨S16384x22528, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_v7 : Ref sig .tc := ⟨.hbm, 8, rfl⟩
abbrev main_v8 : Ref sig .tc := ⟨.hbm, 9, rfl⟩
abbrev main_v9 : Ref sig .tc := ⟨.hbm, 10, rfl⟩
abbrev main_v10 : Ref sig .tc := ⟨.hbm, 11, rfl⟩
abbrev main_v11 : Ref sig .tc := ⟨.hbm, 12, rfl⟩
abbrev main_v12 : Ref sig .tc := ⟨.hbm, 13, rfl⟩
abbrev main_v13 : Ref sig .tc := ⟨.hbm, 14, rfl⟩
abbrev main_v14 : Ref sig .tc := ⟨.hbm, 15, rfl⟩
abbrev main_v15 : Ref sig .tc := ⟨.hbm, 16, rfl⟩
abbrev main_v16 : Ref sig .tc := ⟨.hbm, 17, rfl⟩
abbrev main_v17 : Ref sig .tc := ⟨.hbm, 18, rfl⟩
abbrev main_v18 : Ref sig .tc := ⟨.hbm, 19, rfl⟩
abbrev main_v19 : Ref sig .tc := ⟨.hbm, 20, rfl⟩
abbrev main_v20 : Ref sig .tc := ⟨.hbm, 21, rfl⟩
abbrev main_v21 : Ref sig .tc := ⟨.hbm, 22, rfl⟩
abbrev main_v22 : Ref sig .tc := ⟨.hbm, 23, rfl⟩
abbrev main_v23 : Ref sig .tc := ⟨.hbm, 24, rfl⟩
abbrev main_v24 : Ref sig .tc := ⟨.hbm, 25, rfl⟩
abbrev main_c : Ref sig .tc := ⟨.hbm, 26, rfl⟩
abbrev main_v25 : Ref sig .tc := ⟨.hbm, 27, rfl⟩
abbrev main_v26 : Ref sig .tc := ⟨.hbm, 28, rfl⟩
abbrev main_v27 : Ref sig .tc := ⟨.hbm, 29, rfl⟩
abbrev main_cst : Ref sig .tc := ⟨.hbm, 30, rfl⟩
abbrev main_call0_v0 : Ref sig .tc := ⟨.hbm, 31, rfl⟩
abbrev main_call0_v1 : Ref sig .tc := ⟨.hbm, 32, rfl⟩
abbrev main_call0_v2 : Ref sig .tc := ⟨.hbm, 33, rfl⟩
abbrev main_v28 : Ref sig .tc := ⟨.hbm, 34, rfl⟩
abbrev main_cst_0 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_cst_1 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_v41 : Ref sig .tc := ⟨.hbm, 49, rfl⟩
abbrev main_v42 : Ref sig .tc := ⟨.hbm, 50, rfl⟩
abbrev main_v43 : Ref sig .tc := ⟨.hbm, 51, rfl⟩
abbrev main_v44 : Ref sig .tc := ⟨.hbm, 52, rfl⟩
abbrev main_v45 : Ref sig .tc := ⟨.hbm, 53, rfl⟩
abbrev main_v46 : Ref sig .tc := ⟨.hbm, 54, rfl⟩
abbrev main_c_2 : Ref sig .tc := ⟨.hbm, 55, rfl⟩
abbrev main_call1_v0 : Ref sig .tc := ⟨.hbm, 56, rfl⟩
abbrev main_v47 : Ref sig .tc := ⟨.hbm, 57, rfl⟩
abbrev main_v48 : Ref sig .tc := ⟨.hbm, 58, rfl⟩

abbrev nD : Nat := 1
abbrev τ : Topo := Topo.v7x

variable {F : FTy → Type} [FloatOps F]
-- ==== AttnFour.lean ====
abbrev S16384x22528 : Shape := ⟨2, ![16384, 22528]⟩
abbrev S2x2048x90112 : Shape := ⟨3, ![2, 2048, 90112]⟩
abbrev S2x2048x4096 : Shape := ⟨3, ![2, 2048, 4096]⟩
abbrev S2x2048x512 : Shape := ⟨3, ![2, 2048, 512]⟩
abbrev S1x256x1024 : Shape := ⟨3, ![1, 256, 1024]⟩
abbrev S1x64x1024 : Shape := ⟨3, ![1, 64, 1024]⟩
abbrev S1x256x128 : Shape := ⟨3, ![1, 256, 128]⟩
abbrev S384x1024 : Shape := ⟨2, ![384, 1024]⟩
abbrev S64x1024 : Shape := ⟨2, ![64, 1024]⟩
abbrev S256x1024 : Shape := ⟨2, ![256, 1024]⟩
abbrev S128x256 : Shape := ⟨2, ![128, 256]⟩
abbrev S128x128 : Shape := ⟨2, ![128, 128]⟩
abbrev S1x128x128 : Shape := ⟨3, ![1, 128, 128]⟩
abbrev S256x128 : Shape := ⟨2, ![256, 128]⟩
abbrev S128 : Shape := ⟨1, ![128]⟩
abbrev S128x1 : Shape := ⟨2, ![128, 1]⟩

abbrev nBuf : Space → Nat
  | .hbm => 4
  | .vmem => 20
  | .smem => 0
  | _ => 0

abbrev bufTy : (tb : Table) → Fin (tcTables nBuf tb) → BufTy
  | .hbm, ⟨0, _⟩ => ⟨S16384x22528, .bf16⟩
  | .hbm, ⟨1, _⟩ => ⟨S2x2048x90112, .bf16⟩
  | .hbm, ⟨2, _⟩ => ⟨S2x2048x4096, .bf16⟩
  | .hbm, ⟨3, _⟩ => ⟨S2x2048x512, .f32⟩
  | .local _ .vmem, ⟨0, _⟩ => ⟨S1x256x1024, .bf16⟩
  | .local _ .vmem, ⟨1, _⟩ => ⟨S1x256x1024, .bf16⟩
  | .local _ .vmem, ⟨2, _⟩ => ⟨S1x64x1024, .bf16⟩
  | .local _ .vmem, ⟨3, _⟩ => ⟨S1x64x1024, .bf16⟩
  | .local _ .vmem, ⟨4, _⟩ => ⟨S1x256x1024, .bf16⟩
  | .local _ .vmem, ⟨5, _⟩ => ⟨S1x256x1024, .bf16⟩
  | .local _ .vmem, ⟨6, _⟩ => ⟨S1x64x1024, .bf16⟩
  | .local _ .vmem, ⟨7, _⟩ => ⟨S1x64x1024, .bf16⟩
  | .local _ .vmem, ⟨8, _⟩ => ⟨S1x64x1024, .bf16⟩
  | .local _ .vmem, ⟨9, _⟩ => ⟨S1x64x1024, .bf16⟩
  | .local _ .vmem, ⟨10, _⟩ => ⟨S1x256x1024, .bf16⟩
  | .local _ .vmem, ⟨11, _⟩ => ⟨S1x256x1024, .bf16⟩
  | .local _ .vmem, ⟨12, _⟩ => ⟨S1x64x1024, .bf16⟩
  | .local _ .vmem, ⟨13, _⟩ => ⟨S1x64x1024, .bf16⟩
  | .local _ .vmem, ⟨14, _⟩ => ⟨S1x256x1024, .bf16⟩
  | .local _ .vmem, ⟨15, _⟩ => ⟨S1x256x1024, .bf16⟩
  | .local _ .vmem, ⟨16, _⟩ => ⟨S1x256x128, .f32⟩
  | .local _ .vmem, ⟨17, _⟩ => ⟨S1x256x128, .f32⟩
  | .local _ .vmem, ⟨18, _⟩ => ⟨S384x1024, .bf16⟩
  | .local _ .vmem, ⟨19, _⟩ => ⟨S384x1024, .bf16⟩
  | _, _ => ⟨S16384x22528, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1_0 : Ref sig .tc := ⟨.hbm, 2, rfl⟩
abbrev main_v1_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_scratch0 : Ref sig .tc := ⟨.vmem, 18, rfl⟩
abbrev cc0_scratch1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨3, ![2, 4, 8], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c22_i32 : BitVec 32 := 22#32
  let v0 : BitVec 32 := Scalar.muli arg1 c22_i32
  let c1_i32 : BitVec 32 := 1#32
  let v1 : BitVec 32 := Scalar.addi v0 c1_i32
  let c0_i32 : BitVec 32 := 0#32
  ![arg0.toNat, arg2.toNat, v1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg2 c4_i32
  let c1_i32 : BitVec 32 := 1#32
  let v1 : BitVec 32 := Scalar.subi v0 c1_i32
  let c0_i32 : BitVec 32 := 0#32
  let v2 : BitVec 32 := Scalar.maxsi v1 c0_i32
  let c22_i32 : BitVec 32 := 22#32
  let v3 : BitVec 32 := Scalar.muli arg1 c22_i32
  let c4_i32_0 : BitVec 32 := 4#32
  let v4 : BitVec 32 := Scalar.addi v3 c4_i32_0
  let c0_i32_1 : BitVec 32 := 0#32
  ![arg0.toNat, v2.toNat, v4.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c22_i32 : BitVec 32 := 22#32
  let v0 : BitVec 32 := Scalar.muli arg1 c22_i32
  let c4_i32 : BitVec 32 := 4#32
  let v1 : BitVec 32 := Scalar.addi v0 c4_i32
  let c0_i32 : BitVec 32 := 0#32
  ![arg0.toNat, arg2.toNat, v1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.addi arg2 c1_i32
  let c4_i32 : BitVec 32 := 4#32
  let v1 : BitVec 32 := Scalar.muli v0 c4_i32
  let c31_i32 : BitVec 32 := 31#32
  let v2 : BitVec 32 := Scalar.minsi v1 c31_i32
  let c22_i32 : BitVec 32 := 22#32
  let v3 : BitVec 32 := Scalar.muli arg1 c22_i32
  let c4_i32_0 : BitVec 32 := 4#32
  let v4 : BitVec 32 := Scalar.addi v3 c4_i32_0
  let c0_i32 : BitVec 32 := 0#32
  ![arg0.toNat, v2.toNat, v4.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg2 c4_i32
  let c1_i32 : BitVec 32 := 1#32
  let v1 : BitVec 32 := Scalar.subi v0 c1_i32
  let c0_i32 : BitVec 32 := 0#32
  let v2 : BitVec 32 := Scalar.maxsi v1 c0_i32
  let c22_i32 : BitVec 32 := 22#32
  let v3 : BitVec 32 := Scalar.muli arg1 c22_i32
  let c7_i32 : BitVec 32 := 7#32
  let v4 : BitVec 32 := Scalar.addi v3 c7_i32
  let c0_i32_0 : BitVec 32 := 0#32
  ![arg0.toNat, v2.toNat, v4.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c22_i32 : BitVec 32 := 22#32
  let v0 : BitVec 32 := Scalar.muli arg1 c22_i32
  let c7_i32 : BitVec 32 := 7#32
  let v1 : BitVec 32 := Scalar.addi v0 c7_i32
  let c0_i32 : BitVec 32 := 0#32
  ![arg0.toNat, arg2.toNat, v1.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.addi arg2 c1_i32
  let c4_i32 : BitVec 32 := 4#32
  let v1 : BitVec 32 := Scalar.muli v0 c4_i32
  let c31_i32 : BitVec 32 := 31#32
  let v2 : BitVec 32 := Scalar.minsi v1 c31_i32
  let c22_i32 : BitVec 32 := 22#32
  let v3 : BitVec 32 := Scalar.muli arg1 c22_i32
  let c7_i32 : BitVec 32 := 7#32
  let v4 : BitVec 32 := Scalar.addi v3 c7_i32
  let c0_i32 : BitVec 32 := 0#32
  ![arg0.toNat, v2.toNat, v4.toNat]

def cc0_transform_7 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_8 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 2 → Memref sig .tc .vmem S1x256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x64x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S1x256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S1x64x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S1x64x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 2 → Memref sig .tc .vmem S1x256x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]

abbrev stage0_6 : Fin 2 → Memref sig .tc .vmem S1x64x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]

abbrev stage0_7 : Fin 2 → Memref sig .tc .vmem S1x256x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, true]

abbrev stage0_8 : Fin 2 → Memref sig .tc .vmem S1x256x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, true]
-- ==== AttnFourIdeal.lean ====
variable {F : FTy → Type} [FloatOps F] [Named F]
def κ : String → Option EReal := fun
  | "mask" => some ⊥
  | _ => none
-- ==== AttnFourRefIdeal.lean ====
abbrev S16384x22528 : Shape := ⟨2, ![16384, 22528]⟩
abbrev S2x8192x22528 : Shape := ⟨3, ![2, 8192, 22528]⟩
abbrev S2x8192x3072 : Shape := ⟨3, ![2, 8192, 3072]⟩
abbrev S2x8192x24x128 : Shape := ⟨4, ![2, 8192, 24, 128]⟩
abbrev S2x8192x8x128 : Shape := ⟨4, ![2, 8192, 8, 128]⟩
abbrev S2x2048x4x8x128 : Shape := ⟨5, ![2, 2048, 4, 8, 128]⟩
abbrev S2x4x2048x8x128 : Shape := ⟨5, ![2, 4, 2048, 8, 128]⟩
abbrev S2x4x8x2048x2048 : Shape := ⟨5, ![2, 4, 8, 2048, 2048]⟩
abbrev S2048 : Shape := ⟨1, ![2048]⟩
abbrev S1x2048 : Shape := ⟨2, ![1, 2048]⟩
abbrev S2048x1 : Shape := ⟨2, ![2048, 1]⟩
abbrev S2048x2048 : Shape := ⟨2, ![2048, 2048]⟩
abbrev S_ : Shape := ⟨0, ![]⟩
abbrev S1x1x1x2048x2048 : Shape := ⟨5, ![1, 1, 1, 2048, 2048]⟩
abbrev S2x4x8x2048 : Shape := ⟨4, ![2, 4, 8, 2048]⟩
abbrev S2x4x8x2048x1 : Shape := ⟨5, ![2, 4, 8, 2048, 1]⟩
abbrev S2x4x8x128x2048 : Shape := ⟨5, ![2, 4, 8, 128, 2048]⟩
abbrev S2x2048x4096 : Shape := ⟨3, ![2, 2048, 4096]⟩
abbrev S2x2048x4x8 : Shape := ⟨4, ![2, 2048, 4, 8]⟩
abbrev S2x2048x4x128 : Shape := ⟨4, ![2, 2048, 4, 128]⟩
abbrev S2x2048x512 : Shape := ⟨3, ![2, 2048, 512]⟩

abbrev nBuf : Space → Nat
  | .hbm => 59
  | .vmem => 0
  | .smem => 0
  | _ => 0

abbrev bufTy : (tb : Table) → Fin (tcTables nBuf tb) → BufTy
  | .hbm, ⟨0, _⟩ => ⟨S16384x22528, .bf16⟩
  | .hbm, ⟨1, _⟩ => ⟨S16384x22528, .f32⟩
  | .hbm, ⟨2, _⟩ => ⟨S2x8192x22528, .f32⟩
  | .hbm, ⟨3, _⟩ => ⟨S2x8192x3072, .f32⟩
  | .hbm, ⟨4, _⟩ => ⟨S2x8192x3072, .f32⟩
  | .hbm, ⟨5, _⟩ => ⟨S2x8192x3072, .f32⟩
  | .hbm, ⟨6, _⟩ => ⟨S2x8192x24x128, .f32⟩
  | .hbm, ⟨7, _⟩ => ⟨S2x8192x8x128, .f32⟩
  | .hbm, ⟨8, _⟩ => ⟨S2x2048x4x8x128, .f32⟩
  | .hbm, ⟨9, _⟩ => ⟨S2x4x2048x8x128, .f32⟩
  | .hbm, ⟨10, _⟩ => ⟨S2x8192x24x128, .f32⟩
  | .hbm, ⟨11, _⟩ => ⟨S2x8192x8x128, .f32⟩
  | .hbm, ⟨12, _⟩ => ⟨S2x2048x4x8x128, .f32⟩
  | .hbm, ⟨13, _⟩ => ⟨S2x4x2048x8x128, .f32⟩
  | .hbm, ⟨14, _⟩ => ⟨S2x8192x24x128, .f32⟩
  | .hbm, ⟨15, _⟩ => ⟨S2x8192x8x128, .f32⟩
  | .hbm, ⟨16, _⟩ => ⟨S2x2048x4x8x128, .f32⟩
  | .hbm, ⟨17, _⟩ => ⟨S2x4x2048x8x128, .f32⟩
  | .hbm, ⟨18, _⟩ => ⟨S2x4x8x2048x2048, .f32⟩
  | .hbm, ⟨19, _⟩ => ⟨S2048, .i32⟩
  | .hbm, ⟨20, _⟩ => ⟨S1x2048, .i32⟩
  | .hbm, ⟨21, _⟩ => ⟨S2048x1, .i32⟩
  | .hbm, ⟨22, _⟩ => ⟨S2048x2048, .i32⟩
  | .hbm, ⟨23, _⟩ => ⟨S2048x2048, .i32⟩
  | .hbm, ⟨24, _⟩ => ⟨S2048x2048, .i32⟩
  | .hbm, ⟨25, _⟩ => ⟨S2048x2048, .i32⟩
  | .hbm, ⟨26, _⟩ => ⟨S_, .i32⟩
  | .hbm, ⟨27, _⟩ => ⟨S2048x2048, .i32⟩
  | .hbm, ⟨28, _⟩ => ⟨S2048x2048, .i1⟩
  | .hbm, ⟨29, _⟩ => ⟨S1x1x1x2048x2048, .i1⟩
  | .hbm, ⟨30, _⟩ => ⟨S_, .f32⟩
  | .hbm, ⟨31, _⟩ => ⟨S_, .f32⟩
  | .hbm, ⟨32, _⟩ => ⟨S2x4x8x2048x2048, .i1⟩
  | .hbm, ⟨33, _⟩ => ⟨S2x4x8x2048x2048, .f32⟩
  | .hbm, ⟨34, _⟩ => ⟨S2x4x8x2048x2048, .f32⟩
  | .hbm, ⟨35, _⟩ => ⟨S_, .f32⟩
  | .hbm, ⟨36, _⟩ => ⟨S2x4x8x2048, .f32⟩
  | .hbm, ⟨37, _⟩ => ⟨S2x4x8x2048x1, .f32⟩
  | .hbm, ⟨38, _⟩ => ⟨S2x4x8x2048x2048, .f32⟩
  | .hbm, ⟨39, _⟩ => ⟨S2x4x8x2048x2048, .f32⟩
  | .hbm, ⟨40, _⟩ => ⟨S2x4x8x2048x2048, .f32⟩
  | .hbm, ⟨41, _⟩ => ⟨S_, .f32⟩
  | .hbm, ⟨42, _⟩ => ⟨S2x4x8x2048, .f32⟩
  | .hbm, ⟨43, _⟩ => ⟨S2x4x8x2048x1, .f32⟩
  | .hbm, ⟨44, _⟩ => ⟨S2x4x8x2048x1, .f32⟩
  | .hbm, ⟨45, _⟩ => ⟨S2x4x8x2048x1, .f32⟩
  | .hbm, ⟨46, _⟩ => ⟨S2x4x8x2048x2048, .f32⟩
  | .hbm, ⟨47, _⟩ => ⟨S2x4x8x2048x2048, .f32⟩
  | .hbm, ⟨48, _⟩ => ⟨S2x4x8x2048x2048, .f32⟩
  | .hbm, ⟨49, _⟩ => ⟨S2x4x8x128x2048, .f32⟩
  | .hbm, ⟨50, _⟩ => ⟨S2x2048x4x8x128, .f32⟩
  | .hbm, ⟨51, _⟩ => ⟨S2x2048x4096, .f32⟩
  | .hbm, ⟨52, _⟩ => ⟨S2x2048x4096, .bf16⟩
  | .hbm, ⟨53, _⟩ => ⟨S2x4x8x2048, .f32⟩
  | .hbm, ⟨54, _⟩ => ⟨S2x2048x4x8, .f32⟩
  | .hbm, ⟨55, _⟩ => ⟨S_, .i32⟩
  | .hbm, ⟨56, _⟩ => ⟨S_, .f32⟩
  | .hbm, ⟨57, _⟩ => ⟨S2x2048x4x128, .f32⟩
  | .hbm, ⟨58, _⟩ => ⟨S2x2048x512, .f32⟩
  | _, _ => ⟨S16384x22528, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_v7 : Ref sig .tc := ⟨.hbm, 8, rfl⟩
abbrev main_v8 : Ref sig .tc := ⟨.hbm, 9, rfl⟩
abbrev main_v9 : Ref sig .tc := ⟨.hbm, 10, rfl⟩
abbrev main_v10 : Ref sig .tc := ⟨.hbm, 11, rfl⟩
abbrev main_v11 : Ref sig .tc := ⟨.hbm, 12, rfl⟩
abbrev main_v12 : Ref sig .tc := ⟨.hbm, 13, rfl⟩
abbrev main_v13 : Ref sig .tc := ⟨.hbm, 14, rfl⟩
abbrev main_v14 : Ref sig .tc := ⟨.hbm, 15, rfl⟩
abbrev main_v15 : Ref sig .tc := ⟨.hbm, 16, rfl⟩
abbrev main_v16 : Ref sig .tc := ⟨.hbm, 17, rfl⟩
abbrev main_v17 : Ref sig .tc := ⟨.hbm, 18, rfl⟩
abbrev main_v18 : Ref sig .tc := ⟨.hbm, 19, rfl⟩
abbrev main_v19 : Ref sig .tc := ⟨.hbm, 20, rfl⟩
abbrev main_v20 : Ref sig .tc := ⟨.hbm, 21, rfl⟩
abbrev main_v21 : Ref sig .tc := ⟨.hbm, 22, rfl⟩
abbrev main_v22 : Ref sig .tc := ⟨.hbm, 23, rfl⟩
abbrev main_v23 : Ref sig .tc := ⟨.hbm, 24, rfl⟩
abbrev main_v24 : Ref sig .tc := ⟨.hbm, 25, rfl⟩
abbrev main_c : Ref sig .tc := ⟨.hbm, 26, rfl⟩
abbrev main_v25 : Ref sig .tc := ⟨.hbm, 27, rfl⟩
abbrev main_v26 : Ref sig .tc := ⟨.hbm, 28, rfl⟩
abbrev main_v27 : Ref sig .tc := ⟨.hbm, 29, rfl⟩
abbrev main_cst : Ref sig .tc := ⟨.hbm, 30, rfl⟩
abbrev main_call0_v0 : Ref sig .tc := ⟨.hbm, 31, rfl⟩
abbrev main_call0_v1 : Ref sig .tc := ⟨.hbm, 32, rfl⟩
abbrev main_call0_v2 : Ref sig .tc := ⟨.hbm, 33, rfl⟩
abbrev main_v28 : Ref sig .tc := ⟨.hbm, 34, rfl⟩
abbrev main_cst_0 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_cst_1 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_v41 : Ref sig .tc := ⟨.hbm, 49, rfl⟩
abbrev main_v42 : Ref sig .tc := ⟨.hbm, 50, rfl⟩
abbrev main_v43 : Ref sig .tc := ⟨.hbm, 51, rfl⟩
abbrev main_v44 : Ref sig .tc := ⟨.hbm, 52, rfl⟩
abbrev main_v45 : Ref sig .tc := ⟨.hbm, 53, rfl⟩
abbrev main_v46 : Ref sig .tc := ⟨.hbm, 54, rfl⟩
abbrev main_c_2 : Ref sig .tc := ⟨.hbm, 55, rfl⟩
abbrev main_call1_v0 : Ref sig .tc := ⟨.hbm, 56, rfl⟩
abbrev main_v47 : Ref sig .tc := ⟨.hbm, 57, rfl⟩
abbrev main_v48 : Ref sig .tc := ⟨.hbm, 58, rfl⟩

abbrev nD : Nat := 1
abbrev τ : Topo := Topo.v7x

variable {F : FTy → Type} [FloatOps F]
-- ==== AttnSixteen.lean ====
abbrev S16384x22528 : Shape := ⟨2, ![16384, 22528]⟩
abbrev S2x512x360448 : Shape := ⟨3, ![2, 512, 360448]⟩
abbrev S2x512x16384 : Shape := ⟨3, ![2, 512, 16384]⟩
abbrev S2x512x2048 : Shape := ⟨3, ![2, 512, 2048]⟩
abbrev S1x256x1024 : Shape := ⟨3, ![1, 256, 1024]⟩
abbrev S1x64x1024 : Shape := ⟨3, ![1, 64, 1024]⟩
abbrev S1x256x128 : Shape := ⟨3, ![1, 256, 128]⟩
abbrev S384x1024 : Shape := ⟨2, ![384, 1024]⟩
abbrev S64x1024 : Shape := ⟨2, ![64, 1024]⟩
abbrev S256x1024 : Shape := ⟨2, ![256, 1024]⟩
abbrev S128x256 : Shape := ⟨2, ![128, 256]⟩
abbrev S128x128 : Shape := ⟨2, ![128, 128]⟩
abbrev S1x128x128 : Shape := ⟨3, ![1, 128, 128]⟩
abbrev S256x128 : Shape := ⟨2, ![256, 128]⟩
abbrev S128 : Shape := ⟨1, ![128]⟩
abbrev S128x1 : Shape := ⟨2, ![128, 1]⟩

abbrev nBuf : Space → Nat
  | .hbm => 4
  | .vmem => 20
  | .smem => 0
  | _ => 0

abbrev bufTy : (tb : Table) → Fin (tcTables nBuf tb) → BufTy
  | .hbm, ⟨0, _⟩ => ⟨S16384x22528, .bf16⟩
  | .hbm, ⟨1, _⟩ => ⟨S2x512x360448, .bf16⟩
  | .hbm, ⟨2, _⟩ => ⟨S2x512x16384, .bf16⟩
  | .hbm, ⟨3, _⟩ => ⟨S2x512x2048, .f32⟩
  | .local _ .vmem, ⟨0, _⟩ => ⟨S1x256x1024, .bf16⟩
  | .local _ .vmem, ⟨1, _⟩ => ⟨S1x256x1024, .bf16⟩
  | .local _ .vmem, ⟨2, _⟩ => ⟨S1x64x1024, .bf16⟩
  | .local _ .vmem, ⟨3, _⟩ => ⟨S1x64x1024, .bf16⟩
  | .local _ .vmem, ⟨4, _⟩ => ⟨S1x256x1024, .bf16⟩
  | .local _ .vmem, ⟨5, _⟩ => ⟨S1x256x1024, .bf16⟩
  | .local _ .vmem, ⟨6, _⟩ => ⟨S1x64x1024, .bf16⟩
  | .local _ .vmem, ⟨7, _⟩ => ⟨S1x64x1024, .bf16⟩
  | .local _ .vmem, ⟨8, _⟩ => ⟨S1x64x1024, .bf16⟩
  | .local _ .vmem, ⟨9, _⟩ => ⟨S1x64x1024, .bf16⟩
  | .local _ .vmem, ⟨10, _⟩ => ⟨S1x256x1024, .bf16⟩
  | .local _ .vmem, ⟨11, _⟩ => ⟨S1x256x1024, .bf16⟩
  | .local _ .vmem, ⟨12, _⟩ => ⟨S1x64x1024, .bf16⟩
  | .local _ .vmem, ⟨13, _⟩ => ⟨S1x64x1024, .bf16⟩
  | .local _ .vmem, ⟨14, _⟩ => ⟨S1x256x1024, .bf16⟩
  | .local _ .vmem, ⟨15, _⟩ => ⟨S1x256x1024, .bf16⟩
  | .local _ .vmem, ⟨16, _⟩ => ⟨S1x256x128, .f32⟩
  | .local _ .vmem, ⟨17, _⟩ => ⟨S1x256x128, .f32⟩
  | .local _ .vmem, ⟨18, _⟩ => ⟨S384x1024, .bf16⟩
  | .local _ .vmem, ⟨19, _⟩ => ⟨S384x1024, .bf16⟩
  | _, _ => ⟨S16384x22528, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1_0 : Ref sig .tc := ⟨.hbm, 2, rfl⟩
abbrev main_v1_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_scratch0 : Ref sig .tc := ⟨.vmem, 18, rfl⟩
abbrev cc0_scratch1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨3, ![2, 16, 2], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c22_i32 : BitVec 32 := 22#32
  let v0 : BitVec 32 := Scalar.muli arg1 c22_i32
  let c2_i32 : BitVec 32 := 2#32
  let v1 : BitVec 32 := Scalar.addi v0 c2_i32
  let c0_i32 : BitVec 32 := 0#32
  ![arg0.toNat, arg2.toNat, v1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg2 c4_i32
  let c1_i32 : BitVec 32 := 1#32
  let v1 : BitVec 32 := Scalar.subi v0 c1_i32
  let c0_i32 : BitVec 32 := 0#32
  let v2 : BitVec 32 := Scalar.maxsi v1 c0_i32
  let c22_i32 : BitVec 32 := 22#32
  let v3 : BitVec 32 := Scalar.muli arg1 c22_i32
  let c5_i32 : BitVec 32 := 5#32
  let v4 : BitVec 32 := Scalar.addi v3 c5_i32
  let c0_i32_0 : BitVec 32 := 0#32
  ![arg0.toNat, v2.toNat, v4.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c22_i32 : BitVec 32 := 22#32
  let v0 : BitVec 32 := Scalar.muli arg1 c22_i32
  let c5_i32 : BitVec 32 := 5#32
  let v1 : BitVec 32 := Scalar.addi v0 c5_i32
  let c0_i32 : BitVec 32 := 0#32
  ![arg0.toNat, arg2.toNat, v1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.addi arg2 c1_i32
  let c4_i32 : BitVec 32 := 4#32
  let v1 : BitVec 32 := Scalar.muli v0 c4_i32
  let c7_i32 : BitVec 32 := 7#32
  let v2 : BitVec 32 := Scalar.minsi v1 c7_i32
  let c22_i32 : BitVec 32 := 22#32
  let v3 : BitVec 32 := Scalar.muli arg1 c22_i32
  let c5_i32 : BitVec 32 := 5#32
  let v4 : BitVec 32 := Scalar.addi v3 c5_i32
  let c0_i32 : BitVec 32 := 0#32
  ![arg0.toNat, v2.toNat, v4.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg2 c4_i32
  let c1_i32 : BitVec 32 := 1#32
  let v1 : BitVec 32 := Scalar.subi v0 c1_i32
  let c0_i32 : BitVec 32 := 0#32
  let v2 : BitVec 32 := Scalar.maxsi v1 c0_i32
  let c22_i32 : BitVec 32 := 22#32
  let v3 : BitVec 32 := Scalar.muli arg1 c22_i32
  let c8_i32 : BitVec 32 := 8#32
  let v4 : BitVec 32 := Scalar.addi v3 c8_i32
  let c0_i32_0 : BitVec 32 := 0#32
  ![arg0.toNat, v2.toNat, v4.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c22_i32 : BitVec 32 := 22#32
  let v0 : BitVec 32 := Scalar.muli arg1 c22_i32
  let c8_i32 : BitVec 32 := 8#32
  let v1 : BitVec 32 := Scalar.addi v0 c8_i32
  let c0_i32 : BitVec 32 := 0#32
  ![arg0.toNat, arg2.toNat, v1.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.addi arg2 c1_i32
  let c4_i32 : BitVec 32 := 4#32
  let v1 : BitVec 32 := Scalar.muli v0 c4_i32
  let c7_i32 : BitVec 32 := 7#32
  let v2 : BitVec 32 := Scalar.minsi v1 c7_i32
  let c22_i32 : BitVec 32 := 22#32
  let v3 : BitVec 32 := Scalar.muli arg1 c22_i32
  let c8_i32 : BitVec 32 := 8#32
  let v4 : BitVec 32 := Scalar.addi v3 c8_i32
  let c0_i32 : BitVec 32 := 0#32
  ![arg0.toNat, v2.toNat, v4.toNat]

def cc0_transform_7 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_8 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 2 → Memref sig .tc .vmem S1x256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x64x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S1x256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S1x64x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S1x64x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 2 → Memref sig .tc .vmem S1x256x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]

abbrev stage0_6 : Fin 2 → Memref sig .tc .vmem S1x64x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]

abbrev stage0_7 : Fin 2 → Memref sig .tc .vmem S1x256x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, true]

abbrev stage0_8 : Fin 2 → Memref sig .tc .vmem S1x256x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, true]
-- ==== AttnSixteenIdeal.lean ====
variable {F : FTy → Type} [FloatOps F] [Named F]
def κ : String → Option EReal := fun
  | "mask" => some ⊥
  | _ => none
-- ==== AttnSixteenRefIdeal.lean ====
abbrev S16384x22528 : Shape := ⟨2, ![16384, 22528]⟩
abbrev S2x8192x22528 : Shape := ⟨3, ![2, 8192, 22528]⟩
abbrev S2x8192x3072 : Shape := ⟨3, ![2, 8192, 3072]⟩
abbrev S2x8192x24x128 : Shape := ⟨4, ![2, 8192, 24, 128]⟩
abbrev S2x8192x8x128 : Shape := ⟨4, ![2, 8192, 8, 128]⟩
abbrev S2x512x16x8x128 : Shape := ⟨5, ![2, 512, 16, 8, 128]⟩
abbrev S2x16x512x8x128 : Shape := ⟨5, ![2, 16, 512, 8, 128]⟩
abbrev S2x16x8x512x512 : Shape := ⟨5, ![2, 16, 8, 512, 512]⟩
abbrev S512 : Shape := ⟨1, ![512]⟩
abbrev S1x512 : Shape := ⟨2, ![1, 512]⟩
abbrev S512x1 : Shape := ⟨2, ![512, 1]⟩
abbrev S512x512 : Shape := ⟨2, ![512, 512]⟩
abbrev S_ : Shape := ⟨0, ![]⟩
abbrev S1x1x1x512x512 : Shape := ⟨5, ![1, 1, 1, 512, 512]⟩
abbrev S2x16x8x512 : Shape := ⟨4, ![2, 16, 8, 512]⟩
abbrev S2x16x8x512x1 : Shape := ⟨5, ![2, 16, 8, 512, 1]⟩
abbrev S2x16x8x128x512 : Shape := ⟨5, ![2, 16, 8, 128, 512]⟩
abbrev S2x512x16384 : Shape := ⟨3, ![2, 512, 16384]⟩
abbrev S2x512x16x8 : Shape := ⟨4, ![2, 512, 16, 8]⟩
abbrev S2x512x16x128 : Shape := ⟨4, ![2, 512, 16, 128]⟩
abbrev S2x512x2048 : Shape := ⟨3, ![2, 512, 2048]⟩

abbrev nBuf : Space → Nat
  | .hbm => 59
  | .vmem => 0
  | .smem => 0
  | _ => 0

abbrev bufTy : (tb : Table) → Fin (tcTables nBuf tb) → BufTy
  | .hbm, ⟨0, _⟩ => ⟨S16384x22528, .bf16⟩
  | .hbm, ⟨1, _⟩ => ⟨S16384x22528, .f32⟩
  | .hbm, ⟨2, _⟩ => ⟨S2x8192x22528, .f32⟩
  | .hbm, ⟨3, _⟩ => ⟨S2x8192x3072, .f32⟩
  | .hbm, ⟨4, _⟩ => ⟨S2x8192x3072, .f32⟩
  | .hbm, ⟨5, _⟩ => ⟨S2x8192x3072, .f32⟩
  | .hbm, ⟨6, _⟩ => ⟨S2x8192x24x128, .f32⟩
  | .hbm, ⟨7, _⟩ => ⟨S2x8192x8x128, .f32⟩
  | .hbm, ⟨8, _⟩ => ⟨S2x512x16x8x128, .f32⟩
  | .hbm, ⟨9, _⟩ => ⟨S2x16x512x8x128, .f32⟩
  | .hbm, ⟨10, _⟩ => ⟨S2x8192x24x128, .f32⟩
  | .hbm, ⟨11, _⟩ => ⟨S2x8192x8x128, .f32⟩
  | .hbm, ⟨12, _⟩ => ⟨S2x512x16x8x128, .f32⟩
  | .hbm, ⟨13, _⟩ => ⟨S2x16x512x8x128, .f32⟩
  | .hbm, ⟨14, _⟩ => ⟨S2x8192x24x128, .f32⟩
  | .hbm, ⟨15, _⟩ => ⟨S2x8192x8x128, .f32⟩
  | .hbm, ⟨16, _⟩ => ⟨S2x512x16x8x128, .f32⟩
  | .hbm, ⟨17, _⟩ => ⟨S2x16x512x8x128, .f32⟩
  | .hbm, ⟨18, _⟩ => ⟨S2x16x8x512x512, .f32⟩
  | .hbm, ⟨19, _⟩ => ⟨S512, .i32⟩
  | .hbm, ⟨20, _⟩ => ⟨S1x512, .i32⟩
  | .hbm, ⟨21, _⟩ => ⟨S512x1, .i32⟩
  | .hbm, ⟨22, _⟩ => ⟨S512x512, .i32⟩
  | .hbm, ⟨23, _⟩ => ⟨S512x512, .i32⟩
  | .hbm, ⟨24, _⟩ => ⟨S512x512, .i32⟩
  | .hbm, ⟨25, _⟩ => ⟨S512x512, .i32⟩
  | .hbm, ⟨26, _⟩ => ⟨S_, .i32⟩
  | .hbm, ⟨27, _⟩ => ⟨S512x512, .i32⟩
  | .hbm, ⟨28, _⟩ => ⟨S512x512, .i1⟩
  | .hbm, ⟨29, _⟩ => ⟨S1x1x1x512x512, .i1⟩
  | .hbm, ⟨30, _⟩ => ⟨S_, .f32⟩
  | .hbm, ⟨31, _⟩ => ⟨S_, .f32⟩
  | .hbm, ⟨32, _⟩ => ⟨S2x16x8x512x512, .i1⟩
  | .hbm, ⟨33, _⟩ => ⟨S2x16x8x512x512, .f32⟩
  | .hbm, ⟨34, _⟩ => ⟨S2x16x8x512x512, .f32⟩
  | .hbm, ⟨35, _⟩ => ⟨S_, .f32⟩
  | .hbm, ⟨36, _⟩ => ⟨S2x16x8x512, .f32⟩
  | .hbm, ⟨37, _⟩ => ⟨S2x16x8x512x1, .f32⟩
  | .hbm, ⟨38, _⟩ => ⟨S2x16x8x512x512, .f32⟩
  | .hbm, ⟨39, _⟩ => ⟨S2x16x8x512x512, .f32⟩
  | .hbm, ⟨40, _⟩ => ⟨S2x16x8x512x512, .f32⟩
  | .hbm, ⟨41, _⟩ => ⟨S_, .f32⟩
  | .hbm, ⟨42, _⟩ => ⟨S2x16x8x512, .f32⟩
  | .hbm, ⟨43, _⟩ => ⟨S2x16x8x512x1, .f32⟩
  | .hbm, ⟨44, _⟩ => ⟨S2x16x8x512x1, .f32⟩
  | .hbm, ⟨45, _⟩ => ⟨S2x16x8x512x1, .f32⟩
  | .hbm, ⟨46, _⟩ => ⟨S2x16x8x512x512, .f32⟩
  | .hbm, ⟨47, _⟩ => ⟨S2x16x8x512x512, .f32⟩
  | .hbm, ⟨48, _⟩ => ⟨S2x16x8x512x512, .f32⟩
  | .hbm, ⟨49, _⟩ => ⟨S2x16x8x128x512, .f32⟩
  | .hbm, ⟨50, _⟩ => ⟨S2x512x16x8x128, .f32⟩
  | .hbm, ⟨51, _⟩ => ⟨S2x512x16384, .f32⟩
  | .hbm, ⟨52, _⟩ => ⟨S2x512x16384, .bf16⟩
  | .hbm, ⟨53, _⟩ => ⟨S2x16x8x512, .f32⟩
  | .hbm, ⟨54, _⟩ => ⟨S2x512x16x8, .f32⟩
  | .hbm, ⟨55, _⟩ => ⟨S_, .i32⟩
  | .hbm, ⟨56, _⟩ => ⟨S_, .f32⟩
  | .hbm, ⟨57, _⟩ => ⟨S2x512x16x128, .f32⟩
  | .hbm, ⟨58, _⟩ => ⟨S2x512x2048, .f32⟩
  | _, _ => ⟨S16384x22528, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_v7 : Ref sig .tc := ⟨.hbm, 8, rfl⟩
abbrev main_v8 : Ref sig .tc := ⟨.hbm, 9, rfl⟩
abbrev main_v9 : Ref sig .tc := ⟨.hbm, 10, rfl⟩
abbrev main_v10 : Ref sig .tc := ⟨.hbm, 11, rfl⟩
abbrev main_v11 : Ref sig .tc := ⟨.hbm, 12, rfl⟩
abbrev main_v12 : Ref sig .tc := ⟨.hbm, 13, rfl⟩
abbrev main_v13 : Ref sig .tc := ⟨.hbm, 14, rfl⟩
abbrev main_v14 : Ref sig .tc := ⟨.hbm, 15, rfl⟩
abbrev main_v15 : Ref sig .tc := ⟨.hbm, 16, rfl⟩
abbrev main_v16 : Ref sig .tc := ⟨.hbm, 17, rfl⟩
abbrev main_v17 : Ref sig .tc := ⟨.hbm, 18, rfl⟩
abbrev main_v18 : Ref sig .tc := ⟨.hbm, 19, rfl⟩
abbrev main_v19 : Ref sig .tc := ⟨.hbm, 20, rfl⟩
abbrev main_v20 : Ref sig .tc := ⟨.hbm, 21, rfl⟩
abbrev main_v21 : Ref sig .tc := ⟨.hbm, 22, rfl⟩
abbrev main_v22 : Ref sig .tc := ⟨.hbm, 23, rfl⟩
abbrev main_v23 : Ref sig .tc := ⟨.hbm, 24, rfl⟩
abbrev main_v24 : Ref sig .tc := ⟨.hbm, 25, rfl⟩
abbrev main_c : Ref sig .tc := ⟨.hbm, 26, rfl⟩
abbrev main_v25 : Ref sig .tc := ⟨.hbm, 27, rfl⟩
abbrev main_v26 : Ref sig .tc := ⟨.hbm, 28, rfl⟩
abbrev main_v27 : Ref sig .tc := ⟨.hbm, 29, rfl⟩
abbrev main_cst : Ref sig .tc := ⟨.hbm, 30, rfl⟩
abbrev main_call0_v0 : Ref sig .tc := ⟨.hbm, 31, rfl⟩
abbrev main_call0_v1 : Ref sig .tc := ⟨.hbm, 32, rfl⟩
abbrev main_call0_v2 : Ref sig .tc := ⟨.hbm, 33, rfl⟩
abbrev main_v28 : Ref sig .tc := ⟨.hbm, 34, rfl⟩
abbrev main_cst_0 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_cst_1 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_v41 : Ref sig .tc := ⟨.hbm, 49, rfl⟩
abbrev main_v42 : Ref sig .tc := ⟨.hbm, 50, rfl⟩
abbrev main_v43 : Ref sig .tc := ⟨.hbm, 51, rfl⟩
abbrev main_v44 : Ref sig .tc := ⟨.hbm, 52, rfl⟩
abbrev main_v45 : Ref sig .tc := ⟨.hbm, 53, rfl⟩
abbrev main_v46 : Ref sig .tc := ⟨.hbm, 54, rfl⟩
abbrev main_c_2 : Ref sig .tc := ⟨.hbm, 55, rfl⟩
abbrev main_call1_v0 : Ref sig .tc := ⟨.hbm, 56, rfl⟩
abbrev main_v47 : Ref sig .tc := ⟨.hbm, 57, rfl⟩
abbrev main_v48 : Ref sig .tc := ⟨.hbm, 58, rfl⟩

abbrev nD : Nat := 1
abbrev τ : Topo := Topo.v7x

variable {F : FTy → Type} [FloatOps F]
-- ==== Norm.lean ====
abbrev S2x8192x4096 : Shape := ⟨3, ![2, 8192, 4096]⟩
abbrev S1x4096 : Shape := ⟨2, ![1, 4096]⟩
abbrev S16384x4096 : Shape := ⟨2, ![16384, 4096]⟩
abbrev S4096 : Shape := ⟨1, ![4096]⟩
abbrev S256x4096 : Shape := ⟨2, ![256, 4096]⟩
abbrev S256 : Shape := ⟨1, ![256]⟩
abbrev S256x1 : Shape := ⟨2, ![256, 1]⟩

abbrev nBuf : Space → Nat
  | .hbm => 6
  | .vmem => 5
  | .smem => 0
  | _ => 0

abbrev bufTy : (tb : Table) → Fin (tcTables nBuf tb) → BufTy
  | .hbm, ⟨0, _⟩ => ⟨S2x8192x4096, .f32⟩
  | .hbm, ⟨1, _⟩ => ⟨S1x4096, .f32⟩
  | .hbm, ⟨2, _⟩ => ⟨S16384x4096, .f32⟩
  | .hbm, ⟨3, _⟩ => ⟨S4096, .f32⟩
  | .hbm, ⟨4, _⟩ => ⟨S1x4096, .f32⟩
  | .hbm, ⟨5, _⟩ => ⟨S16384x4096, .bf16⟩
  | .local _ .vmem, ⟨0, _⟩ => ⟨S256x4096, .f32⟩
  | .local _ .vmem, ⟨1, _⟩ => ⟨S256x4096, .f32⟩
  | .local _ .vmem, ⟨2, _⟩ => ⟨S1x4096, .f32⟩
  | .local _ .vmem, ⟨3, _⟩ => ⟨S256x4096, .bf16⟩
  | .local _ .vmem, ⟨4, _⟩ => ⟨S256x4096, .bf16⟩
  | _, _ => ⟨S2x8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x4096 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== NormRefIdeal.lean ====
abbrev S2x8192x4096 : Shape := ⟨3, ![2, 8192, 4096]⟩
abbrev S1x4096 : Shape := ⟨2, ![1, 4096]⟩
abbrev S4096 : Shape := ⟨1, ![4096]⟩
abbrev S_ : Shape := ⟨0, ![]⟩
abbrev S2x8192 : Shape := ⟨2, ![2, 8192]⟩
abbrev S2x8192x1 : Shape := ⟨3, ![2, 8192, 1]⟩
abbrev S1x1x4096 : Shape := ⟨3, ![1, 1, 4096]⟩
abbrev S16384x4096 : Shape := ⟨2, ![16384, 4096]⟩

abbrev nBuf : Space → Nat
  | .hbm => 21
  | .vmem => 0
  | .smem => 0
  | _ => 0

abbrev bufTy : (tb : Table) → Fin (tcTables nBuf tb) → BufTy
  | .hbm, ⟨0, _⟩ => ⟨S2x8192x4096, .f32⟩
  | .hbm, ⟨1, _⟩ => ⟨S1x4096, .f32⟩
  | .hbm, ⟨2, _⟩ => ⟨S4096, .f32⟩
  | .hbm, ⟨3, _⟩ => ⟨S2x8192x4096, .f32⟩
  | .hbm, ⟨4, _⟩ => ⟨S_, .f32⟩
  | .hbm, ⟨5, _⟩ => ⟨S2x8192, .f32⟩
  | .hbm, ⟨6, _⟩ => ⟨S2x8192x1, .f32⟩
  | .hbm, ⟨7, _⟩ => ⟨S_, .f32⟩
  | .hbm, ⟨8, _⟩ => ⟨S2x8192x1, .f32⟩
  | .hbm, ⟨9, _⟩ => ⟨S2x8192x1, .f32⟩
  | .hbm, ⟨10, _⟩ => ⟨S_, .f32⟩
  | .hbm, ⟨11, _⟩ => ⟨S2x8192x1, .f32⟩
  | .hbm, ⟨12, _⟩ => ⟨S2x8192x1, .f32⟩
  | .hbm, ⟨13, _⟩ => ⟨S2x8192x1, .f32⟩
  | .hbm, ⟨14, _⟩ => ⟨S2x8192x4096, .f32⟩
  | .hbm, ⟨15, _⟩ => ⟨S2x8192x4096, .f32⟩
  | .hbm, ⟨16, _⟩ => ⟨S1x1x4096, .f32⟩
  | .hbm, ⟨17, _⟩ => ⟨S2x8192x4096, .f32⟩
  | .hbm, ⟨18, _⟩ => ⟨S2x8192x4096, .f32⟩
  | .hbm, ⟨19, _⟩ => ⟨S16384x4096, .f32⟩
  | .hbm, ⟨20, _⟩ => ⟨S16384x4096, .bf16⟩
  | _, _ => ⟨S2x8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_cst_1 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩

abbrev nD : Nat := 1
abbrev τ : Topo := Topo.v7x

variable {F : FTy → Type} [FloatOps F]
-- ==== InProj.lean ====
abbrev S16384x4096 : Shape := ⟨2, ![16384, 4096]⟩
abbrev S1x4096x22528 : Shape := ⟨3, ![1, 4096, 22528]⟩
abbrev S1x8192 : Shape := ⟨2, ![1, 8192]⟩
abbrev S64 : Shape := ⟨1, ![64]⟩
abbrev S_ : Shape := ⟨0, ![]⟩
abbrev S8192 : Shape := ⟨1, ![8192]⟩
abbrev S8192x1 : Shape := ⟨2, ![8192, 1]⟩
abbrev S1x64 : Shape := ⟨2, ![1, 64]⟩
abbrev S8192x64 : Shape := ⟨2, ![8192, 64]⟩
abbrev S8192x128 : Shape := ⟨2, ![8192, 128]⟩
abbrev S4096x22528 : Shape := ⟨2, ![4096, 22528]⟩
abbrev S16384x22528 : Shape := ⟨2, ![16384, 22528]⟩
abbrev S1024x4096 : Shape := ⟨2, ![1024, 4096]⟩
abbrev S4096x1024 : Shape := ⟨2, ![4096, 1024]⟩
abbrev S1024x128 : Shape := ⟨2, ![1024, 128]⟩
abbrev S1x1024 : Shape := ⟨2, ![1, 1024]⟩
abbrev S1024x1024 : Shape := ⟨2, ![1024, 1024]⟩

abbrev nBuf : Space → Nat
  | .hbm => 29
  | .vmem => 12
  | .smem => 0
  | _ => 0

abbrev bufTy : (tb : Table) → Fin (tcTables nBuf tb) → BufTy
  | .hbm, ⟨0, _⟩ => ⟨S16384x4096, .bf16⟩
  | .hbm, ⟨1, _⟩ => ⟨S1x4096x22528, .f32⟩
  | .hbm, ⟨2, _⟩ => ⟨S1x8192, .f32⟩
  | .hbm, ⟨3, _⟩ => ⟨S64, .f32⟩
  | .hbm, ⟨4, _⟩ => ⟨S64, .f32⟩
  | .hbm, ⟨5, _⟩ => ⟨S_, .f32⟩
  | .hbm, ⟨6, _⟩ => ⟨S64, .f32⟩
  | .hbm, ⟨7, _⟩ => ⟨S64, .f32⟩
  | .hbm, ⟨8, _⟩ => ⟨S_, .f32⟩
  | .hbm, ⟨9, _⟩ => ⟨S64, .f32⟩
  | .hbm, ⟨10, _⟩ => ⟨S64, .f32⟩
  | .hbm, ⟨11, _⟩ => ⟨S8192, .f32⟩
  | .hbm, ⟨12, _⟩ => ⟨S8192x1, .f32⟩
  | .hbm, ⟨13, _⟩ => ⟨S1x64, .f32⟩
  | .hbm, ⟨14, _⟩ => ⟨S8192x64, .f32⟩
  | .hbm, ⟨15, _⟩ => ⟨S8192x64, .f32⟩
  | .hbm, ⟨16, _⟩ => ⟨S8192x64, .f32⟩
  | .hbm, ⟨17, _⟩ => ⟨S8192x64, .f32⟩
  | .hbm, ⟨18, _⟩ => ⟨S8192x64, .f32⟩
  | .hbm, ⟨19, _⟩ => ⟨S8192x128, .f32⟩
  | .hbm, ⟨20, _⟩ => ⟨S8192x64, .f32⟩
  | .hbm, ⟨21, _⟩ => ⟨S8192x64, .f32⟩
  | .hbm, ⟨22, _⟩ => ⟨S8192x64, .f32⟩
  | .hbm, ⟨23, _⟩ => ⟨S8192x128, .f32⟩
  | .hbm, ⟨24, _⟩ => ⟨S4096x22528, .f32⟩
  | .hbm, ⟨25, _⟩ => ⟨S4096x22528, .bf16⟩
  | .hbm, ⟨26, _⟩ => ⟨S8192, .f32⟩
  | .hbm, ⟨27, _⟩ => ⟨S1x8192, .f32⟩
  | .hbm, ⟨28, _⟩ => ⟨S16384x22528, .bf16⟩
  | .local _ .vmem, ⟨0, _⟩ => ⟨S1024x4096, .bf16⟩
  | .local _ .vmem, ⟨1, _⟩ => ⟨S1024x4096, .bf16⟩
  | .local _ .vmem, ⟨2, _⟩ => ⟨S4096x1024, .bf16⟩
  | .local _ .vmem, ⟨3, _⟩ => ⟨S4096x1024, .bf16⟩
  | .local _ .vmem, ⟨4, _⟩ => ⟨S1024x128, .f32⟩
  | .local _ .vmem, ⟨5, _⟩ => ⟨S1024x128, .f32⟩
  | .local _ .vmem, ⟨6, _⟩ => ⟨S1024x128, .f32⟩
  | .local _ .vmem, ⟨7, _⟩ => ⟨S1024x128, .f32⟩
  | .local _ .vmem, ⟨8, _⟩ => ⟨S1x1024, .f32⟩
  | .local _ .vmem, ⟨9, _⟩ => ⟨S1x1024, .f32⟩
  | .local _ .vmem, ⟨10, _⟩ => ⟨S1024x1024, .bf16⟩
  | .local _ .vmem, ⟨11, _⟩ => ⟨S1024x1024, .bf16⟩
  | _, _ => ⟨S16384x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![16, 22], ![false, false]⟩

def k0_cond1 (i : grid0.Coords) : BitVec 1 :=
  let arg1 : BitVec 32 := BitVec.ofNat 32 (i 1).val
  let c6_i32 : BitVec 32 := 6#32
  let v4 : BitVec 1 := Scalar.cmpi .slt arg1 c6_i32
  let v5 : BitVec 32 := Scalar.extui v4
  let c0_i32 : BitVec 32 := 0#32
  let v6 : BitVec 1 := Scalar.cmpi .ne v5 c0_i32
  v6

def k0_cond2 (i : grid0.Coords) : BitVec 1 :=
  let arg1 : BitVec 32 := BitVec.ofNat 32 (i 1).val
  let c6_i32_3 : BitVec 32 := 6#32
  let v7 : BitVec 1 := Scalar.cmpi .sge arg1 c6_i32_3
  let c9_i32 : BitVec 32 := 9#32
  let v8 : BitVec 1 := Scalar.cmpi .slt arg1 c9_i32
  let v9 : BitVec 1 := Scalar.andi v7 v8
  let c10_i32 : BitVec 32 := 10#32
  let v10 : BitVec 1 := Scalar.cmpi .sge arg1 c10_i32
  let c12_i32 : BitVec 32 := 12#32
  let v11 : BitVec 1 := Scalar.cmpi .slt arg1 c12_i32
  let v12 : BitVec 1 := Scalar.andi v10 v11
  let v13 : BitVec 1 := Scalar.ori v9 v12
  let v14 : BitVec 32 := Scalar.extui v13
  let c0_i32_4 : BitVec 32 := 0#32
  let v15 : BitVec 1 := Scalar.cmpi .ne v14 c0_i32_4
  v15

def k0_cond3 (i : grid0.Coords) : BitVec 1 :=
  let arg1 : BitVec 32 := BitVec.ofNat 32 (i 1).val
  let c9_i32_5 : BitVec 32 := 9#32
  let v16 : BitVec 1 := Scalar.cmpi .sge arg1 c9_i32_5
  let c10_i32_6 : BitVec 32 := 10#32
  let v17 : BitVec 1 := Scalar.cmpi .slt arg1 c10_i32_6
  let v18 : BitVec 1 := Scalar.andi v16 v17
  let c12_i32_7 : BitVec 32 := 12#32
  let v19 : BitVec 1 := Scalar.cmpi .sge arg1 c12_i32_7
  let c14_i32 : BitVec 32 := 14#32
  let v20 : BitVec 1 := Scalar.cmpi .slt arg1 c14_i32
  let v21 : BitVec 1 := Scalar.andi v19 v20
  let v22 : BitVec 1 := Scalar.ori v18 v21
  let v23 : BitVec 32 := Scalar.extui v22
  let c0_i32_8 : BitVec 32 := 0#32
  let v24 : BitVec 1 := Scalar.cmpi .ne v23 c0_i32_8
  v24

def k0_cond4 (i : grid0.Coords) : BitVec 1 :=
  let arg1 : BitVec 32 := BitVec.ofNat 32 (i 1).val
  let c14_i32_9 : BitVec 32 := 14#32
  let v25 : BitVec 1 := Scalar.cmpi .sge arg1 c14_i32_9
  let v26 : BitVec 32 := Scalar.extui v25
  let c0_i32_10 : BitVec 32 := 0#32
  let v27 : BitVec 1 := Scalar.cmpi .ne v26 c0_i32_10
  v27

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_3 (i : grid0.Coords) : Fin 2 → Nat :=
  let arg0 : BitVec 32 := BitVec.ofNat 32 (i 0).val
  let arg1 : BitVec 32 := BitVec.ofNat 32 (i 1).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_4 (i : grid0.Coords) : Fin 2 → Nat :=
  let arg0 : BitVec 32 := BitVec.ofNat 32 (i 0).val
  let arg1 : BitVec 32 := BitVec.ofNat 32 (i 1).val
  let c14_i32 : BitVec 32 := 14#32
  let v0 : BitVec 32 := Scalar.subi arg1 c14_i32
  let c0_i32 : BitVec 32 := 0#32
  let v1 : BitVec 32 := Scalar.maxsi v0 c0_i32
  let c0_i32_0 : BitVec 32 := 0#32
  let c0_i32_1 : BitVec 32 := 0#32
  ![c0_i32_0.toNat, v1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1024x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1024x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== InProjRefIdeal.lean ====
abbrev S16384x4096 : Shape := ⟨2, ![16384, 4096]⟩
abbrev S1x4096x22528 : Shape := ⟨3, ![1, 4096, 22528]⟩
abbrev S1x8192 : Shape := ⟨2, ![1, 8192]⟩
abbrev S8192 : Shape := ⟨1, ![8192]⟩
abbrev S2x8192x4096 : Shape := ⟨3, ![2, 8192, 4096]⟩
abbrev S4096x22528 : Shape := ⟨2, ![4096, 22528]⟩
abbrev S2x8192x22528 : Shape := ⟨3, ![2, 8192, 22528]⟩
abbrev S2x8192x3072 : Shape := ⟨3, ![2, 8192, 3072]⟩
abbrev S2x8192x1024 : Shape := ⟨3, ![2, 8192, 1024]⟩
abbrev S2x8192x2048 : Shape := ⟨3, ![2, 8192, 2048]⟩
abbrev S2x8192x8192 : Shape := ⟨3, ![2, 8192, 8192]⟩
abbrev S2x8192x24x128 : Shape := ⟨4, ![2, 8192, 24, 128]⟩
abbrev S64 : Shape := ⟨1, ![64]⟩
abbrev S_ : Shape := ⟨0, ![]⟩
abbrev S8192x1 : Shape := ⟨2, ![8192, 1]⟩
abbrev S1x64 : Shape := ⟨2, ![1, 64]⟩
abbrev S8192x64 : Shape := ⟨2, ![8192, 64]⟩
abbrev S1x8192x1x64 : Shape := ⟨4, ![1, 8192, 1, 64]⟩
abbrev S2x8192x24x64 : Shape := ⟨4, ![2, 8192, 24, 64]⟩
abbrev S1x1x8192 : Shape := ⟨3, ![1, 1, 8192]⟩
abbrev S16384x22528 : Shape := ⟨2, ![16384, 22528]⟩

abbrev nBuf : Space → Nat
  | .hbm => 117
  | .vmem => 0
  | .smem => 0
  | _ => 0

abbrev bufTy : (tb : Table) → Fin (tcTables nBuf tb) → BufTy
  | .hbm, ⟨0, _⟩ => ⟨S16384x4096, .bf16⟩
  | .hbm, ⟨1, _⟩ => ⟨S1x4096x22528, .f32⟩
  | .hbm, ⟨2, _⟩ => ⟨S1x8192, .f32⟩
  | .hbm, ⟨3, _⟩ => ⟨S8192, .i32⟩
  | .hbm, ⟨4, _⟩ => ⟨S16384x4096, .f32⟩
  | .hbm, ⟨5, _⟩ => ⟨S2x8192x4096, .f32⟩
  | .hbm, ⟨6, _⟩ => ⟨S4096x22528, .f32⟩
  | .hbm, ⟨7, _⟩ => ⟨S2x8192x22528, .f32⟩
  | .hbm, ⟨8, _⟩ => ⟨S2x8192x3072, .f32⟩
  | .hbm, ⟨9, _⟩ => ⟨S2x8192x3072, .f32⟩
  | .hbm, ⟨10, _⟩ => ⟨S2x8192x3072, .f32⟩
  | .hbm, ⟨11, _⟩ => ⟨S2x8192x1024, .f32⟩
  | .hbm, ⟨12, _⟩ => ⟨S2x8192x2048, .f32⟩
  | .hbm, ⟨13, _⟩ => ⟨S2x8192x2048, .f32⟩
  | .hbm, ⟨14, _⟩ => ⟨S2x8192x8192, .f32⟩
  | .hbm, ⟨15, _⟩ => ⟨S2x8192x24x128, .f32⟩
  | .hbm, ⟨16, _⟩ => ⟨S64, .f32⟩
  | .hbm, ⟨17, _⟩ => ⟨S64, .f32⟩
  | .hbm, ⟨18, _⟩ => ⟨S_, .f32⟩
  | .hbm, ⟨19, _⟩ => ⟨S64, .f32⟩
  | .hbm, ⟨20, _⟩ => ⟨S64, .f32⟩
  | .hbm, ⟨21, _⟩ => ⟨S_, .f32⟩
  | .hbm, ⟨22, _⟩ => ⟨S64, .f32⟩
  | .hbm, ⟨23, _⟩ => ⟨S64, .f32⟩
  | .hbm, ⟨24, _⟩ => ⟨S8192, .f32⟩
  | .hbm, ⟨25, _⟩ => ⟨S8192x1, .f32⟩
  | .hbm, ⟨26, _⟩ => ⟨S1x64, .f32⟩
  | .hbm, ⟨27, _⟩ => ⟨S8192x64, .f32⟩
  | .hbm, ⟨28, _⟩ => ⟨S8192x64, .f32⟩
  | .hbm, ⟨29, _⟩ => ⟨S8192x64, .f32⟩
  | .hbm, ⟨30, _⟩ => ⟨S8192x64, .f32⟩
  | .hbm, ⟨31, _⟩ => ⟨S1x8192x1x64, .f32⟩
  | .hbm, ⟨32, _⟩ => ⟨S8192x64, .f32⟩
  | .hbm, ⟨33, _⟩ => ⟨S1x8192x1x64, .f32⟩
  | .hbm, ⟨34, _⟩ => ⟨S2x8192x24x64, .f32⟩
  | .hbm, ⟨35, _⟩ => ⟨S2x8192x24x64, .f32⟩
  | .hbm, ⟨36, _⟩ => ⟨S2x8192x24x64, .f32⟩
  | .hbm, ⟨37, _⟩ => ⟨S2x8192x24x64, .f32⟩
  | .hbm, ⟨38, _⟩ => ⟨S2x8192x24x64, .f32⟩
  | .hbm, ⟨39, _⟩ => ⟨S2x8192x24x64, .f32⟩
  | .hbm, ⟨40, _⟩ => ⟨S2x8192x24x64, .f32⟩
  | .hbm, ⟨41, _⟩ => ⟨S2x8192x24x64, .f32⟩
  | .hbm, ⟨42, _⟩ => ⟨S2x8192x24x64, .f32⟩
  | .hbm, ⟨43, _⟩ => ⟨S2x8192x24x64, .f32⟩
  | .hbm, ⟨44, _⟩ => ⟨S2x8192x24x64, .f32⟩
  | .hbm, ⟨45, _⟩ => ⟨S2x8192x24x64, .f32⟩
  | .hbm, ⟨46, _⟩ => ⟨S2x8192x24x128, .f32⟩
  | .hbm, ⟨47, _⟩ => ⟨S_, .f32⟩
  | .hbm, ⟨48, _⟩ => ⟨S2x8192x24x128, .f32⟩
  | .hbm, ⟨49, _⟩ => ⟨S2x8192x24x128, .f32⟩
  | .hbm, ⟨50, _⟩ => ⟨S2x8192x24x128, .f32⟩
  | .hbm, ⟨51, _⟩ => ⟨S64, .f32⟩
  | .hbm, ⟨52, _⟩ => ⟨S64, .f32⟩
  | .hbm, ⟨53, _⟩ => ⟨S_, .f32⟩
  | .hbm, ⟨54, _⟩ => ⟨S64, .f32⟩
  | .hbm, ⟨55, _⟩ => ⟨S64, .f32⟩
  | .hbm, ⟨56, _⟩ => ⟨S_, .f32⟩
  | .hbm, ⟨57, _⟩ => ⟨S64, .f32⟩
  | .hbm, ⟨58, _⟩ => ⟨S64, .f32⟩
  | .hbm, ⟨59, _⟩ => ⟨S8192, .f32⟩
  | .hbm, ⟨60, _⟩ => ⟨S8192x1, .f32⟩
  | .hbm, ⟨61, _⟩ => ⟨S1x64, .f32⟩
  | .hbm, ⟨62, _⟩ => ⟨S8192x64, .f32⟩
  | .hbm, ⟨63, _⟩ => ⟨S8192x64, .f32⟩
  | .hbm, ⟨64, _⟩ => ⟨S8192x64, .f32⟩
  | .hbm, ⟨65, _⟩ => ⟨S8192x64, .f32⟩
  | .hbm, ⟨66, _⟩ => ⟨S1x8192x1x64, .f32⟩
  | .hbm, ⟨67, _⟩ => ⟨S8192x64, .f32⟩
  | .hbm, ⟨68, _⟩ => ⟨S1x8192x1x64, .f32⟩
  | .hbm, ⟨69, _⟩ => ⟨S2x8192x24x64, .f32⟩
  | .hbm, ⟨70, _⟩ => ⟨S2x8192x24x64, .f32⟩
  | .hbm, ⟨71, _⟩ => ⟨S2x8192x24x64, .f32⟩
  | .hbm, ⟨72, _⟩ => ⟨S2x8192x24x64, .f32⟩
  | .hbm, ⟨73, _⟩ => ⟨S2x8192x24x64, .f32⟩
  | .hbm, ⟨74, _⟩ => ⟨S2x8192x24x64, .f32⟩
  | .hbm, ⟨75, _⟩ => ⟨S2x8192x24x64, .f32⟩
  | .hbm, ⟨76, _⟩ => ⟨S2x8192x24x64, .f32⟩
  | .hbm, ⟨77, _⟩ => ⟨S2x8192x24x64, .f32⟩
  | .hbm, ⟨78, _⟩ => ⟨S2x8192x24x64, .f32⟩
  | .hbm, ⟨79, _⟩ => ⟨S2x8192x24x64, .f32⟩
  | .hbm, ⟨80, _⟩ => ⟨S2x8192x24x64, .f32⟩
  | .hbm, ⟨81, _⟩ => ⟨S2x8192x24x128, .f32⟩
  | .hbm, ⟨82, _⟩ => ⟨S2x8192x3072, .f32⟩
  | .hbm, ⟨83, _⟩ => ⟨S2x8192x3072, .f32⟩
  | .hbm, ⟨84, _⟩ => ⟨S2x8192x1024, .f32⟩
  | .hbm, ⟨85, _⟩ => ⟨S2x8192x1024, .f32⟩
  | .hbm, ⟨86, _⟩ => ⟨S_, .f32⟩
  | .hbm, ⟨87, _⟩ => ⟨S2x8192x1024, .f32⟩
  | .hbm, ⟨88, _⟩ => ⟨S2x8192x1024, .f32⟩
  | .hbm, ⟨89, _⟩ => ⟨S_, .f32⟩
  | .hbm, ⟨90, _⟩ => ⟨S2x8192x1024, .f32⟩
  | .hbm, ⟨91, _⟩ => ⟨S2x8192x1024, .f32⟩
  | .hbm, ⟨92, _⟩ => ⟨S2x8192x1024, .f32⟩
  | .hbm, ⟨93, _⟩ => ⟨S2x8192x2048, .f32⟩
  | .hbm, ⟨94, _⟩ => ⟨S2x8192x2048, .f32⟩
  | .hbm, ⟨95, _⟩ => ⟨S_, .f32⟩
  | .hbm, ⟨96, _⟩ => ⟨S2x8192x2048, .f32⟩
  | .hbm, ⟨97, _⟩ => ⟨S2x8192x2048, .f32⟩
  | .hbm, ⟨98, _⟩ => ⟨S_, .f32⟩
  | .hbm, ⟨99, _⟩ => ⟨S2x8192x2048, .f32⟩
  | .hbm, ⟨100, _⟩ => ⟨S2x8192x2048, .f32⟩
  | .hbm, ⟨101, _⟩ => ⟨S2x8192x2048, .f32⟩
  | .hbm, ⟨102, _⟩ => ⟨S8192, .f32⟩
  | .hbm, ⟨103, _⟩ => ⟨S1x1x8192, .f32⟩
  | .hbm, ⟨104, _⟩ => ⟨S2x8192x8192, .f32⟩
  | .hbm, ⟨105, _⟩ => ⟨S2x8192x8192, .f32⟩
  | .hbm, ⟨106, _⟩ => ⟨S2x8192x8192, .f32⟩
  | .hbm, ⟨107, _⟩ => ⟨S2x8192x8192, .f32⟩
  | .hbm, ⟨108, _⟩ => ⟨S_, .f32⟩
  | .hbm, ⟨109, _⟩ => ⟨S2x8192x8192, .f32⟩
  | .hbm, ⟨110, _⟩ => ⟨S2x8192x8192, .f32⟩
  | .hbm, ⟨111, _⟩ => ⟨S_, .f32⟩
  | .hbm, ⟨112, _⟩ => ⟨S2x8192x8192, .f32⟩
  | .hbm, ⟨113, _⟩ => ⟨S2x8192x8192, .f32⟩
  | .hbm, ⟨114, _⟩ => ⟨S2x8192x22528, .f32⟩
  | .hbm, ⟨115, _⟩ => ⟨S16384x22528, .f32⟩
  | .hbm, ⟨116, _⟩ => ⟨S16384x22528, .bf16⟩
  | _, _ => ⟨S16384x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_cst : Ref sig .tc := ⟨.hbm, 18, rfl⟩
abbrev main_v15 : Ref sig .tc := ⟨.hbm, 19, rfl⟩
abbrev main_v16 : Ref sig .tc := ⟨.hbm, 20, rfl⟩
abbrev main_cst_0 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_v32 : Ref sig .tc := ⟨.hbm, 37, rfl⟩
abbrev main_v33 : Ref sig .tc := ⟨.hbm, 38, rfl⟩
abbrev main_v34 : Ref sig .tc := ⟨.hbm, 39, rfl⟩
abbrev main_v35 : Ref sig .tc := ⟨.hbm, 40, rfl⟩
abbrev main_v36 : Ref sig .tc := ⟨.hbm, 41, rfl⟩
abbrev main_v37 : Ref sig .tc := ⟨.hbm, 42, rfl⟩
abbrev main_v38 : Ref sig .tc := ⟨.hbm, 43, rfl⟩
abbrev main_v39 : Ref sig .tc := ⟨.hbm, 44, rfl⟩
abbrev main_v40 : Ref sig .tc := ⟨.hbm, 45, rfl⟩
abbrev main_v41 : Ref sig .tc := ⟨.hbm, 46, rfl⟩
abbrev main_cst_1 : Ref sig .tc := ⟨.hbm, 47, rfl⟩
abbrev main_v42 : Ref sig .tc := ⟨.hbm, 48, rfl⟩
abbrev main_v43 : Ref sig .tc := ⟨.hbm, 49, rfl⟩
abbrev main_v44 : Ref sig .tc := ⟨.hbm, 50, rfl⟩
abbrev main_v45 : Ref sig .tc := ⟨.hbm, 51, rfl⟩
abbrev main_v46 : Ref sig .tc := ⟨.hbm, 52, rfl⟩
abbrev main_cst_2 : Ref sig .tc := ⟨.hbm, 53, rfl⟩
abbrev main_v47 : Ref sig .tc := ⟨.hbm, 54, rfl⟩
abbrev main_v48 : Ref sig .tc := ⟨.hbm, 55, rfl⟩
abbrev main_cst_3 : Ref sig .tc := ⟨.hbm, 56, rfl⟩
abbrev main_v49 : Ref sig .tc := ⟨.hbm, 57, rfl⟩
abbrev main_v50 : Ref sig .tc := ⟨.hbm, 58, rfl⟩
abbrev main_v51 : Ref sig .tc := ⟨.hbm, 59, rfl⟩
abbrev main_v52 : Ref sig .tc := ⟨.hbm, 60, rfl⟩
abbrev main_v53 : Ref sig .tc := ⟨.hbm, 61, rfl⟩
abbrev main_v54 : Ref sig .tc := ⟨.hbm, 62, rfl⟩
abbrev main_v55 : Ref sig .tc := ⟨.hbm, 63, rfl⟩
abbrev main_v56 : Ref sig .tc := ⟨.hbm, 64, rfl⟩
abbrev main_v57 : Ref sig .tc := ⟨.hbm, 65, rfl⟩
abbrev main_v58 : Ref sig .tc := ⟨.hbm, 66, rfl⟩
abbrev main_v59 : Ref sig .tc := ⟨.hbm, 67, rfl⟩
abbrev main_v60 : Ref sig .tc := ⟨.hbm, 68, rfl⟩
abbrev main_v61 : Ref sig .tc := ⟨.hbm, 69, rfl⟩
abbrev main_v62 : Ref sig .tc := ⟨.hbm, 70, rfl⟩
abbrev main_v63 : Ref sig .tc := ⟨.hbm, 71, rfl⟩
abbrev main_v64 : Ref sig .tc := ⟨.hbm, 72, rfl⟩
abbrev main_v65 : Ref sig .tc := ⟨.hbm, 73, rfl⟩
abbrev main_v66 : Ref sig .tc := ⟨.hbm, 74, rfl⟩
abbrev main_v67 : Ref sig .tc := ⟨.hbm, 75, rfl⟩
abbrev main_v68 : Ref sig .tc := ⟨.hbm, 76, rfl⟩
abbrev main_v69 : Ref sig .tc := ⟨.hbm, 77, rfl⟩
abbrev main_v70 : Ref sig .tc := ⟨.hbm, 78, rfl⟩
abbrev main_v71 : Ref sig .tc := ⟨.hbm, 79, rfl⟩
abbrev main_v72 : Ref sig .tc := ⟨.hbm, 80, rfl⟩
abbrev main_v73 : Ref sig .tc := ⟨.hbm, 81, rfl⟩
abbrev main_v74 : Ref sig .tc := ⟨.hbm, 82, rfl⟩
abbrev main_v75 : Ref sig .tc := ⟨.hbm, 83, rfl⟩
abbrev main_call0_v0 : Ref sig .tc := ⟨.hbm, 84, rfl⟩
abbrev main_call0_v1 : Ref sig .tc := ⟨.hbm, 85, rfl⟩
abbrev main_call0_cst : Ref sig .tc := ⟨.hbm, 86, rfl⟩
abbrev main_call0_v2 : Ref sig .tc := ⟨.hbm, 87, rfl⟩
abbrev main_call0_v3 : Ref sig .tc := ⟨.hbm, 88, rfl⟩
abbrev main_call0_cst_0 : Ref sig .tc := ⟨.hbm, 89, rfl⟩
abbrev main_call0_v4 : Ref sig .tc := ⟨.hbm, 90, rfl⟩
abbrev main_call0_v5 : Ref sig .tc := ⟨.hbm, 91, rfl⟩
abbrev main_v76 : Ref sig .tc := ⟨.hbm, 92, rfl⟩
abbrev main_call1_v0 : Ref sig .tc := ⟨.hbm, 93, rfl⟩
abbrev main_call1_v1 : Ref sig .tc := ⟨.hbm, 94, rfl⟩
abbrev main_call1_cst : Ref sig .tc := ⟨.hbm, 95, rfl⟩
abbrev main_call1_v2 : Ref sig .tc := ⟨.hbm, 96, rfl⟩
abbrev main_call1_v3 : Ref sig .tc := ⟨.hbm, 97, rfl⟩
abbrev main_call1_cst_0 : Ref sig .tc := ⟨.hbm, 98, rfl⟩
abbrev main_call1_v4 : Ref sig .tc := ⟨.hbm, 99, rfl⟩
abbrev main_call1_v5 : Ref sig .tc := ⟨.hbm, 100, rfl⟩
abbrev main_v77 : Ref sig .tc := ⟨.hbm, 101, rfl⟩
abbrev main_v78 : Ref sig .tc := ⟨.hbm, 102, rfl⟩
abbrev main_v79 : Ref sig .tc := ⟨.hbm, 103, rfl⟩
abbrev main_v80 : Ref sig .tc := ⟨.hbm, 104, rfl⟩
abbrev main_v81 : Ref sig .tc := ⟨.hbm, 105, rfl⟩
abbrev main_v82 : Ref sig .tc := ⟨.hbm, 106, rfl⟩
abbrev main_v83 : Ref sig .tc := ⟨.hbm, 107, rfl⟩
abbrev main_cst_4 : Ref sig .tc := ⟨.hbm, 108, rfl⟩
abbrev main_v84 : Ref sig .tc := ⟨.hbm, 109, rfl⟩
abbrev main_v85 : Ref sig .tc := ⟨.hbm, 110, rfl⟩
abbrev main_cst_5 : Ref sig .tc := ⟨.hbm, 111, rfl⟩
abbrev main_v86 : Ref sig .tc := ⟨.hbm, 112, rfl⟩
abbrev main_v87 : Ref sig .tc := ⟨.hbm, 113, rfl⟩
abbrev main_v88 : Ref sig .tc := ⟨.hbm, 114, rfl⟩
abbrev main_v89 : Ref sig .tc := ⟨.hbm, 115, rfl⟩
abbrev main_v90 : Ref sig .tc := ⟨.hbm, 116, rfl⟩

abbrev nD : Nat := 1
abbrev τ : Topo := Topo.v7x

variable {F : FTy → Type} [FloatOps F]
-- ==== Mix.lean ====
abbrev S2x8192x1024 : Shape := ⟨3, ![2, 8192, 1024]⟩
abbrev S2x2048x4096 : Shape := ⟨3, ![2, 2048, 4096]⟩
abbrev S2x512x16384 : Shape := ⟨3, ![2, 512, 16384]⟩
abbrev S2x8192x128 : Shape := ⟨3, ![2, 8192, 128]⟩
abbrev S2x2048x512 : Shape := ⟨3, ![2, 2048, 512]⟩
abbrev S2x512x2048 : Shape := ⟨3, ![2, 512, 2048]⟩
abbrev S16384x22528 : Shape := ⟨2, ![16384, 22528]⟩
abbrev S16384x2048 : Shape := ⟨2, ![16384, 2048]⟩
abbrev S1x1024x4096 : Shape := ⟨3, ![1, 1024, 4096]⟩
abbrev S1x2048x4096 : Shape := ⟨3, ![1, 2048, 4096]⟩
abbrev S16384x1024 : Shape := ⟨2, ![16384, 1024]⟩
abbrev S16384x128 : Shape := ⟨2, ![16384, 128]⟩
abbrev S1024x4096 : Shape := ⟨2, ![1024, 4096]⟩
abbrev S2048x4096 : Shape := ⟨2, ![2048, 4096]⟩
abbrev S16384x4096 : Shape := ⟨2, ![16384, 4096]⟩
abbrev S512x1024 : Shape := ⟨2, ![512, 1024]⟩
abbrev S512x128 : Shape := ⟨2, ![512, 128]⟩
abbrev S512x2048 : Shape := ⟨2, ![512, 2048]⟩
abbrev S1024x1024 : Shape := ⟨2, ![1024, 1024]⟩
abbrev S2048x1024 : Shape := ⟨2, ![2048, 1024]⟩
abbrev S512x1 : Shape := ⟨2, ![512, 1]⟩

abbrev nBuf : Space → Nat
  | .hbm => 21
  | .vmem => 27
  | .smem => 0
  | _ => 0

abbrev bufTy : (tb : Table) → Fin (tcTables nBuf tb) → BufTy
  | .hbm, ⟨0, _⟩ => ⟨S2x8192x1024, .bf16⟩
  | .hbm, ⟨1, _⟩ => ⟨S2x2048x4096, .bf16⟩
  | .hbm, ⟨2, _⟩ => ⟨S2x512x16384, .bf16⟩
  | .hbm, ⟨3, _⟩ => ⟨S2x8192x128, .f32⟩
  | .hbm, ⟨4, _⟩ => ⟨S2x2048x512, .f32⟩
  | .hbm, ⟨5, _⟩ => ⟨S2x512x2048, .f32⟩
  | .hbm, ⟨6, _⟩ => ⟨S16384x22528, .bf16⟩
  | .hbm, ⟨7, _⟩ => ⟨S16384x2048, .bf16⟩
  | .hbm, ⟨8, _⟩ => ⟨S1x1024x4096, .f32⟩
  | .hbm, ⟨9, _⟩ => ⟨S1x2048x4096, .f32⟩
  | .hbm, ⟨10, _⟩ => ⟨S16384x1024, .bf16⟩
  | .hbm, ⟨11, _⟩ => ⟨S16384x1024, .bf16⟩
  | .hbm, ⟨12, _⟩ => ⟨S16384x1024, .bf16⟩
  | .hbm, ⟨13, _⟩ => ⟨S16384x128, .f32⟩
  | .hbm, ⟨14, _⟩ => ⟨S16384x128, .f32⟩
  | .hbm, ⟨15, _⟩ => ⟨S16384x128, .f32⟩
  | .hbm, ⟨16, _⟩ => ⟨S1024x4096, .f32⟩
  | .hbm, ⟨17, _⟩ => ⟨S1024x4096, .bf16⟩
  | .hbm, ⟨18, _⟩ => ⟨S2048x4096, .f32⟩
  | .hbm, ⟨19, _⟩ => ⟨S2048x4096, .bf16⟩
  | .hbm, ⟨20, _⟩ => ⟨S16384x4096, .bf16⟩
  | .local _ .vmem, ⟨0, _⟩ => ⟨S512x1024, .bf16⟩
  | .local _ .vmem, ⟨1, _⟩ => ⟨S512x1024, .bf16⟩
  | .local _ .vmem, ⟨2, _⟩ => ⟨S512x1024, .bf16⟩
  | .local _ .vmem, ⟨3, _⟩ => ⟨S512x1024, .bf16⟩
  | .local _ .vmem, ⟨4, _⟩ => ⟨S512x1024, .bf16⟩
  | .local _ .vmem, ⟨5, _⟩ => ⟨S512x1024, .bf16⟩
  | .local _ .vmem, ⟨6, _⟩ => ⟨S512x128, .f32⟩
  | .local _ .vmem, ⟨7, _⟩ => ⟨S512x128, .f32⟩
  | .local _ .vmem, ⟨8, _⟩ => ⟨S512x128, .f32⟩
  | .local _ .vmem, ⟨9, _⟩ => ⟨S512x128, .f32⟩
  | .local _ .vmem, ⟨10, _⟩ => ⟨S512x128, .f32⟩
  | .local _ .vmem, ⟨11, _⟩ => ⟨S512x128, .f32⟩
  | .local _ .vmem, ⟨12, _⟩ => ⟨S512x1024, .bf16⟩
  | .local _ .vmem, ⟨13, _⟩ => ⟨S512x1024, .bf16⟩
  | .local _ .vmem, ⟨14, _⟩ => ⟨S512x2048, .bf16⟩
  | .local _ .vmem, ⟨15, _⟩ => ⟨S512x2048, .bf16⟩
  | .local _ .vmem, ⟨16, _⟩ => ⟨S1024x1024, .bf16⟩
  | .local _ .vmem, ⟨17, _⟩ => ⟨S1024x1024, .bf16⟩
  | .local _ .vmem, ⟨18, _⟩ => ⟨S2048x1024, .bf16⟩
  | .local _ .vmem, ⟨19, _⟩ => ⟨S2048x1024, .bf16⟩
  | .local _ .vmem, ⟨20, _⟩ => ⟨S512x1024, .bf16⟩
  | .local _ .vmem, ⟨21, _⟩ => ⟨S512x1024, .bf16⟩
  | .local _ .vmem, ⟨22, _⟩ => ⟨S512x1024, .bf16⟩
  | .local _ .vmem, ⟨23, _⟩ => ⟨S512x1024, .bf16⟩
  | .local _ .vmem, ⟨24, _⟩ => ⟨S512x1024, .bf16⟩
  | .local _ .vmem, ⟨25, _⟩ => ⟨S512x1024, .bf16⟩
  | .local _ .vmem, ⟨26, _⟩ => ⟨S512x1024, .bf16⟩
  | _, _ => ⟨S2x8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_scratch0 : Ref sig .tc := ⟨.vmem, 26, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25

abbrev nD : Nat := 1
abbrev τ : Topo := Topo.v7x

variable {F : FTy → Type} [FloatOps F]

abbrev grid0 : Pipeline.Grid := ⟨2, ![32, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c9_i32 : BitVec 32 := 9#32
  let c0_i32 : BitVec 32 := 0#32
  ![arg0.toNat, c9_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_10 (i : grid0.Coords) : Fin 2 → Nat :=
  let arg0 : BitVec 32 := BitVec.ofNat 32 (i 0).val
  let arg1 : BitVec 32 := BitVec.ofNat 32 (i 1).val
  let c14_i32 : BitVec 32 := 14#32
  let v0 : BitVec 32 := Scalar.addi c14_i32 arg1
  let c0_i32 : BitVec 32 := 0#32
  ![arg0.toNat, v0.toNat]

def cc0_transform_11 (i : grid0.Coords) : Fin 2 → Nat :=
  let arg0 : BitVec 32 := BitVec.ofNat 32 (i 0).val
  let arg1 : BitVec 32 := BitVec.ofNat 32 (i 1).val
  let c18_i32 : BitVec 32 := 18#32
  let v0 : BitVec 32 := Scalar.addi c18_i32 arg1
  let c0_i32 : BitVec 32 := 0#32
  ![arg0.toNat, v0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S512x2048 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S1024x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![false, true]

abbrev stage0_9 : Fin 2 → Memref sig .tc .vmem S2048x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![false, true]

abbrev stage0_10 : Fin 2 → Memref sig .tc .vmem S512x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S512x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S512x1024 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]
-- ==== MixRefIdeal.lean ====
abbrev S2x8192x1024 : Shape := ⟨3, ![2, 8192, 1024]⟩
abbrev S2x2048x4096 : Shape := ⟨3, ![2, 2048, 4096]⟩
abbrev S2x512x16384 : Shape := ⟨3, ![2, 512, 16384]⟩
abbrev S2x8192x128 : Shape := ⟨3, ![2, 8192, 128]⟩
abbrev S2x2048x512 : Shape := ⟨3, ![2, 2048, 512]⟩
abbrev S2x512x2048 : Shape := ⟨3, ![2, 512, 2048]⟩
abbrev S16384x22528 : Shape := ⟨2, ![16384, 22528]⟩
abbrev S16384x2048 : Shape := ⟨2, ![16384, 2048]⟩
abbrev S1x1024x4096 : Shape := ⟨3, ![1, 1024, 4096]⟩
abbrev S1x2048x4096 : Shape := ⟨3, ![1, 2048, 4096]⟩
abbrev S16384x8x128 : Shape := ⟨3, ![16384, 8, 128]⟩
abbrev S1x16384x8x128 : Shape := ⟨4, ![1, 16384, 8, 128]⟩
abbrev S3x16384x8x128 : Shape := ⟨4, ![3, 16384, 8, 128]⟩
abbrev S16384x128 : Shape := ⟨2, ![16384, 128]⟩
abbrev S16384x8 : Shape := ⟨2, ![16384, 8]⟩
abbrev S1x16384x8 : Shape := ⟨3, ![1, 16384, 8]⟩
abbrev S3x16384x8 : Shape := ⟨3, ![3, 16384, 8]⟩
abbrev S_ : Shape := ⟨0, ![]⟩
abbrev S3x16384x8x1 : Shape := ⟨4, ![3, 16384, 8, 1]⟩
abbrev S16384x1024 : Shape := ⟨2, ![16384, 1024]⟩
abbrev S16384x4096 : Shape := ⟨2, ![16384, 4096]⟩
abbrev S1024x4096 : Shape := ⟨2, ![1024, 4096]⟩
abbrev S2048x4096 : Shape := ⟨2, ![2048, 4096]⟩

abbrev nBuf : Space → Nat
  | .hbm => 64
  | .vmem => 0
  | .smem => 0
  | _ => 0

abbrev bufTy : (tb : Table) → Fin (tcTables nBuf tb) → BufTy
  | .hbm, ⟨0, _⟩ => ⟨S2x8192x1024, .bf16⟩
  | .hbm, ⟨1, _⟩ => ⟨S2x2048x4096, .bf16⟩
  | .hbm, ⟨2, _⟩ => ⟨S2x512x16384, .bf16⟩
  | .hbm, ⟨3, _⟩ => ⟨S2x8192x128, .f32⟩
  | .hbm, ⟨4, _⟩ => ⟨S2x2048x512, .f32⟩
  | .hbm, ⟨5, _⟩ => ⟨S2x512x2048, .f32⟩
  | .hbm, ⟨6, _⟩ => ⟨S16384x22528, .bf16⟩
  | .hbm, ⟨7, _⟩ => ⟨S16384x2048, .bf16⟩
  | .hbm, ⟨8, _⟩ => ⟨S1x1024x4096, .f32⟩
  | .hbm, ⟨9, _⟩ => ⟨S1x2048x4096, .f32⟩
  | .hbm, ⟨10, _⟩ => ⟨S2x8192x1024, .f32⟩
  | .hbm, ⟨11, _⟩ => ⟨S16384x8x128, .f32⟩
  | .hbm, ⟨12, _⟩ => ⟨S2x2048x4096, .f32⟩
  | .hbm, ⟨13, _⟩ => ⟨S16384x8x128, .f32⟩
  | .hbm, ⟨14, _⟩ => ⟨S2x512x16384, .f32⟩
  | .hbm, ⟨15, _⟩ => ⟨S16384x8x128, .f32⟩
  | .hbm, ⟨16, _⟩ => ⟨S1x16384x8x128, .f32⟩
  | .hbm, ⟨17, _⟩ => ⟨S1x16384x8x128, .f32⟩
  | .hbm, ⟨18, _⟩ => ⟨S1x16384x8x128, .f32⟩
  | .hbm, ⟨19, _⟩ => ⟨S3x16384x8x128, .f32⟩
  | .hbm, ⟨20, _⟩ => ⟨S16384x128, .f32⟩
  | .hbm, ⟨21, _⟩ => ⟨S16384x8, .f32⟩
  | .hbm, ⟨22, _⟩ => ⟨S16384x128, .f32⟩
  | .hbm, ⟨23, _⟩ => ⟨S16384x8, .f32⟩
  | .hbm, ⟨24, _⟩ => ⟨S16384x128, .f32⟩
  | .hbm, ⟨25, _⟩ => ⟨S16384x8, .f32⟩
  | .hbm, ⟨26, _⟩ => ⟨S1x16384x8, .f32⟩
  | .hbm, ⟨27, _⟩ => ⟨S1x16384x8, .f32⟩
  | .hbm, ⟨28, _⟩ => ⟨S1x16384x8, .f32⟩
  | .hbm, ⟨29, _⟩ => ⟨S3x16384x8, .f32⟩
  | .hbm, ⟨30, _⟩ => ⟨S_, .f32⟩
  | .hbm, ⟨31, _⟩ => ⟨S16384x8, .f32⟩
  | .hbm, ⟨32, _⟩ => ⟨S_, .f32⟩
  | .hbm, ⟨33, _⟩ => ⟨S16384x8, .f32⟩
  | .hbm, ⟨34, _⟩ => ⟨S16384x8, .f32⟩
  | .hbm, ⟨35, _⟩ => ⟨S1x16384x8, .f32⟩
  | .hbm, ⟨36, _⟩ => ⟨S3x16384x8, .f32⟩
  | .hbm, ⟨37, _⟩ => ⟨S3x16384x8, .f32⟩
  | .hbm, ⟨38, _⟩ => ⟨S3x16384x8, .f32⟩
  | .hbm, ⟨39, _⟩ => ⟨S_, .f32⟩
  | .hbm, ⟨40, _⟩ => ⟨S16384x8, .f32⟩
  | .hbm, ⟨41, _⟩ => ⟨S1x16384x8, .f32⟩
  | .hbm, ⟨42, _⟩ => ⟨S3x16384x8, .f32⟩
  | .hbm, ⟨43, _⟩ => ⟨S3x16384x8, .f32⟩
  | .hbm, ⟨44, _⟩ => ⟨S3x16384x8x1, .f32⟩
  | .hbm, ⟨45, _⟩ => ⟨S3x16384x8x128, .f32⟩
  | .hbm, ⟨46, _⟩ => ⟨S3x16384x8x128, .f32⟩
  | .hbm, ⟨47, _⟩ => ⟨S_, .f32⟩
  | .hbm, ⟨48, _⟩ => ⟨S16384x8x128, .f32⟩
  | .hbm, ⟨49, _⟩ => ⟨S16384x1024, .f32⟩
  | .hbm, ⟨50, _⟩ => ⟨S16384x22528, .f32⟩
  | .hbm, ⟨51, _⟩ => ⟨S16384x1024, .f32⟩
  | .hbm, ⟨52, _⟩ => ⟨S16384x4096, .f32⟩
  | .hbm, ⟨53, _⟩ => ⟨S16384x4096, .f32⟩
  | .hbm, ⟨54, _⟩ => ⟨S16384x1024, .f32⟩
  | .hbm, ⟨55, _⟩ => ⟨S1024x4096, .f32⟩
  | .hbm, ⟨56, _⟩ => ⟨S16384x4096, .f32⟩
  | .hbm, ⟨57, _⟩ => ⟨S16384x2048, .f32⟩
  | .hbm, ⟨58, _⟩ => ⟨S2048x4096, .f32⟩
  | .hbm, ⟨59, _⟩ => ⟨S16384x4096, .f32⟩
  | .hbm, ⟨60, _⟩ => ⟨S16384x4096, .f32⟩
  | .hbm, ⟨61, _⟩ => ⟨S16384x4096, .f32⟩
  | .hbm, ⟨62, _⟩ => ⟨S16384x4096, .f32⟩
  | .hbm, ⟨63, _⟩ => ⟨S16384x4096, .bf16⟩
  | _, _ => ⟨S2x8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_cst : Ref sig .tc := ⟨.hbm, 30, rfl⟩
abbrev main_v20 : Ref sig .tc := ⟨.hbm, 31, rfl⟩
abbrev main_cst_0 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_cst_1 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_cst_2 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩

abbrev nD : Nat := 1
abbrev τ : Topo := Topo.v7x

variable {F : FTy → Type} [FloatOps F]
-- ==== OutProj.lean ====
abbrev S2x8192x4096 : Shape := ⟨3, ![2, 8192, 4096]⟩
abbrev S16384x4096 : Shape := ⟨2, ![16384, 4096]⟩
abbrev S1x4096x4096 : Shape := ⟨3, ![1, 4096, 4096]⟩
abbrev S4096 : Shape := ⟨1, ![4096]⟩
abbrev S4096x4096 : Shape := ⟨2, ![4096, 4096]⟩
abbrev S1x4096 : Shape := ⟨2, ![1, 4096]⟩
abbrev S512x512 : Shape := ⟨2, ![512, 512]⟩
abbrev S512x4096 : Shape := ⟨2, ![512, 4096]⟩
abbrev S4096x512 : Shape := ⟨2, ![4096, 512]⟩
abbrev S8x512x512 : Shape := ⟨3, ![8, 512, 512]⟩
abbrev S1x512x512 : Shape := ⟨3, ![1, 512, 512]⟩
abbrev S512x1 : Shape := ⟨2, ![512, 1]⟩
abbrev S512 : Shape := ⟨1, ![512]⟩
abbrev S1x512 : Shape := ⟨2, ![1, 512]⟩

abbrev nBuf : Space → Nat
  | .hbm => 9
  | .vmem => 10
  | .smem => 0
  | _ => 0

abbrev bufTy : (tb : Table) → Fin (tcTables nBuf tb) → BufTy
  | .hbm, ⟨0, _⟩ => ⟨S2x8192x4096, .f32⟩
  | .hbm, ⟨1, _⟩ => ⟨S16384x4096, .bf16⟩
  | .hbm, ⟨2, _⟩ => ⟨S1x4096x4096, .f32⟩
  | .hbm, ⟨3, _⟩ => ⟨S4096, .f32⟩
  | .hbm, ⟨4, _⟩ => ⟨S16384x4096, .f32⟩
  | .hbm, ⟨5, _⟩ => ⟨S4096x4096, .f32⟩
  | .hbm, ⟨6, _⟩ => ⟨S4096x4096, .bf16⟩
  | .hbm, ⟨7, _⟩ => ⟨S1x4096, .f32⟩
  | .hbm, ⟨8, _⟩ => ⟨S16384x4096, .f32⟩
  | .local _ .vmem, ⟨0, _⟩ => ⟨S512x512, .f32⟩
  | .local _ .vmem, ⟨1, _⟩ => ⟨S512x512, .f32⟩
  | .local _ .vmem, ⟨2, _⟩ => ⟨S512x4096, .bf16⟩
  | .local _ .vmem, ⟨3, _⟩ => ⟨S512x4096, .bf16⟩
  | .local _ .vmem, ⟨4, _⟩ => ⟨S4096x512, .bf16⟩
  | .local _ .vmem, ⟨5, _⟩ => ⟨S4096x512, .bf16⟩
  | .local _ .vmem, ⟨6, _⟩ => ⟨S1x4096, .f32⟩
  | .local _ .vmem, ⟨7, _⟩ => ⟨S512x4096, .f32⟩
  | .local _ .vmem, ⟨8, _⟩ => ⟨S512x4096, .f32⟩
  | .local _ .vmem, ⟨9, _⟩ => ⟨S8x512x512, .f32⟩
  | _, _ => ⟨S2x8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_scratch0 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![32, 8], ![false, false]⟩

def k0_off1 (i : grid0.Coords) : Fin 3 → Nat :=
  let arg1 : BitVec 32 := BitVec.ofNat 32 (i 1).val
  let v7 : Index := Scalar.indexCast arg1
  let c0_5 : Index := 0#32
  let c0_6 : Index := 0#32
  ![v7.toNat, 0, 0]
def k0_cond1 (i : grid0.Coords) : BitVec 1 :=
  let arg1 : BitVec 32 := BitVec.ofNat 32 (i 1).val
  let c7_i32 : BitVec 32 := 7#32
  let v11 : BitVec 1 := Scalar.cmpi .eq arg1 c7_i32
  let v12 : BitVec 32 := Scalar.extui v11
  let c0_i32 : BitVec 32 := 0#32
  let v13 : BitVec 1 := Scalar.cmpi .ne v12 c0_i32
  v13

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S4096x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 1 → Memref sig .tc .vmem S1x4096 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S512x4096 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]
-- ==== OutProjRefIdeal.lean ====
abbrev S2x8192x4096 : Shape := ⟨3, ![2, 8192, 4096]⟩
abbrev S16384x4096 : Shape := ⟨2, ![16384, 4096]⟩
abbrev S1x4096x4096 : Shape := ⟨3, ![1, 4096, 4096]⟩
abbrev S4096 : Shape := ⟨1, ![4096]⟩
abbrev S4096x4096 : Shape := ⟨2, ![4096, 4096]⟩
abbrev S_ : Shape := ⟨0, ![]⟩
abbrev S2x8192 : Shape := ⟨2, ![2, 8192]⟩
abbrev S2x8192x1 : Shape := ⟨3, ![2, 8192, 1]⟩
abbrev S1x1x4096 : Shape := ⟨3, ![1, 1, 4096]⟩

abbrev nBuf : Space → Nat
  | .hbm => 26
  | .vmem => 0
  | .smem => 0
  | _ => 0

abbrev bufTy : (tb : Table) → Fin (tcTables nBuf tb) → BufTy
  | .hbm, ⟨0, _⟩ => ⟨S2x8192x4096, .f32⟩
  | .hbm, ⟨1, _⟩ => ⟨S16384x4096, .bf16⟩
  | .hbm, ⟨2, _⟩ => ⟨S1x4096x4096, .f32⟩
  | .hbm, ⟨3, _⟩ => ⟨S4096, .f32⟩
  | .hbm, ⟨4, _⟩ => ⟨S16384x4096, .f32⟩
  | .hbm, ⟨5, _⟩ => ⟨S2x8192x4096, .f32⟩
  | .hbm, ⟨6, _⟩ => ⟨S4096x4096, .f32⟩
  | .hbm, ⟨7, _⟩ => ⟨S2x8192x4096, .f32⟩
  | .hbm, ⟨8, _⟩ => ⟨S2x8192x4096, .f32⟩
  | .hbm, ⟨9, _⟩ => ⟨S2x8192x4096, .f32⟩
  | .hbm, ⟨10, _⟩ => ⟨S_, .f32⟩
  | .hbm, ⟨11, _⟩ => ⟨S2x8192, .f32⟩
  | .hbm, ⟨12, _⟩ => ⟨S2x8192x1, .f32⟩
  | .hbm, ⟨13, _⟩ => ⟨S_, .f32⟩
  | .hbm, ⟨14, _⟩ => ⟨S2x8192x1, .f32⟩
  | .hbm, ⟨15, _⟩ => ⟨S2x8192x1, .f32⟩
  | .hbm, ⟨16, _⟩ => ⟨S_, .f32⟩
  | .hbm, ⟨17, _⟩ => ⟨S2x8192x1, .f32⟩
  | .hbm, ⟨18, _⟩ => ⟨S2x8192x1, .f32⟩
  | .hbm, ⟨19, _⟩ => ⟨S2x8192x1, .f32⟩
  | .hbm, ⟨20, _⟩ => ⟨S2x8192x4096, .f32⟩
  | .hbm, ⟨21, _⟩ => ⟨S2x8192x4096, .f32⟩
  | .hbm, ⟨22, _⟩ => ⟨S1x1x4096, .f32⟩
  | .hbm, ⟨23, _⟩ => ⟨S2x8192x4096, .f32⟩
  | .hbm, ⟨24, _⟩ => ⟨S2x8192x4096, .f32⟩
  | .hbm, ⟨25, _⟩ => ⟨S16384x4096, .f32⟩
  | _, _ => ⟨S2x8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst : Ref sig .tc := ⟨.hbm, 10, rfl⟩
abbrev main_v6 : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_v9 : Ref sig .tc := ⟨.hbm, 15, rfl⟩
abbrev main_cst_1 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩

abbrev nD : Nat := 1
abbrev τ : Topo := Topo.v7x

variable {F : FTy → Type} [FloatOps F]
-- ==== Proof.BandedSoftmax.lean ====
/- The arithmetic of banded attention on extended reals, apart from any program.

A query row meets a window of `ι` key slots in the kernel and the whole row of `κ` keys in the reference. The slots the
kernel's mask lets through (`P`) are carried one to one onto the keys of the band (`Q`) by a map `f`; every other score is
`⊥` on both sides and contributes nothing. The kernel divides once at the end, the reference subtracts the logarithm of the
normaliser first: for finite scores the two are equal. -/
module

public import Idealize.ShloMosaic.Lib.Pointwise

@[expose] public section

namespace Cert.Banded

open Idealize.ShloMosaic

/-- The slots satisfying `P` are carried one to one onto the keys satisfying `Q`, and there is at least one. -/
structure Carries {ι κ : Type} (P : ι → Prop) (Q : κ → Prop) (f : ι → κ) : Prop where
  maps : ∀ c, P c → Q (f c)
  inj : ∀ c d, P c → P d → f c = f d → c = d
  onto : ∀ j, Q j → ∃ c, P c ∧ f c = j
  some : ∃ c, P c

variable {ι κ : Type} [Fintype ι] [Fintype κ] {P : ι → Prop} {Q : κ → Prop} {f : ι → κ}

/-- Two sums agree when their terms agree along the map and vanish off the band. -/
theorem Carries.sum_eq (h : Carries P Q f) (g : ι → EReal) (g' : κ → EReal) (h0 : ∀ c, ¬ P c → g c = 0)
    (h0' : ∀ j, ¬ Q j → g' j = 0) (hg : ∀ c, P c → g c = g' (f c)) : ∑ c, g c = ∑ j, g' j := by
  classical
  rw [← Finset.sum_filter_of_ne (p := P) (fun c _ hc => by by_contra hp; exact hc (h0 c hp)),
    ← Finset.sum_filter_of_ne (p := Q) (f := g') (fun c _ hc => by by_contra hp; exact hc (h0' c hp))]
  refine Finset.sum_bij (fun c _ => f c) ?_ ?_ ?_ ?_
  · intro c hc; simp only [Finset.mem_filter, Finset.mem_univ, true_and] at hc ⊢; exact h.maps c hc
  · intro c hc d hd hcd
    simp only [Finset.mem_filter, Finset.mem_univ, true_and] at hc hd
    exact h.inj c d hc hd hcd
  · intro j hj
    simp only [Finset.mem_filter, Finset.mem_univ, true_and] at hj
    obtain ⟨c, hc, rfl⟩ := h.onto j hj
    exact ⟨c, by simpa using hc, rfl⟩
  · intro c hc
    simp only [Finset.mem_filter, Finset.mem_univ, true_and] at hc
    exact hg c hc

/-- Two maxima agree when the entries agree along the map and are `⊥` off the band. -/
theorem Carries.sup_eq (h : Carries P Q f) (g : ι → EReal) (g' : κ → EReal) (h0 : ∀ c, ¬ P c → g c = ⊥)
    (h0' : ∀ j, ¬ Q j → g' j = ⊥) (hg : ∀ c, P c → g c = g' (f c)) :
    Finset.univ.sup g = Finset.univ.sup g' := by
  classical
  apply le_antisymm
  · refine Finset.sup_le fun c _ => ?_
    by_cases hp : P c
    · rw [hg c hp]; exact Finset.le_sup (f := g') (Finset.mem_univ _)
    · rw [h0 c hp]; exact bot_le
  · refine Finset.sup_le fun j _ => ?_
    by_cases hq : Q j
    · obtain ⟨c, hc, rfl⟩ := h.onto j hq
      rw [← hg c hc]; exact Finset.le_sup (f := g) (Finset.mem_univ _)
    · rw [h0' j hq]; exact bot_le

/-- A finite nonnegative factor moves out of a sum of extended reals. -/
theorem sum_mul_coe (g : κ → EReal) (r : ℝ) (hr : 0 ≤ r) (s : Finset κ) :
    ∑ j ∈ s, g j * (r : EReal) = (∑ j ∈ s, g j) * (r : EReal) := by
  classical
  induction s using Finset.induction_on with
  | empty => simp
  | insert a s ha ih =>
    rw [Finset.sum_insert ha, Finset.sum_insert ha, ih]
    exact (EReal.right_distrib_of_nonneg_of_ne_top (by exact_mod_cast hr) (EReal.coe_ne_top r) _ _).symm

/-- The largest of finitely many scores, finite on a nonempty band and `⊥` off it, is finite. -/
theorem sup_finite (g : κ → EReal) (h0 : ∀ j, g j ≠ ⊤) (hs : ∃ j, g j ≠ ⊥) :
    ∃ M : ℝ, Finset.univ.sup g = (M : EReal) := by
  have hne : (Finset.univ : Finset κ).Nonempty := ⟨hs.choose, Finset.mem_univ _⟩
  obtain ⟨j, -, hj⟩ := Finset.exists_mem_eq_sup Finset.univ hne g
  have ht : Finset.univ.sup g ≠ ⊤ := by rw [hj]; exact h0 j
  have hb : Finset.univ.sup g ≠ ⊥ := by
    obtain ⟨k, hk⟩ := hs
    intro he
    exact hk (le_bot_iff.1 (he ▸ Finset.le_sup (f := g) (Finset.mem_univ k)))
  exact ⟨(Finset.univ.sup g).toReal, (EReal.coe_toReal ht hb).symm⟩

/-- The normaliser of finite scores is a positive real. -/
theorem norm_finite (g : κ → EReal) (h0 : ∀ j, g j ≠ ⊤) (hs : ∃ j, g j ≠ ⊥) (M : ℝ) :
    ∃ L : ℝ, 0 < L ∧ ∑ j, Ideal.exp (g j - (M : EReal)) = (L : EReal) := by
  classical
  have hr : ∀ j, ∃ e : ℝ, 0 ≤ e ∧ (g j ≠ ⊥ → 0 < e) ∧ Ideal.exp (g j - (M : EReal)) = (e : EReal) := by
    intro j
    rcases eq_or_ne (g j) ⊥ with hb | hb
    · exact ⟨0, le_rfl, fun h => absurd hb h, by rw [hb, EReal.bot_sub]; simp⟩
    · refine ⟨Real.exp ((g j).toReal - M), (Real.exp_pos _).le, fun _ => Real.exp_pos _, ?_⟩
      conv_lhs => rw [← EReal.coe_toReal (h0 j) hb]
      rw [← EReal.coe_sub, Ideal.exp_coe]
  choose e he hpos hee using hr
  refine ⟨∑ j, e j, ?_, ?_⟩
  · obtain ⟨k, hk⟩ := hs
    exact Finset.sum_pos' (fun j _ => he j) ⟨k, Finset.mem_univ _, hpos k hk⟩
  · rw [Finset.sum_congr rfl fun j _ => hee j]
    exact (map_sum (⟨⟨Real.toEReal, EReal.coe_zero⟩, EReal.coe_add⟩ : ℝ →+ EReal) e Finset.univ).symm

variable [DecidablePred P] [DecidablePred Q]

/-- The weighted sum of a row: dividing by the normaliser at the end, over the kernel's slots, is the same as
    subtracting its logarithm from every score first, over the reference's keys. -/
theorem out_eq (h : Carries P Q f) (S : ι → EReal) (S' : κ → EReal) (W : ι → EReal) (W' : κ → EReal)
    (h0 : ∀ c, ¬ P c → S c = ⊥) (h0' : ∀ j, ¬ Q j → S' j = ⊥) (hS : ∀ c, P c → S c = S' (f c))
    (hfin : ∀ j, Q j → S' j ≠ ⊥ ∧ S' j ≠ ⊤) (hW : ∀ c, P c → W c = W' (f c)) :
    Ideal.div (∑ c, Ideal.exp (S c - Finset.univ.sup S) * W c) (∑ c, Ideal.exp (S c - Finset.univ.sup S))
      = ∑ j, Ideal.exp (S' j - (Finset.univ.sup S' + Ideal.log (∑ j, Ideal.exp (S' j - Finset.univ.sup S')))) * W' j := by
  have hM := h.sup_eq S S' h0 h0' hS
  have htop : ∀ j, S' j ≠ ⊤ := fun j => by
    by_cases hq : Q j
    · exact (hfin j hq).2
    · rw [h0' j hq]; exact bot_ne_top
  have hsome : ∃ j, S' j ≠ ⊥ := by
    obtain ⟨c, hc⟩ := h.some
    exact ⟨f c, (hfin _ (h.maps c hc)).1⟩
  obtain ⟨M, hMr⟩ := sup_finite S' htop hsome
  obtain ⟨L, hL, hLr⟩ := norm_finite S' htop hsome M
  have hl : ∑ c, Ideal.exp (S c - Finset.univ.sup S) = ∑ j, Ideal.exp (S' j - Finset.univ.sup S') :=
    h.sum_eq _ _ (fun c hc => by rw [h0 c hc, EReal.bot_sub]; rfl) (fun j hj => by rw [h0' j hj, EReal.bot_sub]; rfl)
      (fun c hc => by rw [hS c hc, hM])
  have ho : ∑ c, Ideal.exp (S c - Finset.univ.sup S) * W c = ∑ j, Ideal.exp (S' j - Finset.univ.sup S') * W' j :=
    h.sum_eq _ _ (fun c hc => by rw [h0 c hc, EReal.bot_sub]; simp) (fun j hj => by rw [h0' j hj, EReal.bot_sub]; simp)
      (fun c hc => by rw [hS c hc, hM, hW c hc])
  rw [hl, ho, hMr, hLr, Ideal.div_coe hL.ne', Ideal.log_coe, if_neg (not_le.2 hL), ← EReal.coe_add,
    ← sum_mul_coe _ _ (by positivity)]
  refine Finset.sum_congr rfl fun j _ => ?_
  rw [mul_right_comm]
  congr 1
  rcases eq_or_ne (S' j) ⊥ with hb | hb
  · rw [hb, EReal.bot_sub, EReal.bot_sub]; simp
  · rw [← EReal.coe_toReal (htop j) hb, ← EReal.coe_sub, ← EReal.coe_sub, Ideal.exp_coe, Ideal.exp_coe, ← EReal.coe_mul]
    congr 1
    rw [← sub_sub, Real.exp_sub _ (Real.log L), Real.exp_log hL]
    ring

/-- The logarithm of the normaliser of a row is the same over the kernel's slots and over the reference's keys. -/
theorem lse_eq (h : Carries P Q f) (S : ι → EReal) (S' : κ → EReal)
    (h0 : ∀ c, ¬ P c → S c = ⊥) (h0' : ∀ j, ¬ Q j → S' j = ⊥) (hS : ∀ c, P c → S c = S' (f c)) :
    Finset.univ.sup S + Ideal.log (∑ c, Ideal.exp (S c - Finset.univ.sup S))
      = Finset.univ.sup S' + Ideal.log (∑ j, Ideal.exp (S' j - Finset.univ.sup S')) := by
  have hM := h.sup_eq S S' h0 h0' hS
  rw [hM]
  congr 2
  exact h.sum_eq _ _ (fun c hc => by rw [h0 c hc, EReal.bot_sub]; rfl) (fun j hj => by rw [h0' j hj, EReal.bot_sub]; rfl)
    (fun c hc => by rw [hS c hc])

end Cert.Banded
-- ==== Proof.BandedHead.lean ====
/- One attention head of one tile of 128 query rows, as the kernel computes it: the score tile under its mask, the
   normalised weighted sum, and the logarithm of the normaliser, each read at an index. -/
module

public import proofs.«01_k».proof.Proof.BandedSoftmax
public import proofs.«01_k».proof.Proof.Gen.AttnOneIdeal.Skeleton
public import Idealize.ShloMosaic.Lib.Pointwise
public import Idealize.ShloMosaic.Lib.WordCmp
public import Idealize.ShloMosaic.Lib.Pipeline.ValueKit

@[expose] public section

set_option maxRecDepth 16384

noncomputable section

namespace Cert.Banded

open Idealize.ShloMosaic Idealize.ShloMosaic.TcCoe Idealize.SL.Sem
open Cert.AttnOneIdeal Cert.AttnOneIdeal.Gen

/-- The mask of a tile: within the band, and the key's position `o + column` inside `0 ≤ · < s`. -/
def maskAt (o s : BitVec 32) : IVec S128x256 1 :=
  andi (andi k0_pay9 (cmpi .sge (addi (broadcast S128x256 o) (iota .tc S128x256 32 [1] iota_S128x256_d1_w32)) (broadcast S128x256 0#32)))
    (cmpi .slt (addi (broadcast S128x256 o) (iota .tc S128x256 32 [1] iota_S128x256_d1_w32)) (broadcast S128x256 s))

/-- The score tile: query rows against key rows where the mask allows, the mask's name elsewhere. -/
def score (b : IVec S128x256 1) (q : FVec Ideal S1x128x128 .bf16) (k : FVec Ideal S256x128 .bf16) : FVec Ideal S128x256 .f32 :=
  select b (matmul dot_S128x128_S256x128_S128x256_1_1_0_0_n_n none (shapeCast S128x128 q shapeCasts_S1x128x128_S128x128) k
    (constant S128x256 .f32 0x00000000#32)) (broadcast S128x256 (Named.named κ "mask" 0xF149F2CA#32))

/-- The largest score of every row. -/
def rowMax (s : FVec Ideal S128x256 .f32) : FVec Ideal S128x1 .f32 :=
  shapeCast S128x1 (multiReduction .maximumf [1] S128 s 0xFF800000#32 reduces_S128x256_S128 (.inl rfl) rfl) shapeCasts_S128_S128x1

/-- The exponentials of the scores less their row's largest. -/
def weights (s : FVec Ideal S128x256 .f32) : FVec Ideal S128x256 .f32 :=
  exp (subf s (broadcastTo S128x256 (rowMax s) broadcasts_S128x1_S128x256))

/-- The normaliser of every row. -/
def rowSum (s : FVec Ideal S128x256 .f32) : FVec Ideal S128x1 .f32 :=
  shapeCast S128x1 (multiReduction .add [1] S128 (weights s) 0x00000000#32 reduces_S128x256_S128 (.inl rfl) rfl) shapeCasts_S128_S128x1

/-- A head's output tile. -/
def headOut (s : FVec Ideal S128x256 .f32) (v : FVec Ideal S256x128 .bf16) : FVec Ideal S1x128x128 .bf16 :=
  shapeCast S1x128x128 (truncf .bf16 (divf (matmul dot_S128x256_S256x128_S128x128_1_0_0_1_n_n none (truncf .bf16 (weights s) bitsLt_bf16_f32) v
    (constant S128x128 .f32 0x00000000#32)) (broadcastTo S128x128 (rowSum s) broadcasts_S128x1_S128x128)) bitsLt_bf16_f32) shapeCasts_S128x128_S1x128x128

/-- A head's logarithm of the normaliser. -/
def headLse (s : FVec Ideal S128x256 .f32) : FVec Ideal S128x1 .f32 := addf (rowMax s) (log (rowSum s))

/-- One more lane of the tile of logarithms: lane `n` takes the head's column, the others keep what they had. -/
def lane (n : BitVec 32) (l : FVec Ideal S128x1 .f32) (acc : FVec Ideal S128x128 .f32) : FVec Ideal S128x128 .f32 :=
  select (cmpi .eq (iota .tc S128x128 32 [1] iota_S128x128_d1_w32) (broadcast S128x128 n))
    (broadcastTo S128x128 (shapeCast S128x1 l shapeCasts_S128x1_S128x1) broadcasts_S128x1_S128x128) acc

/-- The bits of −∞ are the bottom element. -/
theorem ofBits_bot : Ideal.ofBits .f32 0xFF800000#32 = ⊥ := by simp [Ideal.ofBits, Ideal.ieee]

/-- The running maximum from −∞ is the least upper bound. -/
theorem fold_max {ι : Type} [Fintype ι] (f : ι → EReal) :
    Finset.fold max (Ideal.ofBits .f32 0xFF800000#32) f Finset.univ = Finset.univ.sup f := by rw [ofBits_bot]; rfl

/-- A masked score is the dot product where the mask's bit is set, −∞ elsewhere. -/
theorem score_at (b : IVec S128x256 1) (q : FVec Ideal S1x128x128 .bf16) (k : FVec Ideal S256x128 .bf16) (r : Fin 128) (c : Fin 256) :
    score b q k (ix2 r c) = if b (ix2 r c) = 1#1 then ∑ e : Fin 128, q (ix3 0 r e) * k (ix2 c e) else ⊥ := by
  pointwise [score]
  rfl

/-- A head's output: the weighted values over the normaliser. -/
theorem headOut_at (s : FVec Ideal S128x256 .f32) (v : FVec Ideal S256x128 .bf16) (z : Fin 1) (r : Fin 128) (d : Fin 128) :
    headOut s v (ix3 z r d) = Ideal.div (∑ c : Fin 256, Ideal.exp (s (ix2 r c) - Finset.univ.sup fun c => s (ix2 r c)) * v (ix2 c d))
      (∑ c : Fin 256, Ideal.exp (s (ix2 r c) - Finset.univ.sup fun c => s (ix2 r c))) := by
  pointwise [headOut, rowSum, weights, rowMax]
  rw [fold_max]

/-- A head's logarithm of the normaliser. -/
theorem headLse_at (s : FVec Ideal S128x256 .f32) (r : Fin 128) (z : Fin 1) :
    headLse s (ix2 r z) = (Finset.univ.sup fun c : Fin 256 => s (ix2 r c))
      + Ideal.log (∑ c : Fin 256, Ideal.exp (s (ix2 r c) - Finset.univ.sup fun c => s (ix2 r c))) := by
  pointwise [headLse, rowSum, weights, rowMax]
  rw [fold_max]

/-- A lane of the tile of logarithms. -/
theorem lane_at (n : ℕ) (hn : n < 128) (l : FVec Ideal S128x1 .f32) (acc : FVec Ideal S128x128 .f32) (r : Fin 128) (x : Fin 128) :
    lane (BitVec.ofNat 32 n) l acc (ix2 r x) = if (x : ℕ) = n then l (ix2 r 0) else acc (ix2 r x) := by
  pointwise [lane]
  have hx := x.isLt
  rw [WordCmp.cmpi_eq_eq, Scalar.select]
  by_cases h : (x : ℕ) = n
  · simp [h]
  · have : BitVec.ofNat 32 x ≠ BitVec.ofNat 32 n := fun e => h ((WordCmp.ofNat_eq_ofNat_iff (by omega) (by omega)).1 e)
    simp [h, this]

/-- The mask's bit: within 64 of the row, and the key's position (the tile starts at `base`) inside the sequence. -/
theorem maskAt_iff (o s : BitVec 32) (base sub : ℕ) (ho : o.toInt = (base : ℤ) - 64) (hs : s.toInt = sub) (hb : base ≤ 8192)
    (r : Fin 128) (c : Fin 256) :
    maskAt o s (ix2 r c) = 1#1 ↔ ((r : ℕ) ≤ c ∧ (c : ℕ) ≤ r + 128 ∧ 64 ≤ base + c ∧ base + c < sub + 64) := by
  pointwise [maskAt, k0_pay9]
  have hr := r.isLt
  have hc := c.isLt
  have er : (BitVec.ofNat 32 (r : ℕ)).toInt = (r : ℤ) := Idealize.ShloMosaic.WordCmp.toInt_ofNat_of_lt (by omega)
  have ec : (BitVec.ofNat 32 (c : ℕ)).toInt = (c : ℤ) := Idealize.ShloMosaic.WordCmp.toInt_ofNat_of_lt (by omega)
  have e64 : (64#32 : BitVec 32).toInt = 64 := by decide
  have em : (4294967232#32 : BitVec 32).toInt = -64 := by decide
  have e1 : (IntOp.subi (BitVec.ofNat 32 (c : ℕ)) 64#32).toInt = (c : ℤ) - 64 := by
    rw [IntOp.subi, BitVec.toInt_sub, ec, e64]; exact Int.bmod_eq_of_le (by omega) (by omega)
  have e2 : (IntOp.subi (IntOp.subi (BitVec.ofNat 32 (c : ℕ)) 64#32) (BitVec.ofNat 32 (r : ℕ))).toInt = (c : ℤ) - 64 - r := by
    rw [IntOp.subi, BitVec.toInt_sub, e1, er]; exact Int.bmod_eq_of_le (by omega) (by omega)
  have e3 : (IntOp.addi o (BitVec.ofNat 32 (c : ℕ))).toInt = (base : ℤ) - 64 + c := by
    rw [IntOp.addi, BitVec.toInt_add, ho, ec]; exact Int.bmod_eq_of_le (by omega) (by omega)
  rw [IntOp.andi_eq_one, IntOp.andi_eq_one, IntOp.andi_eq_one, IntOp.cmpi_sle, IntOp.cmpi_sge, IntOp.cmpi_sge, IntOp.cmpi_slt,
    e2, e3, e64, em, hs, show (0#32 : BitVec 32).toInt = 0 by decide]
  omega

/-- The integer zero as a float is zero. -/
theorem sitofp_zero : FloatOps.sitofp (F := Ideal) .f32 (0#32) = 0 := by
  show (((0#32 : BitVec 32).toInt : ℝ) : EReal) = 0
  simp

/-- The reference's mask: the distance between two positions is at most 64. -/
theorem dist_iff (n : ℕ) (hn : n ≤ 8192) (i j : Fin n) :
    IntOp.cmpi .sle (IntOp.absi (IntOp.subi (BitVec.ofNat 32 (j : ℕ)) (BitVec.ofNat 32 (i : ℕ)))) 64#32 = 1#1
      ↔ ((j : ℕ) ≤ i + 64 ∧ (i : ℕ) ≤ j + 64) := by
  have hi := i.isLt
  have hj := j.isLt
  have ei : (BitVec.ofNat 32 (i : ℕ)).toInt = (i : ℤ) := Idealize.ShloMosaic.WordCmp.toInt_ofNat_of_lt (by omega)
  have ej : (BitVec.ofNat 32 (j : ℕ)).toInt = (j : ℤ) := Idealize.ShloMosaic.WordCmp.toInt_ofNat_of_lt (by omega)
  have e64 : (64#32 : BitVec 32).toInt = 64 := by decide
  have e1 : (IntOp.subi (BitVec.ofNat 32 (j : ℕ)) (BitVec.ofNat 32 (i : ℕ))).toInt = (j : ℤ) - i := by
    rw [IntOp.subi, BitVec.toInt_sub, ej, ei]; exact Int.bmod_eq_of_le (by omega) (by omega)
  rw [IntOp.cmpi_sle, e64, IntOp.absi, BitVec.msb_eq_toInt, e1]
  split <;> rename_i hs <;> simp only [decide_eq_true_eq] at hs
  · rw [BitVec.toInt_neg, e1, Int.bmod_eq_of_le (by omega) (by omega)]; omega
  · rw [e1]; omega

/-- A host maximum over one axis from −∞ is the least upper bound over that axis. -/
theorem hostMax {s t u : Shape} {a : Fin s.rank} {n : ℕ} (x : s.Idx → EReal) (init : u.Idx → EReal) (h' : s.ReducesTo [a] t)
    (h : s.Reduces [a] t) (hu : 0 < u.numel) (hi : init (Shape.Idx.first hu) = ⊥) (j : t.Idx) (hn : n = s.size a)
    (e : Fin n → s.Idx) (he : ∀ k, h.lift j (Fin.cast hn k) = e k) :
    Host.reduce max x init h' hu j = Finset.univ.sup fun k => x (e k) := by
  subst hn
  rw [Host.reduce_eq_fold_single max x init h' h hu j, hi, show (x ∘ h.lift j) = fun k => x (e k) from funext fun k => congrArg x (he k)]
  rfl

/-- The key (or value) slab a step assembles: 64 rows before the tile, its 256, 64 after. -/
def slab (A : Vec Ideal S1x64x1024 .bf16) (B : Vec Ideal S1x256x1024 .bf16) (C : Vec Ideal S1x64x1024 .bf16) : S384x1024.Idx → Elt Ideal .bf16 :=
  View.canon [⟨Rect.unit ![320, 0] ![64, 1024] inb_S384x1024_S64x1024_320_0, k0_pay5 C⟩,
    ⟨Rect.unit ![64, 0] ![256, 1024] inb_S384x1024_S256x1024_64_0, k0_pay4 B⟩,
    ⟨Rect.unit ![0, 0] ![64, 1024] inb_S384x1024_S64x1024_0_0, k0_pay3 A⟩]

/-- A row of the slab is the row of the block it came from. -/
theorem slab_at (A : Vec Ideal S1x64x1024 .bf16) (B : Vec Ideal S1x256x1024 .bf16) (C : Vec Ideal S1x64x1024 .bf16)
    (v : Elt Ideal .bf16) (ρ : Fin 384) (c : Fin 1024) (hA : ∀ r : Fin 64, (ρ : ℕ) = r → A (ix3 0 r c) = v)
    (hB : ∀ r : Fin 256, (ρ : ℕ) = 64 + r → B (ix3 0 r c) = v) (hC : ∀ r : Fin 64, (ρ : ℕ) = 320 + r → C (ix3 0 r c) = v) :
    slab A B C (ix2 ρ c) = v := by
  have hρ := ρ.isLt
  have hc := c.isLt
  have mem (o n : ℕ) (inb) (h0 : o ≤ ρ) (h1 : (ρ : ℕ) < o + n) : ix2 ρ c ∈ (Rect.unit (s := S384x1024) ![o, 0] ![n, 1024] inb).set := by
    rw [Rect.mem_set_unit]
    intro a
    match a with
    | ⟨0, _⟩ => exact ⟨h0, h1⟩
    | ⟨1, _⟩ => exact ⟨Nat.zero_le _, by show (c : ℕ) < 0 + 1024; omega⟩
  have cover : ∃ p ∈ ([⟨Rect.unit ![320, 0] ![64, 1024] inb_S384x1024_S64x1024_320_0, k0_pay5 C⟩,
      ⟨Rect.unit ![64, 0] ![256, 1024] inb_S384x1024_S256x1024_64_0, k0_pay4 B⟩,
      ⟨Rect.unit ![0, 0] ![64, 1024] inb_S384x1024_S64x1024_0_0, k0_pay3 A⟩] : List (View.Piece (Elt Ideal) S384x1024 .bf16)),
      ix2 ρ c ∈ p.1.set := by
    by_cases h0 : (ρ : ℕ) < 64
    · exact ⟨_, .tail _ (.tail _ (.head _)), mem 0 64 inb_S384x1024_S64x1024_0_0 (by omega) (by omega)⟩
    · by_cases h1 : (ρ : ℕ) < 320
      · exact ⟨_, .tail _ (.head _), mem 64 256 inb_S384x1024_S256x1024_64_0 (by omega) (by omega)⟩
      · exact ⟨_, .head _, mem 320 64 inb_S384x1024_S64x1024_320_0 (by omega) (by omega)⟩
  unfold slab
  clear mem
  canon_tiles y e using cover
  · idx_vars y
    obtain rfl : c = y1 := Fin.ext e1
    refine Eq.trans ?_ (hC y0 e0)
    pointwise [k0_pay5]
  · idx_vars y
    obtain rfl : c = y1 := Fin.ext e1
    refine Eq.trans ?_ (hB y0 e0)
    pointwise [k0_pay4]
  · idx_vars y
    obtain rfl : c = y1 := Fin.ext e1
    refine Eq.trans ?_ (hA y0 e0)
    pointwise [k0_pay3]

/-- A load of 256 rows of 128 columns of the slab. -/
theorem slab_load {sig : RefSig} {κ : Kind} {sp : Space} (w : View sig κ sp S384x1024 .bf16) (A : Vec Ideal S1x64x1024 .bf16)
    (B : Vec Ideal S1x256x1024 .bf16) (C : Vec Ideal S1x64x1024 .bf16) (r : Rect S384x1024) :
    w.readCov (Val := Elt Ideal) [⟨Rect.unit ![320, 0] ![64, 1024] inb_S384x1024_S64x1024_320_0, k0_pay5 C⟩,
      ⟨Rect.unit ![64, 0] ![256, 1024] inb_S384x1024_S256x1024_64_0, k0_pay4 B⟩,
      ⟨Rect.unit ![0, 0] ![64, 1024] inb_S384x1024_S64x1024_0_0, k0_pay3 A⟩] r.toLoadRect = View.ld (slab A B C) r :=
  View.readCov_eq_canon' _ _ _

/-- A head's tile of a slab, read at an index. -/
theorem slab_tile {sig : RefSig} {κ : Kind} {sp : Space} (w : View sig κ sp S384x1024 .bf16) (A : Vec Ideal S1x64x1024 .bf16)
    (B : Vec Ideal S1x256x1024 .bf16) (C : Vec Ideal S1x64x1024 .bf16) (a : Fin 2) (h : Fin 8) (o₁ o₂ : ℕ) (h₁ : o₁ = 128 * a)
    (h₂ : o₂ = h * 128) (inb : ∀ d, (![o₁, o₂] : Fin 2 → ℕ) d + (![256, 128] : Fin 2 → ℕ) d ≤ S384x1024.size d) (y : Fin 256) (e : Fin 128) :
    w.readCov (Val := Elt Ideal) [⟨Rect.unit ![320, 0] ![64, 1024] inb_S384x1024_S64x1024_320_0, k0_pay5 C⟩,
      ⟨Rect.unit ![64, 0] ![256, 1024] inb_S384x1024_S256x1024_64_0, k0_pay4 B⟩,
      ⟨Rect.unit ![0, 0] ![64, 1024] inb_S384x1024_S64x1024_0_0, k0_pay3 A⟩] (Rect.unit (s := S384x1024) ![o₁, o₂] ![256, 128] inb).toLoadRect
        (ix2 y e)
      = slab A B C (ix2 ⟨128 * a + y, by omega⟩ ⟨h * 128 + e, by omega⟩) := by
  rw [slab_load]
  refine View.ld_unit_apply_of (S := S384x1024) (slab A B C) _ _ inb _ _ fun d => ?_
  match d with
  | ⟨0, _⟩ => exact congrArg (· + (y : ℕ)) h₁.symm
  | ⟨1, _⟩ => exact congrArg (· + (e : ℕ)) h₂.symm

/-- A head's tile of queries, read at an index. -/
theorem query_tile (X : Vec Ideal S1x256x1024 .bf16) (a : Fin 2) (h : Fin 8) (o₁ o₂ : ℕ) (h₁ : o₁ = 128 * a) (h₂ : o₂ = h * 128)
    (inb : ∀ d, (![0, o₁, o₂] : Fin 3 → ℕ) d + (![1, 128, 128] : Fin 3 → ℕ) d ≤ S1x256x1024.size d) (r e : Fin 128) :
    View.ld (S := S1x256x1024) (Val := Elt Ideal) (e' := .bf16) X (Rect.unit ![0, o₁, o₂] ![1, 128, 128] inb) (ix3 0 r e)
      = X (ix3 0 ⟨128 * a + r, by omega⟩ ⟨h * 128 + e, by omega⟩) := by
  refine View.ld_unit_apply_of X _ _ inb _ _ fun d => ?_
  match d with
  | ⟨0, _⟩ => rfl
  | ⟨1, _⟩ => exact congrArg (· + (r : ℕ)) h₁.symm
  | ⟨2, _⟩ => exact congrArg (· + (e : ℕ)) h₂.symm

end Cert.Banded

end
end
-- ==== Proof.BandedTile.lean ====
/- One row of one head's tile against the whole sequence: the band of 256 columns the tile holds carries every key within
   64 of the query, so the tile's deferred division is the normalised sum over the whole sequence. -/
module

public import proofs.«01_k».proof.Proof.BandedHead

@[expose] public section

set_option maxRecDepth 16384

noncomputable section

namespace Cert.Banded

open Idealize.ShloMosaic Idealize.ShloMosaic.TcCoe Idealize.SL.Sem
open Cert.AttnOneIdeal Cert.AttnOneIdeal.Gen

/-- The scores of query `i` over the whole sequence: the dot product within 64, −∞ elsewhere. -/
def seqScore {n : ℕ} (qf : Fin 128 → EReal) (kf : Fin n → Fin 128 → EReal) (i j : Fin n) : EReal :=
  if (j : ℕ) ≤ i + 64 ∧ (i : ℕ) ≤ j + 64 then ∑ e : Fin 128, qf e * kf j e else ⊥

/-- The logarithm of the normaliser of scores over a sequence. -/
def seqLse {n : ℕ} (s : Fin n → EReal) : EReal :=
  Finset.univ.sup s + Ideal.log (∑ j, Ideal.exp (s j - Finset.univ.sup s))

/-- A dot product of finite rows is finite. -/
theorem dot_finite {n : ℕ} (a b : Fin n → EReal) (ha : ∀ e, a e ≠ ⊥ ∧ a e ≠ ⊤) (hb : ∀ e, b e ≠ ⊥ ∧ b e ≠ ⊤) :
    ∑ e, a e * b e ≠ ⊥ ∧ ∑ e, a e * b e ≠ ⊤ := by
  have h : ∑ e, a e * b e = ((∑ e, (a e).toReal * (b e).toReal : ℝ) : EReal) := by
    rw [show ((∑ e, (a e).toReal * (b e).toReal : ℝ) : EReal) = ∑ e, (((a e).toReal * (b e).toReal : ℝ) : EReal) from
      map_sum (⟨⟨Real.toEReal, EReal.coe_zero⟩, EReal.coe_add⟩ : ℝ →+ EReal) _ _]
    refine Finset.sum_congr rfl fun e _ => ?_
    rw [EReal.coe_mul, EReal.coe_toReal (ha e).2 (ha e).1, EReal.coe_toReal (hb e).2 (hb e).1]
  rw [h]
  exact ⟨EReal.coe_ne_bot _, EReal.coe_ne_top _⟩

section

variable {n : ℕ} (hn : n ≤ 8192) (o s : BitVec 32) (base : ℕ) (ho : o.toInt = (base : ℤ) - 64) (hs : s.toInt = (n : ℤ))
  (r : Fin 128) (i : Fin n) (hi : (i : ℕ) = base + r)

include hn ho hs hi

/-- The columns the mask keeps carry exactly the keys within 64 of the query. -/
theorem carries : Carries (fun c : Fin 256 => maskAt o s (ix2 r c) = 1#1) (fun j : Fin n => (j : ℕ) ≤ i + 64 ∧ (i : ℕ) ≤ j + 64)
    (fun c => ⟨min (base + c - 64) (n - 1), by have := i.isLt; omega⟩) := by
  have hb : base ≤ 8192 := by have := i.isLt; omega
  have hm (c : Fin 256) := maskAt_iff o s base n ho hs hb r c
  have hin := i.isLt
  have hr := r.isLt
  refine ⟨fun c hc => ?_, fun c d hc hd e => ?_, fun j hj => ?_, ?_⟩
  · have := (hm c).1 hc
    show min (base + (c : ℕ) - 64) (n - 1) ≤ i + 64 ∧ (i : ℕ) ≤ min (base + (c : ℕ) - 64) (n - 1) + 64
    omega
  · have h1 := (hm c).1 hc
    have h2 := (hm d).1 hd
    have e : min (base + (c : ℕ) - 64) (n - 1) = min (base + (d : ℕ) - 64) (n - 1) := congrArg Fin.val e
    exact Fin.ext (by omega)
  · have hj' := j.isLt
    refine ⟨⟨j + 64 - base, by omega⟩, (hm _).2 ?_, Fin.ext ?_⟩
    · show (r : ℕ) ≤ j + 64 - base ∧ (j : ℕ) + 64 - base ≤ r + 128 ∧ 64 ≤ base + ((j : ℕ) + 64 - base) ∧ base + ((j : ℕ) + 64 - base) < n + 64
      omega
    · show min (base + ((j : ℕ) + 64 - base) - 64) (n - 1) = j
      omega
  · exact ⟨⟨r + 64, by omega⟩, (hm _).2 (by show (r : ℕ) ≤ r + 64 ∧ (r : ℕ) + 64 ≤ r + 128 ∧ 64 ≤ base + ((r : ℕ) + 64) ∧ base + ((r : ℕ) + 64) < n + 64; omega)⟩

variable (q : FVec Ideal S1x128x128 .bf16) (k v : FVec Ideal S256x128 .bf16) (qf : Fin 128 → EReal) (kf : Fin n → Fin 128 → EReal)
  (hq : ∀ e, q (ix3 0 r e) = qf e) (hk : ∀ (c : Fin 256) (e : Fin 128) (j : Fin n), (j : ℕ) + 64 = base + c → k (ix2 c e) = kf j e)

include hq hk

/-- On a kept column the tile's score is the sequence's. -/
theorem score_eq (c : Fin 256) (hc : maskAt o s (ix2 r c) = 1#1) :
    score (maskAt o s) q k (ix2 r c) = seqScore qf kf i ⟨min (base + c - 64) (n - 1), by have := i.isLt; omega⟩ := by
  have hb : base ≤ 8192 := by have := i.isLt; omega
  have h1 := (maskAt_iff o s base n ho hs hb r c).1 hc
  have h2 := (carries hn o s base ho hs r i hi).maps c hc
  rw [score_at, if_pos hc, seqScore, if_pos h2]
  refine Finset.sum_congr rfl fun e _ => ?_
  rw [hq, hk c e ⟨min (base + c - 64) (n - 1), by have := i.isLt; omega⟩ (by show min (base + (c : ℕ) - 64) (n - 1) + 64 = base + c; omega)]

/-- A row of a head's logarithms is the sequence's. -/
theorem headLse_eq (z : Fin 1) : headLse (score (maskAt o s) q k) (ix2 r z) = seqLse (seqScore qf kf i) := by
  rw [headLse_at, seqLse]
  refine lse_eq (carries hn o s base ho hs r i hi) (fun c => score (maskAt o s) q k (ix2 r c)) (seqScore qf kf i) (fun c hc => ?_)
    (fun j hj => if_neg hj) (fun c hc => score_eq hn o s base ho hs r i hi q k qf kf hq hk c hc)
  show score (maskAt o s) q k (ix2 r c) = ⊥
  rw [score_at, if_neg hc]

/-- A row of a head's output is the sequence's normalised sum. -/
theorem headOut_eq (d : Fin 128) (vf : Fin n → EReal) (hv : ∀ (c : Fin 256) (j : Fin n), (j : ℕ) + 64 = base + c → v (ix2 c d) = vf j)
    (hqf : ∀ e, qf e ≠ ⊥ ∧ qf e ≠ ⊤) (hkf : ∀ j e, kf j e ≠ ⊥ ∧ kf j e ≠ ⊤) (z : Fin 1) :
    headOut (score (maskAt o s) q k) v (ix3 z r d)
      = ∑ j, vf j * Ideal.exp (seqScore qf kf i j - seqLse (seqScore qf kf i)) := by
  have hb : base ≤ 8192 := by have := i.isLt; omega
  rw [headOut_at]
  refine (out_eq (carries hn o s base ho hs r i hi) (fun c => score (maskAt o s) q k (ix2 r c)) (seqScore qf kf i)
    (fun c => v (ix2 c d)) vf (fun c hc => ?_)
    (fun j hj => if_neg hj) (fun c hc => score_eq hn o s base ho hs r i hi q k qf kf hq hk c hc) (fun j hj => ?_) (fun c hc => ?_)).trans
    (Finset.sum_congr rfl fun j _ => mul_comm _ _)
  · show score (maskAt o s) q k (ix2 r c) = ⊥
    rw [score_at, if_neg hc]
  · rw [seqScore, if_pos hj]
    exact dot_finite _ _ hqf (hkf j)
  · have h1 := (maskAt_iff o s base n ho hs hb r c).1 hc
    exact hv c _ (by show min (base + (c : ℕ) - 64) (n - 1) + 64 = base + c; omega)

end

/-- Where the first half-tile's columns start: 64 before its first row. -/
theorem off_lo (t : ℕ) (h : t ≤ 31) :
    (Scalar.addi (Scalar.muli (BitVec.ofNat 32 t) 256#32) 4294967232#32).toInt = ((t * 256 + 128 * 0 : ℕ) : ℤ) - 64 := by
  have et : (BitVec.ofNat 32 t).toInt = (t : ℤ) := Idealize.ShloMosaic.WordCmp.toInt_ofNat_of_lt (by omega)
  have e1 : (Scalar.muli (BitVec.ofNat 32 t) 256#32).toInt = (t : ℤ) * 256 := by
    show (BitVec.ofNat 32 t * 256#32).toInt = _
    rw [BitVec.toInt_mul, et, show (256#32 : BitVec 32).toInt = 256 by decide]; exact Int.bmod_eq_of_le (by omega) (by omega)
  show (Scalar.muli (BitVec.ofNat 32 t) 256#32 + 4294967232#32).toInt = _
  rw [BitVec.toInt_add, e1, show (4294967232#32 : BitVec 32).toInt = -64 by decide, Int.bmod_eq_of_le (by omega) (by omega)]
  omega

/-- Where the second half-tile's columns start: 64 before its first row. -/
theorem off_hi (t : ℕ) (h : t ≤ 31) :
    (Scalar.addi (Scalar.muli (BitVec.ofNat 32 t) 256#32) 64#32).toInt = ((t * 256 + 128 * 1 : ℕ) : ℤ) - 64 := by
  have et : (BitVec.ofNat 32 t).toInt = (t : ℤ) := Idealize.ShloMosaic.WordCmp.toInt_ofNat_of_lt (by omega)
  have e1 : (Scalar.muli (BitVec.ofNat 32 t) 256#32).toInt = (t : ℤ) * 256 := by
    show (BitVec.ofNat 32 t * 256#32).toInt = _
    rw [BitVec.toInt_mul, et, show (256#32 : BitVec 32).toInt = 256 by decide]; exact Int.bmod_eq_of_le (by omega) (by omega)
  show (Scalar.muli (BitVec.ofNat 32 t) 256#32 + 64#32).toInt = _
  rw [BitVec.toInt_add, e1, show (64#32 : BitVec 32).toInt = 64 by decide, Int.bmod_eq_of_le (by omega) (by omega)]
  omega

/-- The tile of logarithms: eight lanes, one a head, over zeros. -/
def lanes (l : Fin 8 → FVec Ideal S128x1 .f32) : FVec Ideal S1x128x128 .f32 :=
  shapeCast S1x128x128 (lane 7#32 (l 7) (lane 6#32 (l 6) (lane 5#32 (l 5) (lane 4#32 (l 4) (lane 3#32 (l 3) (lane 2#32 (l 2)
    (lane 1#32 (l 1) (lane 0#32 (l 0) (constant S128x128 .f32 0x00000000#32))))))))) shapeCasts_S128x128_S1x128x128

/-- A lane under eight holds its head's logarithm, the others zero. -/
theorem lanes_at (l : Fin 8 → FVec Ideal S128x1 .f32) (z : Fin 1) (r x : Fin 128) :
    lanes l (ix3 z r x) = if hx : (x : ℕ) < 8 then l ⟨x, hx⟩ (ix2 r 0) else 0 := by
  have e : lanes l (ix3 z r x) = lane 7#32 (l 7) (lane 6#32 (l 6) (lane 5#32 (l 5) (lane 4#32 (l 4) (lane 3#32 (l 3) (lane 2#32 (l 2)
      (lane 1#32 (l 1) (lane 0#32 (l 0) (constant S128x128 .f32 0x00000000#32)))))))) (ix2 r x) := by
    unfold lanes
    generalize lane 7#32 _ _ = T
    pointwise
  rw [e, lane_at 7 (by omega), lane_at 6 (by omega), lane_at 5 (by omega), lane_at 4 (by omega), lane_at 3 (by omega),
    lane_at 2 (by omega), lane_at 1 (by omega), lane_at 0 (by omega)]
  by_cases hx : (x : ℕ) < 8
  · rw [dif_pos hx]
    obtain ⟨x, hx'⟩ := x
    obtain rfl | rfl | rfl | rfl | rfl | rfl | rfl | rfl : x = 0 ∨ x = 1 ∨ x = 2 ∨ x = 3 ∨ x = 4 ∨ x = 5 ∨ x = 6 ∨ x = 7 := by
      simp only at hx; omega
    all_goals rfl
  · rw [dif_neg hx, if_neg (by omega), if_neg (by omega), if_neg (by omega), if_neg (by omega), if_neg (by omega), if_neg (by omega),
      if_neg (by omega), if_neg (by omega)]
    exact Ideal.ofBits_zero .f32

end Cert.Banded

end
end
-- ==== Proof.AttnOneRef.lean ====
/- The reference of the attention at dilation 1, read at an index: the masked scores, the logarithm of the normaliser,
   the output and the padded array of logarithms. -/
module

public import proofs.«01_k».proof.Proof.BandedTile
public import proofs.«01_k».proof.Proof.Gen.AttnOneRefIdeal.Read

@[expose] public section

set_option maxRecDepth 16384

noncomputable section

namespace Cert.AttnOneRefIdeal.Spec

open Idealize.ShloMosaic Idealize.ShloMosaic.TcCoe Idealize.SL.Sem
open Cert.Banded Cert.AttnOneRefIdeal Cert.AttnOneRefIdeal.Gen Cert.AttnOneRefIdeal.Read

variable (x : (⟨S16384x22528, .bf16⟩ : BufTy).Contents (Elt Ideal)) (b : Fin 2) (r : Fin 1) (h : Fin 8)

/-- A query's row of one head. -/
abbrev rowQ (i : Fin 8192) (e : Fin 128) : EReal := x (ix2 ⟨b * 8192 + i, by omega⟩ ⟨h * 128 + e, by omega⟩)

/-- A key's row of one head. -/
abbrev rowK (j : Fin 8192) (e : Fin 128) : EReal := x (ix2 ⟨b * 8192 + j, by omega⟩ ⟨3072 + (h * 128 + e), by omega⟩)

/-- A value's row of one head. -/
abbrev rowV (j : Fin 8192) (d : Fin 128) : EReal := x (ix2 ⟨b * 8192 + j, by omega⟩ ⟨6144 + (h * 128 + d), by omega⟩)

/-- A masked score: the dot product of the query's and the key's head where they lie within 64, −∞ elsewhere. -/
theorem score_at (i j : Fin 8192) :
    val_main_v28 (F := Ideal) x (ix5 b r h i j) = seqScore (rowQ x b h i) (rowK x b h) i j := by
  rw [seqScore]
  rw [← if_congr (dist_iff 8192 (by omega) i j) rfl rfl]
  pointwise [val_main_v28, val_main_call0_v2, val_main_call0_v1, val_main_call0_v0, val_main_v27, val_main_v26, val_main_v25,
    val_main_v24, val_main_v23, val_main_v22, val_main_v21, val_main_v20, val_main_v19, val_main_v18, val_main_c, val_main_cst,
    val_main_v17, val_main_v12, val_main_v11, val_main_v10, val_main_v9, val_main_v8, val_main_v7, val_main_v6, val_main_v5,
    val_main_v3, val_main_v2, val_main_v1, val_main_v0]
  rw [show id (constant S_ .f32 0xFF800000#32 : FVec Ideal S_ .f32) ix0 = ⊥ from ofBits_bot]
  rfl

/-- The largest score of a query. -/
theorem max_at (i : Fin 8192) :
    val_main_v29 (F := Ideal) x (ix4 b r h i) = Finset.univ.sup fun j : Fin 8192 => val_main_v28 (F := Ideal) x (ix5 b r h i j) := by
  unfold val_main_v29
  generalize val_main_v28 x = s
  exact hostMax s _ reducesTo_S2x1x8x8192x8192_S2x1x8x8192_d4 (by decide) h_S_ ofBits_bot _ rfl (fun j => ix5 b r h i j) fun k =>
    funext fun a => Fin.ext (by match a with | ⟨0, _⟩ => rfl | ⟨1, _⟩ => rfl | ⟨2, _⟩ => rfl | ⟨3, _⟩ => rfl | ⟨4, _⟩ => rfl)

/-- The logarithm of a query's normaliser. -/
theorem lse_at (i : Fin 8192) (z : Fin 1) :
    val_main_v37 (F := Ideal) x (ix5 b r h i z) = seqLse (seqScore (rowQ x b h i) (rowK x b h) i) := by
  rw [val_main_v37_apply, val_main_v36_apply, val_main_v30_apply, val_main_v35_apply, val_main_v34_apply]
  simp only [val_main_v33_apply, val_main_v32_apply, val_main_v31_apply, val_main_v30_apply]
  have e1 : idx_main_v30 (ix5 b r h i z) = ix4 b r h i := by blk_ext
  have e2 (k : Fin 8192) : idx_main_v34 (idx_main_v35 (ix5 b r h i z)) k = ix5 b r h i k := by blk_ext
  have e3 (k : Fin 8192) : idx_main_v30 (idx_main_v31 (ix5 b r h i k)) = ix4 b r h i := by blk_ext
  simp only [e2, e3, e1, max_at, score_at]
  refine congrArg (_ + ·) (congrArg Ideal.log ?_)
  exact (congrArg (· + _) (Ideal.ofBits_zero .f32)).trans (zero_add _)

/-- The output: the values weighted by the exponentials of the scores less the logarithm of the normaliser. -/
theorem out_at (i : Fin 8192) (d : Fin 128) :
    val_main_v44 (F := Ideal) x (ix3 b i ⟨r * 1024 + (h * 128 + d), by omega⟩) = ∑ j : Fin 8192, rowV x b h j d
      * Ideal.exp (seqScore (rowQ x b h i) (rowK x b h) i j - seqLse (seqScore (rowQ x b h i) (rowK x b h) i)) := by
  rw [← lse_at x b r h i 0]
  simp only [← score_at x b r]
  unfold val_main_v44 val_main_v43 val_main_v42 val_main_v41 val_main_v40 val_main_v39 val_main_v38
  generalize val_main_v28 x = s
  generalize val_main_v37 x = l
  pointwise [val_main_v16, val_main_v15, val_main_v14, val_main_v13, val_main_v4, val_main_v1, val_main_v0]
  obtain rfl : r = 0 := Subsingleton.elim _ _
  rfl

/-- The array of logarithms: one lane a head, zeros after the eighth. -/
theorem pad_at (i : Fin 8192) (l : Fin 128) :
    val_main_v48 (F := Ideal) x (ix3 b i ⟨r * 128 + l, by omega⟩)
      = if hl : (l : ℕ) < 8 then
          seqLse (seqScore (rowQ x b ⟨l, hl⟩ i) (rowK x b ⟨l, hl⟩) i) else 0 := by
  simp only [← lse_at x b r _ i 0]
  unfold val_main_v48 val_main_v47 val_main_v46 val_main_v45
  generalize val_main_v37 x = s
  pointwise [val_main_call1_v0, val_main_c_2]
  obtain rfl : r = 0 := Subsingleton.elim _ _
  rw [sitofp_zero]

end Cert.AttnOneRefIdeal.Spec

end
end
-- ==== Proof.AttnOneValue.lean ====
/- The attention at dilation 1: what every grid point writes is the reference's value, so the two arrays are. -/
module

public import proofs.«01_k».proof.Proof.AttnOneRef
public import proofs.«01_k».proof.Proof.Gen.AttnOneIdeal.Value
public import Idealize.ShloMosaic.Lib.Claim

@[expose] public section

set_option maxRecDepth 16384

noncomputable section

namespace Cert.AttnOneIdeal.Final

open Idealize.ShloMosaic Idealize.ShloMosaic.TcCoe Idealize.SL.Sem
open Cert.Banded Cert.AttnOneIdeal Cert.AttnOneIdeal.Gen

variable (m : (ℓ : Loc nD τ sig) → Buf (Elt Ideal) ℓ) (c : Dev nD) (t : Fin cfg0.N)

/-- The projection the call is given. -/
abbrev proj : (⟨S16384x22528, .bf16⟩ : BufTy).Contents (Elt Ideal) := m ((c.tc : Thread nD τ).loc main_arg0)

/-- The grid's coordinates of a point. -/
theorem coords : ∀ t : Fin cfg0.N, (grid0.coords t 0).val = t.val / 32 ∧ (grid0.coords t 1).val = t.val / 32 % 1 ∧ (grid0.coords t 2).val = t.val % 32 :=
  (by decide +kernel : ∀ t : Fin grid0.N, _)

/-- The windows' index maps. -/
theorem idx : ∀ t : Fin cfg0.N, win0_0.index t = ![t.val / 32, t.val % 32, 0]
    ∧ win0_1.index t = ![t.val / 32, t.val % 32 * 4 - 1, 3] ∧ win0_2.index t = ![t.val / 32, t.val % 32, 3]
    ∧ win0_3.index t = ![t.val / 32, min (t.val % 32 * 4 + 4) 127, 3]
    ∧ win0_4.index t = ![t.val / 32, t.val % 32 * 4 - 1, 6] ∧ win0_5.index t = ![t.val / 32, t.val % 32, 6]
    ∧ win0_6.index t = ![t.val / 32, min (t.val % 32 * 4 + 4) 127, 6]
    ∧ win0_7.index t = ![t.val / 32, t.val % 32, 0] ∧ win0_8.index t = ![t.val / 32, t.val % 32, 0] :=
  (by decide +kernel : ∀ t : Fin grid0.N, _)

/-- A query block's element is the projection's. -/
theorem q_read (b : Fin 2) (hb : (b : ℕ) = t.val / 32) (i : Fin 8192) (r : Fin 256) (hi : (i : ℕ) = t.val % 32 * 256 + r) (k : Fin 1024) :
    iblk m c 0 t (ix3 0 r k) = proj m c (ix2 ⟨b * 8192 + i, by omega⟩ ⟨k, by omega⟩) := by
  blk_point [iblk, V, idx t]

/-- A key slab's element, at a row inside the sequence, is the projection's. -/
theorem k_read (b : Fin 2) (hb : (b : ℕ) = t.val / 32) (j : Fin 8192) (ρ : Fin 384) (hj : (j : ℕ) + 64 = t.val % 32 * 256 + ρ) (k : Fin 1024) :
    slab (iblk m c 1 t) (iblk m c 2 t) (iblk m c 3 t) (ix2 ρ k) = proj m c (ix2 ⟨b * 8192 + j, by omega⟩ ⟨3072 + k, by omega⟩) := by
  refine slab_at _ _ _ _ ρ k (fun r e => ?_) (fun r e => ?_) fun r e => ?_
  all_goals blk_point [iblk, V, idx t]

/-- A value slab's element, at a row inside the sequence, is the projection's. -/
theorem v_read (b : Fin 2) (hb : (b : ℕ) = t.val / 32) (j : Fin 8192) (ρ : Fin 384) (hj : (j : ℕ) + 64 = t.val % 32 * 256 + ρ) (k : Fin 1024) :
    slab (iblk m c 4 t) (iblk m c 5 t) (iblk m c 6 t) (ix2 ρ k) = proj m c (ix2 ⟨b * 8192 + j, by omega⟩ ⟨6144 + k, by omega⟩) := by
  refine slab_at _ _ _ _ ρ k (fun r e => ?_) (fun r e => ?_) fun r e => ?_
  all_goals blk_point [iblk, V, idx t]

section

variable (a : Fin 2) (h : Fin 8) (o : BitVec 32) (ho : o.toInt = ((t.val % 32 * 256 + 128 * a : ℕ) : ℤ) - 64)
  (q : FVec Ideal S1x128x128 .bf16) (k v : FVec Ideal S256x128 .bf16)
  (hq : ∀ (r e : Fin 128), q (ix3 0 r e) = iblk m c 0 t (ix3 0 ⟨128 * a + r, by omega⟩ ⟨h * 128 + e, by omega⟩))
  (hk : ∀ (y : Fin 256) (e : Fin 128), k (ix2 y e)
    = slab (iblk m c 1 t) (iblk m c 2 t) (iblk m c 3 t) (ix2 ⟨128 * a + y, by omega⟩ ⟨h * 128 + e, by omega⟩))
  (hv : ∀ (y : Fin 256) (e : Fin 128), v (ix2 y e)
    = slab (iblk m c 4 t) (iblk m c 5 t) (iblk m c 6 t) (ix2 ⟨128 * a + y, by omega⟩ ⟨h * 128 + e, by omega⟩))
  (b : Fin 2) (hb : (b : ℕ) = t.val / 32) (i : Fin 8192) (r : Fin 128) (hi : (i : ℕ) = t.val % 32 * 256 + 128 * a + r)

include ho hq hk hb hi

/-- A row of a head's logarithms is the reference's. -/
theorem lse_head : headLse (score (maskAt o 8192#32) q k) (ix2 r 0)
    = seqLse (seqScore (Cert.AttnOneRefIdeal.Spec.rowQ (proj m c) b h i) (Cert.AttnOneRefIdeal.Spec.rowK (proj m c) b h) i) := by
  refine headLse_eq (n := 8192) (le_refl _) o 8192#32 (t.val % 32 * 256 + 128 * a) ho (by decide) r i hi q k _ _ (fun e => ?_)
    (fun y e j hj => ?_) 0
  · rw [hq, q_read m c t b hb i ⟨128 * a + r, by omega⟩ (by show (i : ℕ) = _ + (128 * (a : ℕ) + r); omega)]
  · rw [hk, k_read m c t b hb j ⟨128 * a + y, by omega⟩ (by show (j : ℕ) + 64 = _ + (128 * (a : ℕ) + y); omega)]

include hv

/-- A row of a head's output is the reference's, where the projection is finite. -/
theorem out_head (hfin : ∀ i, proj m c i ≠ ⊥ ∧ proj m c i ≠ ⊤) (z : Fin 1) (d : Fin 128) (ρ : Fin 1) (w : Fin 1024)
    (hw : (w : ℕ) = ρ * 1024 + (h * 128 + d)) :
    headOut (score (maskAt o 8192#32) q k) v (ix3 z r d)
      = Cert.AttnOneRefIdeal.Read.val_main_v44 (F := Ideal) (proj m c) (ix3 b i w) := by
  have lt : (ρ : ℕ) * 1024 + ((h : ℕ) * 128 + d) < 1024 := hw ▸ w.isLt
  obtain ⟨_, _⟩ := w
  obtain rfl : _ = (ρ : ℕ) * 1024 + (h * 128 + d) := hw
  rw [Cert.AttnOneRefIdeal.Spec.out_at]
  refine headOut_eq (n := 8192) (le_refl _) o 8192#32 (t.val % 32 * 256 + 128 * a) ho (by decide) r i hi q k v _ _ (fun e => ?_)
    (fun y e j hj => ?_) d _ (fun y j hj => ?_) (fun e => hfin _) (fun j e => hfin _) z
  · rw [hq, q_read m c t b hb i ⟨128 * a + r, by omega⟩ (by show (i : ℕ) = _ + (128 * (a : ℕ) + r); omega)]
  · rw [hk, k_read m c t b hb j ⟨128 * a + y, by omega⟩ (by show (j : ℕ) + 64 = _ + (128 * (a : ℕ) + y); omega)]
  · rw [hv, v_read m c t b hb j ⟨128 * a + y, by omega⟩ (by show (j : ℕ) + 64 = _ + (128 * (a : ℕ) + y); omega)]

end

/-- The piece a head stores, at the blocks of a point. -/
theorem out_piece (a : Fin 2) (h : Fin 8) (o : BitVec 32) (ho : o.toInt = ((t.val % 32 * 256 + 128 * a : ℕ) : ℤ) - 64) (o₁ o₂ : ℕ)
    (h₁ : o₁ = 128 * a) (h₂ : o₂ = h * 128)
    (inq : ∀ d, (![0, o₁, o₂] : Fin 3 → ℕ) d + (![1, 128, 128] : Fin 3 → ℕ) d ≤ S1x256x1024.size d)
    (inb : ∀ d, (![o₁, o₂] : Fin 2 → ℕ) d + (![256, 128] : Fin 2 → ℕ) d ≤ S384x1024.size d)
    (hfin : ∀ i, proj m c i ≠ ⊥ ∧ proj m c i ≠ ⊤) (b : Fin 2) (hb : (b : ℕ) = t.val / 32) (i : Fin 8192) (r : Fin 128)
    (hi : (i : ℕ) = t.val % 32 * 256 + (o₁ + r)) (z : Fin 1) (d : Fin 128) (w : Fin 1024) (hw : (w : ℕ) = o₂ + d) :
    headOut (score (maskAt o 8192#32) (View.ld (S := S1x256x1024) (Val := Elt Ideal) (e' := .bf16) (iblk m c 0 t) (Rect.unit ![0, o₁, o₂] ![1, 128, 128] inq))
        ((View.whole cc0_scratch0).readCov (Val := Elt Ideal) [⟨Rect.unit ![320, 0] ![64, 1024] inb_S384x1024_S64x1024_320_0, k0_pay5 (iblk m c 3 t)⟩,
          ⟨Rect.unit ![64, 0] ![256, 1024] inb_S384x1024_S256x1024_64_0, k0_pay4 (iblk m c 2 t)⟩,
          ⟨Rect.unit ![0, 0] ![64, 1024] inb_S384x1024_S64x1024_0_0, k0_pay3 (iblk m c 1 t)⟩] (Rect.unit (s := S384x1024) ![o₁, o₂] ![256, 128] inb).toLoadRect))
        ((View.whole cc0_scratch1).readCov (Val := Elt Ideal) [⟨Rect.unit ![320, 0] ![64, 1024] inb_S384x1024_S64x1024_320_0, k0_pay8 (iblk m c 6 t)⟩,
          ⟨Rect.unit ![64, 0] ![256, 1024] inb_S384x1024_S256x1024_64_0, k0_pay7 (iblk m c 5 t)⟩,
          ⟨Rect.unit ![0, 0] ![64, 1024] inb_S384x1024_S64x1024_0_0, k0_pay6 (iblk m c 4 t)⟩] (Rect.unit (s := S384x1024) ![o₁, o₂] ![256, 128] inb).toLoadRect)
        (ix3 z r d)
      = Cert.AttnOneRefIdeal.Read.val_main_v44 (F := Ideal) (proj m c) (ix3 b i w) := by
  refine out_head m c t a h o ho _ _ _ (fun r e => ?_) (fun y e => ?_) (fun y e => ?_) b hb i r (by omega) hfin z d 0 w
    (by show (w : ℕ) = 0 * 1024 + _; omega)
  · exact query_tile (iblk m c 0 t) a h o₁ o₂ h₁ h₂ inq r e
  · exact slab_tile (View.whole cc0_scratch0) (iblk m c 1 t) (iblk m c 2 t) (iblk m c 3 t) a h o₁ o₂ h₁ h₂ inb y e
  · exact slab_tile (View.whole cc0_scratch1) (iblk m c 4 t) (iblk m c 5 t) (iblk m c 6 t) a h o₁ o₂ h₁ h₂ inb y e

/-- The logarithm of a query's normaliser, in the reference. -/
abbrev lseOf (b : Fin 2) (i : Fin 8192) (h : Fin 8) : EReal :=
  seqLse (seqScore (Cert.AttnOneRefIdeal.Spec.rowQ (proj m c) b h i) (Cert.AttnOneRefIdeal.Spec.rowK (proj m c) b h) i)

/-- The logarithms a head stores, at the blocks of a point. -/
theorem lse_piece (a : Fin 2) (h : Fin 8) (o : BitVec 32) (ho : o.toInt = ((t.val % 32 * 256 + 128 * a : ℕ) : ℤ) - 64) (o₁ o₂ : ℕ)
    (h₁ : o₁ = 128 * a) (h₂ : o₂ = h * 128)
    (inq : ∀ d, (![0, o₁, o₂] : Fin 3 → ℕ) d + (![1, 128, 128] : Fin 3 → ℕ) d ≤ S1x256x1024.size d)
    (inb : ∀ d, (![o₁, o₂] : Fin 2 → ℕ) d + (![256, 128] : Fin 2 → ℕ) d ≤ S384x1024.size d)
    (b : Fin 2) (hb : (b : ℕ) = t.val / 32) (i : Fin 8192) (r : Fin 128) (hi : (i : ℕ) = t.val % 32 * 256 + (o₁ + r)) :
    headLse (score (maskAt o 8192#32) (View.ld (S := S1x256x1024) (Val := Elt Ideal) (e' := .bf16) (iblk m c 0 t) (Rect.unit ![0, o₁, o₂] ![1, 128, 128] inq))
        ((View.whole cc0_scratch0).readCov (Val := Elt Ideal) [⟨Rect.unit ![320, 0] ![64, 1024] inb_S384x1024_S64x1024_320_0, k0_pay5 (iblk m c 3 t)⟩,
          ⟨Rect.unit ![64, 0] ![256, 1024] inb_S384x1024_S256x1024_64_0, k0_pay4 (iblk m c 2 t)⟩,
          ⟨Rect.unit ![0, 0] ![64, 1024] inb_S384x1024_S64x1024_0_0, k0_pay3 (iblk m c 1 t)⟩] (Rect.unit (s := S384x1024) ![o₁, o₂] ![256, 128] inb).toLoadRect))
        (ix2 r 0)
      = seqLse (seqScore (Cert.AttnOneRefIdeal.Spec.rowQ (proj m c) b h i) (Cert.AttnOneRefIdeal.Spec.rowK (proj m c) b h) i) := by
  refine lse_head m c t a h o ho _ _ (fun r e => ?_) (fun y e => ?_) b hb i r (by omega)
  · exact query_tile (iblk m c 0 t) a h o₁ o₂ h₁ h₂ inq r e
  · exact slab_tile (View.whole cc0_scratch0) (iblk m c 1 t) (iblk m c 2 t) (iblk m c 3 t) a h o₁ o₂ h₁ h₂ inb y e

/-- Eight heads' logarithms in their lanes are the reference's padded row. -/
theorem lanes_eq (b : Fin 2) (i : Fin 8192) (z : Fin 1) (r x w : Fin 128) (hw : (w : ℕ) = x) (l0 l1 l2 l3 l4 l5 l6 l7 : FVec Ideal S128x1 .f32)
    (h0 : l0 (ix2 r 0) = lseOf m c b i 0) (h1 : l1 (ix2 r 0) = lseOf m c b i 1) (h2 : l2 (ix2 r 0) = lseOf m c b i 2)
    (h3 : l3 (ix2 r 0) = lseOf m c b i 3) (h4 : l4 (ix2 r 0) = lseOf m c b i 4) (h5 : l5 (ix2 r 0) = lseOf m c b i 5)
    (h6 : l6 (ix2 r 0) = lseOf m c b i 6) (h7 : l7 (ix2 r 0) = lseOf m c b i 7) :
    lanes ![l0, l1, l2, l3, l4, l5, l6, l7] (ix3 z r x) = Cert.AttnOneRefIdeal.Read.val_main_v48 (F := Ideal) (proj m c) (ix3 b i w) := by
  have e : w = ⟨((0 : Fin 1) : ℕ) * 128 + x, by omega⟩ := Fin.ext (by show (w : ℕ) = 0 * 128 + x; omega)
  have hl (h : Fin 8) : ![l0, l1, l2, l3, l4, l5, l6, l7] h (ix2 r 0) = lseOf m c b i h := by
    fin_cases h <;> assumption
  rw [lanes_at, e, Cert.AttnOneRefIdeal.Spec.pad_at]
  simp only [hl]

set_option maxHeartbeats 2000000 in
/-- The output array is the reference's. -/
theorem final7 (hfin : ∀ i, proj m c i ≠ ⊥ ∧ proj m c i ≠ ⊤) :
    (dats m 0 c).arrAt 7 cfg0.N = Cert.AttnOneRefIdeal.Read.val_main_v44 (F := Ideal) (proj m c) := by
  refine (dats m 0 c).arrAt_eq_of_covers 7 _ (by decide +kernel) fun t _ y => ?_
  blk_simp
  obtain_idx i : S2x8192x1024 := [t.val / 32, t.val % 32 * 256 + y 1, y 2] with hi
  refine Eq.trans (b := Cert.AttnOneRefIdeal.Read.val_main_v44 (F := Ideal) (proj m c) i) ?_ (congrArg _ ?_)
  rotate_left
  · blk_ext [idx t]
  have hi : i = ix3 (i 0) (i 1) (i 2) := by blk_ext
  have ht : t.val % 32 ≤ 31 := by omega
  have lo := off_lo (t.val % 32) ht
  have up := off_hi (t.val % 32) ht
  rw [hi, after0_7]
  unfold Gen.outsAt0
  frame_out
  rw [(coords t).2.2]
  clear hi
  canon_tiles x e
  · idx_vars x
    exact out_piece m c t 1 7 _ up 128 896 rfl rfl _ _ hfin (i 0) hi0 (i 1) x1 (by omega) x0 x2 (i 2) (by omega)
  · idx_vars x
    exact out_piece m c t 1 6 _ up 128 768 rfl rfl _ _ hfin (i 0) hi0 (i 1) x1 (by omega) x0 x2 (i 2) (by omega)
  · idx_vars x
    exact out_piece m c t 1 5 _ up 128 640 rfl rfl _ _ hfin (i 0) hi0 (i 1) x1 (by omega) x0 x2 (i 2) (by omega)
  · idx_vars x
    exact out_piece m c t 1 4 _ up 128 512 rfl rfl _ _ hfin (i 0) hi0 (i 1) x1 (by omega) x0 x2 (i 2) (by omega)
  · idx_vars x
    exact out_piece m c t 1 3 _ up 128 384 rfl rfl _ _ hfin (i 0) hi0 (i 1) x1 (by omega) x0 x2 (i 2) (by omega)
  · idx_vars x
    exact out_piece m c t 1 2 _ up 128 256 rfl rfl _ _ hfin (i 0) hi0 (i 1) x1 (by omega) x0 x2 (i 2) (by omega)
  · idx_vars x
    exact out_piece m c t 1 1 _ up 128 128 rfl rfl _ _ hfin (i 0) hi0 (i 1) x1 (by omega) x0 x2 (i 2) (by omega)
  · idx_vars x
    exact out_piece m c t 1 0 _ up 128 0 rfl rfl _ _ hfin (i 0) hi0 (i 1) x1 (by omega) x0 x2 (i 2) (by omega)
  · idx_vars x
    exact out_piece m c t 0 7 _ lo 0 896 rfl rfl _ _ hfin (i 0) hi0 (i 1) x1 (by omega) x0 x2 (i 2) (by omega)
  · idx_vars x
    exact out_piece m c t 0 6 _ lo 0 768 rfl rfl _ _ hfin (i 0) hi0 (i 1) x1 (by omega) x0 x2 (i 2) (by omega)
  · idx_vars x
    exact out_piece m c t 0 5 _ lo 0 640 rfl rfl _ _ hfin (i 0) hi0 (i 1) x1 (by omega) x0 x2 (i 2) (by omega)
  · idx_vars x
    exact out_piece m c t 0 4 _ lo 0 512 rfl rfl _ _ hfin (i 0) hi0 (i 1) x1 (by omega) x0 x2 (i 2) (by omega)
  · idx_vars x
    exact out_piece m c t 0 3 _ lo 0 384 rfl rfl _ _ hfin (i 0) hi0 (i 1) x1 (by omega) x0 x2 (i 2) (by omega)
  · idx_vars x
    exact out_piece m c t 0 2 _ lo 0 256 rfl rfl _ _ hfin (i 0) hi0 (i 1) x1 (by omega) x0 x2 (i 2) (by omega)
  · idx_vars x
    exact out_piece m c t 0 1 _ lo 0 128 rfl rfl _ _ hfin (i 0) hi0 (i 1) x1 (by omega) x0 x2 (i 2) (by omega)
  · idx_vars x
    exact out_piece m c t 0 0 _ lo 0 0 rfl rfl _ _ hfin (i 0) hi0 (i 1) x1 (by omega) x0 x2 (i 2) (by omega)

end Cert.AttnOneIdeal.Final

end

end
-- ==== Proof.AttnOneLse.lean ====
/- The attention at dilation 1: the array of logarithms the run leaves is the reference's. -/
module

public import proofs.«01_k».proof.Proof.AttnOneValue

@[expose] public section

set_option maxRecDepth 200000

noncomputable section

namespace Cert.AttnOneIdeal.Final

open Idealize.ShloMosaic Idealize.ShloMosaic.TcCoe Idealize.SL.Sem
open Cert.Banded Cert.AttnOneIdeal Cert.AttnOneIdeal.Gen

variable (m : (ℓ : Loc nD τ sig) → Buf (Elt Ideal) ℓ) (c : Dev nD)

set_option maxHeartbeats 2000000 in
/-- The array of logarithms is the reference's. -/
theorem final8 : (dats m 0 c).arrAt 8 cfg0.N = Cert.AttnOneRefIdeal.Read.val_main_v48 (F := Ideal) (proj m c) := by
  refine (dats m 0 c).arrAt_eq_of_covers 8 _ (by decide +kernel) fun t _ y => ?_
  blk_simp
  obtain_idx i : S2x8192x128 := [t.val / 32, t.val % 32 * 256 + y 1, y 2] with hi
  refine Eq.trans (b := Cert.AttnOneRefIdeal.Read.val_main_v48 (F := Ideal) (proj m c) i) ?_ (congrArg _ ?_)
  rotate_left
  · blk_ext [idx t]
  have hi : i = ix3 (i 0) (i 1) (i 2) := by blk_ext
  have ht : t.val % 32 ≤ 31 := by omega
  have lo := off_lo (t.val % 32) ht
  have up := off_hi (t.val % 32) ht
  rw [hi, after0_8]
  unfold Gen.outsAt0
  frame_out
  rw [(coords t).2.2]
  clear hi
  canon_tiles x e
  · idx_vars x
    refine lanes_eq m c (i 0) (i 1) x0 x1 x2 (i 2) (by omega) _ _ _ _ _ _ _ _ ?_ ?_ ?_ ?_ ?_ ?_ ?_ ?_
    · exact lse_piece m c t 1 0 _ up 128 0 rfl rfl _ _ (i 0) hi0 (i 1) x1 (by omega)
    · exact lse_piece m c t 1 1 _ up 128 128 rfl rfl _ _ (i 0) hi0 (i 1) x1 (by omega)
    · exact lse_piece m c t 1 2 _ up 128 256 rfl rfl _ _ (i 0) hi0 (i 1) x1 (by omega)
    · exact lse_piece m c t 1 3 _ up 128 384 rfl rfl _ _ (i 0) hi0 (i 1) x1 (by omega)
    · exact lse_piece m c t 1 4 _ up 128 512 rfl rfl _ _ (i 0) hi0 (i 1) x1 (by omega)
    · exact lse_piece m c t 1 5 _ up 128 640 rfl rfl _ _ (i 0) hi0 (i 1) x1 (by omega)
    · exact lse_piece m c t 1 6 _ up 128 768 rfl rfl _ _ (i 0) hi0 (i 1) x1 (by omega)
    · exact lse_piece m c t 1 7 _ up 128 896 rfl rfl _ _ (i 0) hi0 (i 1) x1 (by omega)
  · idx_vars x
    refine lanes_eq m c (i 0) (i 1) x0 x1 x2 (i 2) (by omega) _ _ _ _ _ _ _ _ ?_ ?_ ?_ ?_ ?_ ?_ ?_ ?_
    · exact lse_piece m c t 0 0 _ lo 0 0 rfl rfl _ _ (i 0) hi0 (i 1) x1 (by omega)
    · exact lse_piece m c t 0 1 _ lo 0 128 rfl rfl _ _ (i 0) hi0 (i 1) x1 (by omega)
    · exact lse_piece m c t 0 2 _ lo 0 256 rfl rfl _ _ (i 0) hi0 (i 1) x1 (by omega)
    · exact lse_piece m c t 0 3 _ lo 0 384 rfl rfl _ _ (i 0) hi0 (i 1) x1 (by omega)
    · exact lse_piece m c t 0 4 _ lo 0 512 rfl rfl _ _ (i 0) hi0 (i 1) x1 (by omega)
    · exact lse_piece m c t 0 5 _ lo 0 640 rfl rfl _ _ (i 0) hi0 (i 1) x1 (by omega)
    · exact lse_piece m c t 0 6 _ lo 0 768 rfl rfl _ _ (i 0) hi0 (i 1) x1 (by omega)
    · exact lse_piece m c t 0 7 _ lo 0 896 rfl rfl _ _ (i 0) hi0 (i 1) x1 (by omega)

end Cert.AttnOneIdeal.Final

end
end
-- ==== Proof.FiniteInput.lean ====
/- What the precondition on a projection says of its entries. -/
module

public import proofs.«01_k».proof.Proof.Gen.Pre_finite_projection
public import Idealize.ShloMosaic.Lib.Pointwise
public import Idealize.ShloMosaic.Lib.Claim

@[expose] public section

noncomputable section

namespace Cert.FiniteInput

open Idealize.ShloMosaic

/-- An entry whose absolute value compares below the word of infinity is neither infinity. -/
theorem of_lt (x : EReal) (h : Ideal.cmp .olt (max x (-x)) (Ideal.ofBits .f32 0x7F800000#32) = 1#1) : x ≠ ⊥ ∧ x ≠ ⊤ := by
  have hw : Ideal.ofBits .f32 0x7F800000#32 = ⊤ := by simp [Ideal.ofBits, Ideal.ieee]
  rw [hw] at h
  constructor <;> rintro rfl <;> simp [Ideal.cmp] at h

/-- Every entry of a projection the precondition holds of is a real number. -/
theorem entries (X : FVec Ideal Cert.Pre_finite_projection.S16384x22528 .bf16)
    (h : (letI := Cert.Pre_finite_projection.Gen.facts; Cert.Pre_finite_projection.fn (F := Ideal) X) = fun _ => 1#1) (i) : X i ≠ ⊥ ∧ X i ≠ ⊤ :=
  of_lt (X i) (congrFun h i)

end Cert.FiniteInput

end

end
-- ==== Proof.AttnOneClaims.lean ====
/- Attention at dilation one: its claims. -/
module

public import proofs.«01_k».proof.Defs
public import proofs.«01_k».proof.Proof.AttnOneLse
public import proofs.«01_k».proof.Proof.FiniteInput
public import proofs.«01_k».proof.Proof.Gen.AttnOne.Frame
public import proofs.«01_k».proof.Proof.Gen.AttnOneIdeal.Frame
public import proofs.«01_k».proof.Proof.Gen.AttnOneRefIdeal.Run
public import proofs.«01_k».proof.Proof.Gen.AttnOneRefIdeal.Read
public import Idealize.ShloMosaic.Lib.Claim

@[expose] public section

set_option maxRecDepth 16384

noncomputable section

namespace Cert.AttnOneClaims

open Idealize.ShloMosaic Idealize.ShloMosaic.TcCoe Idealize.SL.Sem

/-- The program ends with its arguments as they were and every semaphore at zero. -/
theorem frame : Cert.quiescent_AttnOne (hAttnOne := Cert.AttnOne.Gen.facts) := fun m ρ _ => Cert.AttnOne.Gen.frame m ρ

/-- So does its idealization. -/
theorem frame_ideal : Cert.quiescent_AttnOneIdeal (hAttnOneIdeal := Cert.AttnOneIdeal.Gen.facts) := fun m ρ _ => Cert.AttnOneIdeal.Gen.frame m ρ

/-- So does the reference. -/
theorem frame_ref : Cert.quiescent_AttnOneRefIdeal (hAttnOneRefIdeal := Cert.AttnOneRefIdeal.Gen.facts) := fun m ρ _ =>
  (θ_run _ _ _).mono (fun r h => ⟨fun c => (h c).2.2, sem_eq_zero_of_no_sems (by decide) r.2⟩) (Cert.AttnOneRefIdeal.Value.run m ρ)

/-- The idealization's frame under the precondition. -/
theorem frame_ideal_pre : Cert.quiescent_AttnOneIdeal_pre_finite_projection (hAttnOneIdeal := Cert.AttnOneIdeal.Gen.facts)
    (hPre_finite_projection := Cert.Pre_finite_projection.Gen.facts) := fun m ρ _ => Cert.AttnOneIdeal.Gen.frame m ρ

/-- The reference's frame under the precondition. -/
theorem frame_ref_pre : Cert.quiescent_AttnOneRefIdeal_pre_finite_projection (hAttnOneRefIdeal := Cert.AttnOneRefIdeal.Gen.facts)
    (hPre_finite_projection := Cert.Pre_finite_projection.Gen.facts) := fun m ρ _ => frame_ref m ρ trivial

/-- The idealization only names the mask's constant. -/
theorem preserved : Cert.preserves_AttnOne_AttnOneIdeal := IdealRules.named_const.statement Cert.AttnOneIdeal.κ "mask" .f32 0xF149F2CA#32 ⊥ rfl

/-- The idealization and the reference compute the same two arrays of every finite projection. -/
theorem equal : Cert.algebraic_AttnOneIdeal_AttnOneRefIdeal_pre_finite_projection (hAttnOneIdeal := Cert.AttnOneIdeal.Gen.facts)
    (hAttnOneRefIdeal := Cert.AttnOneRefIdeal.Gen.facts) (hPre_finite_projection := Cert.Pre_finite_projection.Gen.facts) := by
  intro m g m' g' hpre hargs
  refine ⟨fun c => (Cert.AttnOneIdeal.Gen.dats m 0 c).arrAt 7 Cert.AttnOneIdeal.cfg0.N, fun c => (Cert.AttnOneIdeal.Gen.dats m 0 c).arrAt 8 Cert.AttnOneIdeal.cfg0.N,
    Cert.AttnOneIdeal.Value.run_blocks m g, ?_⟩
  refine (θ_run _ _ _).mono (fun r h c => ⟨(h c).1.trans ?_, (h c).2.1.trans ?_, (h c).2.2⟩) (Cert.AttnOneRefIdeal.Value.run m' g')
  · rw [Cert.AttnOneRefIdeal.Read.val_main_v44_eq, hargs c]
    exact (Cert.AttnOneIdeal.Final.final7 m c (Cert.FiniteInput.entries _ (hpre c))).symm
  · rw [Cert.AttnOneRefIdeal.Read.val_main_v48_eq, hargs c]
    exact (Cert.AttnOneIdeal.Final.final8 m c).symm

end Cert.AttnOneClaims

end

end
-- ==== Proof.AttnFourRef.lean ====
/- The reference of the attention at dilation 4, read at an index: the masked scores, the logarithm of the normaliser,
   the output and the padded array of logarithms. -/
module

public import proofs.«01_k».proof.Proof.BandedTile
public import proofs.«01_k».proof.Proof.Gen.AttnFourRefIdeal.Read

@[expose] public section

set_option maxRecDepth 16384

noncomputable section

namespace Cert.AttnFourRefIdeal.Spec

open Idealize.ShloMosaic Idealize.ShloMosaic.TcCoe Idealize.SL.Sem
open Cert.Banded Cert.AttnFourRefIdeal Cert.AttnFourRefIdeal.Gen Cert.AttnFourRefIdeal.Read

variable (x : (⟨S16384x22528, .bf16⟩ : BufTy).Contents (Elt Ideal)) (b : Fin 2) (r : Fin 4) (h : Fin 8)

/-- A query's row of one head. -/
abbrev rowQ (i : Fin 2048) (e : Fin 128) : EReal := x (ix2 ⟨b * 8192 + (i * 4 + r), by omega⟩ ⟨(8 + h) * 128 + e, by omega⟩)

/-- A key's row of one head. -/
abbrev rowK (j : Fin 2048) (e : Fin 128) : EReal := x (ix2 ⟨b * 8192 + (j * 4 + r), by omega⟩ ⟨3072 + ((8 + h) * 128 + e), by omega⟩)

/-- A value's row of one head. -/
abbrev rowV (j : Fin 2048) (d : Fin 128) : EReal := x (ix2 ⟨b * 8192 + (j * 4 + r), by omega⟩ ⟨6144 + ((8 + h) * 128 + d), by omega⟩)

/-- A masked score: the dot product of the query's and the key's head where they lie within 64, −∞ elsewhere. -/
theorem score_at (i j : Fin 2048) :
    val_main_v28 (F := Ideal) x (ix5 b r h i j) = seqScore (rowQ x b r h i) (rowK x b r h) i j := by
  rw [seqScore]
  rw [← if_congr (dist_iff 2048 (by omega) i j) rfl rfl]
  pointwise [val_main_v28, val_main_call0_v2, val_main_call0_v1, val_main_call0_v0, val_main_v27, val_main_v26, val_main_v25,
    val_main_v24, val_main_v23, val_main_v22, val_main_v21, val_main_v20, val_main_v19, val_main_v18, val_main_c, val_main_cst,
    val_main_v17, val_main_v12, val_main_v11, val_main_v10, val_main_v9, val_main_v8, val_main_v7, val_main_v6, val_main_v5,
    val_main_v3, val_main_v2, val_main_v1, val_main_v0]
  rw [show id (constant S_ .f32 0xFF800000#32 : FVec Ideal S_ .f32) ix0 = ⊥ from ofBits_bot]
  rfl

/-- The largest score of a query. -/
theorem max_at (i : Fin 2048) :
    val_main_v29 (F := Ideal) x (ix4 b r h i) = Finset.univ.sup fun j : Fin 2048 => val_main_v28 (F := Ideal) x (ix5 b r h i j) := by
  unfold val_main_v29
  generalize val_main_v28 x = s
  exact hostMax s _ reducesTo_S2x4x8x2048x2048_S2x4x8x2048_d4 (by decide) h_S_ ofBits_bot _ rfl (fun j => ix5 b r h i j) fun k =>
    funext fun a => Fin.ext (by match a with | ⟨0, _⟩ => rfl | ⟨1, _⟩ => rfl | ⟨2, _⟩ => rfl | ⟨3, _⟩ => rfl | ⟨4, _⟩ => rfl)

/-- The logarithm of a query's normaliser. -/
theorem lse_at (i : Fin 2048) (z : Fin 1) :
    val_main_v37 (F := Ideal) x (ix5 b r h i z) = seqLse (seqScore (rowQ x b r h i) (rowK x b r h) i) := by
  rw [val_main_v37_apply, val_main_v36_apply, val_main_v30_apply, val_main_v35_apply, val_main_v34_apply]
  simp only [val_main_v33_apply, val_main_v32_apply, val_main_v31_apply, val_main_v30_apply]
  have e1 : idx_main_v30 (ix5 b r h i z) = ix4 b r h i := by blk_ext
  have e2 (k : Fin 2048) : idx_main_v34 (idx_main_v35 (ix5 b r h i z)) k = ix5 b r h i k := by blk_ext
  have e3 (k : Fin 2048) : idx_main_v30 (idx_main_v31 (ix5 b r h i k)) = ix4 b r h i := by blk_ext
  simp only [e2, e3, e1, max_at, score_at]
  refine congrArg (_ + ·) (congrArg Ideal.log ?_)
  exact (congrArg (· + _) (Ideal.ofBits_zero .f32)).trans (zero_add _)

/-- The output: the values weighted by the exponentials of the scores less the logarithm of the normaliser. -/
theorem out_at (i : Fin 2048) (d : Fin 128) :
    val_main_v44 (F := Ideal) x (ix3 b i ⟨r * 1024 + (h * 128 + d), by omega⟩) = ∑ j : Fin 2048, rowV x b r h j d
      * Ideal.exp (seqScore (rowQ x b r h i) (rowK x b r h) i j - seqLse (seqScore (rowQ x b r h i) (rowK x b r h) i)) := by
  rw [← lse_at x b r h i 0]
  simp only [← score_at x b r]
  unfold val_main_v44 val_main_v43 val_main_v42 val_main_v41 val_main_v40 val_main_v39 val_main_v38
  generalize val_main_v28 x = s
  generalize val_main_v37 x = l
  pointwise [val_main_v16, val_main_v15, val_main_v14, val_main_v13, val_main_v4, val_main_v1, val_main_v0]

/-- The array of logarithms: one lane a head, zeros after the eighth. -/
theorem pad_at (i : Fin 2048) (l : Fin 128) :
    val_main_v48 (F := Ideal) x (ix3 b i ⟨r * 128 + l, by omega⟩)
      = if hl : (l : ℕ) < 8 then
          seqLse (seqScore (rowQ x b r ⟨l, hl⟩ i) (rowK x b r ⟨l, hl⟩) i) else 0 := by
  simp only [← lse_at x b r _ i 0]
  unfold val_main_v48 val_main_v47 val_main_v46 val_main_v45
  generalize val_main_v37 x = s
  pointwise [val_main_call1_v0, val_main_c_2]
  rw [sitofp_zero]

end Cert.AttnFourRefIdeal.Spec

end
end
-- ==== Proof.AttnFourValue.lean ====
/- The attention at dilation 4: what every grid point writes is the reference's value, so the two arrays are. -/
module

public import proofs.«01_k».proof.Proof.AttnFourRef
public import proofs.«01_k».proof.Proof.Gen.AttnFourIdeal.Value
public import Idealize.ShloMosaic.Lib.Claim

@[expose] public section

set_option maxRecDepth 16384

noncomputable section

namespace Cert.AttnFourIdeal.Final

open Idealize.ShloMosaic Idealize.ShloMosaic.TcCoe Idealize.SL.Sem
open Cert.Banded Cert.AttnFourIdeal Cert.AttnFourIdeal.Gen

variable (m : (ℓ : Loc nD τ sig) → Buf (Elt Ideal) ℓ) (c : Dev nD) (t : Fin cfg0.N)

/-- The projection the call is given. -/
abbrev proj : (⟨S16384x22528, .bf16⟩ : BufTy).Contents (Elt Ideal) := m ((c.tc : Thread nD τ).loc main_arg0)

/-- The grid's coordinates of a point. -/
theorem coords : ∀ t : Fin cfg0.N, (grid0.coords t 0).val = t.val / 32 ∧ (grid0.coords t 1).val = (t.val / 8 % 4) ∧ (grid0.coords t 2).val = t.val % 8 :=
  (by decide +kernel : ∀ t : Fin grid0.N, _)

/-- The windows' index maps. -/
theorem idx : ∀ t : Fin cfg0.N, win0_0.index t = ![t.val / 32, t.val % 8, (t.val / 8 % 4) * 22 + 1]
    ∧ win0_1.index t = ![t.val / 32, t.val % 8 * 4 - 1, (t.val / 8 % 4) * 22 + 4] ∧ win0_2.index t = ![t.val / 32, t.val % 8, (t.val / 8 % 4) * 22 + 4]
    ∧ win0_3.index t = ![t.val / 32, min (t.val % 8 * 4 + 4) 31, (t.val / 8 % 4) * 22 + 4]
    ∧ win0_4.index t = ![t.val / 32, t.val % 8 * 4 - 1, (t.val / 8 % 4) * 22 + 7] ∧ win0_5.index t = ![t.val / 32, t.val % 8, (t.val / 8 % 4) * 22 + 7]
    ∧ win0_6.index t = ![t.val / 32, min (t.val % 8 * 4 + 4) 31, (t.val / 8 % 4) * 22 + 7]
    ∧ win0_7.index t = ![t.val / 32, t.val % 8, (t.val / 8 % 4)] ∧ win0_8.index t = ![t.val / 32, t.val % 8, (t.val / 8 % 4)] :=
  (by decide +kernel : ∀ t : Fin grid0.N, _)

/-- A query block's element is the projection's. -/
theorem q_read (b : Fin 2) (hb : (b : ℕ) = t.val / 32) (ρ : Fin 4) (hρ : (ρ : ℕ) = (t.val / 8 % 4)) (i : Fin 2048) (r : Fin 256) (hi : (i : ℕ) = t.val % 8 * 256 + r) (h : Fin 8) (e : Fin 128) :
    iblk m c 0 t (ix3 0 r ⟨h * 128 + e, by omega⟩) = proj m c (ix2 ⟨b * 8192 + (i * 4 + ρ), by omega⟩ ⟨(8 + h) * 128 + e, by omega⟩) := by
  blk_point [iblk, V, idx t]

/-- A key slab's element, at a row inside the sequence, is the projection's. -/
theorem k_read (b : Fin 2) (hb : (b : ℕ) = t.val / 32) (ρ : Fin 4) (hρ : (ρ : ℕ) = (t.val / 8 % 4)) (j : Fin 2048) (y : Fin 384) (hj : (j : ℕ) + 64 = t.val % 8 * 256 + y) (h : Fin 8) (e : Fin 128) :
    slab (iblk m c 1 t) (iblk m c 2 t) (iblk m c 3 t) (ix2 y ⟨h * 128 + e, by omega⟩) = proj m c (ix2 ⟨b * 8192 + (j * 4 + ρ), by omega⟩ ⟨3072 + ((8 + h) * 128 + e), by omega⟩) := by
  refine slab_at _ _ _ _ y ⟨h * 128 + e, by omega⟩ (fun r e => ?_) (fun r e => ?_) fun r e => ?_
  all_goals blk_point [iblk, V, idx t]

/-- A value slab's element, at a row inside the sequence, is the projection's. -/
theorem v_read (b : Fin 2) (hb : (b : ℕ) = t.val / 32) (ρ : Fin 4) (hρ : (ρ : ℕ) = (t.val / 8 % 4)) (j : Fin 2048) (y : Fin 384) (hj : (j : ℕ) + 64 = t.val % 8 * 256 + y) (h : Fin 8) (e : Fin 128) :
    slab (iblk m c 4 t) (iblk m c 5 t) (iblk m c 6 t) (ix2 y ⟨h * 128 + e, by omega⟩) = proj m c (ix2 ⟨b * 8192 + (j * 4 + ρ), by omega⟩ ⟨6144 + ((8 + h) * 128 + e), by omega⟩) := by
  refine slab_at _ _ _ _ y ⟨h * 128 + e, by omega⟩ (fun r e => ?_) (fun r e => ?_) fun r e => ?_
  all_goals blk_point [iblk, V, idx t]

section

variable (a : Fin 2) (h : Fin 8) (o : BitVec 32) (ho : o.toInt = ((t.val % 8 * 256 + 128 * a : ℕ) : ℤ) - 64)
  (q : FVec Ideal S1x128x128 .bf16) (k v : FVec Ideal S256x128 .bf16)
  (hq : ∀ (r e : Fin 128), q (ix3 0 r e) = iblk m c 0 t (ix3 0 ⟨128 * a + r, by omega⟩ ⟨h * 128 + e, by omega⟩))
  (hk : ∀ (y : Fin 256) (e : Fin 128), k (ix2 y e)
    = slab (iblk m c 1 t) (iblk m c 2 t) (iblk m c 3 t) (ix2 ⟨128 * a + y, by omega⟩ ⟨h * 128 + e, by omega⟩))
  (hv : ∀ (y : Fin 256) (e : Fin 128), v (ix2 y e)
    = slab (iblk m c 4 t) (iblk m c 5 t) (iblk m c 6 t) (ix2 ⟨128 * a + y, by omega⟩ ⟨h * 128 + e, by omega⟩))
  (b : Fin 2) (hb : (b : ℕ) = t.val / 32) (ρ : Fin 4) (hρ : (ρ : ℕ) = (t.val / 8 % 4)) (i : Fin 2048) (r : Fin 128) (hi : (i : ℕ) = t.val % 8 * 256 + 128 * a + r)

include ho hq hk hb hρ hi

/-- A row of a head's logarithms is the reference's. -/
theorem lse_head : headLse (score (maskAt o 2048#32) q k) (ix2 r 0)
    = seqLse (seqScore (Cert.AttnFourRefIdeal.Spec.rowQ (proj m c) b ρ h i) (Cert.AttnFourRefIdeal.Spec.rowK (proj m c) b ρ h) i) := by
  refine headLse_eq (n := 2048) (by omega) o 2048#32 (t.val % 8 * 256 + 128 * a) ho (by decide) r i hi q k _ _ (fun e => ?_)
    (fun y e j hj => ?_) 0
  · rw [hq, q_read m c t b hb ρ hρ i ⟨128 * a + r, by omega⟩ (by show (i : ℕ) = _ + (128 * (a : ℕ) + r); omega)]
  · rw [hk, k_read m c t b hb ρ hρ j ⟨128 * a + y, by omega⟩ (by show (j : ℕ) + 64 = _ + (128 * (a : ℕ) + y); omega)]

include hv

/-- A row of a head's output is the reference's, where the projection is finite. -/
theorem out_head (hfin : ∀ i, proj m c i ≠ ⊥ ∧ proj m c i ≠ ⊤) (z : Fin 1) (d : Fin 128) (w : Fin 4096)
    (hw : (w : ℕ) = ρ * 1024 + (h * 128 + d)) :
    headOut (score (maskAt o 2048#32) q k) v (ix3 z r d)
      = Cert.AttnFourRefIdeal.Read.val_main_v44 (F := Ideal) (proj m c) (ix3 b i w) := by
  have lt : (ρ : ℕ) * 1024 + ((h : ℕ) * 128 + d) < 4096 := hw ▸ w.isLt
  obtain ⟨_, _⟩ := w
  obtain rfl : _ = (ρ : ℕ) * 1024 + (h * 128 + d) := hw
  rw [Cert.AttnFourRefIdeal.Spec.out_at]
  refine headOut_eq (n := 2048) (by omega) o 2048#32 (t.val % 8 * 256 + 128 * a) ho (by decide) r i hi q k v _ _ (fun e => ?_)
    (fun y e j hj => ?_) d _ (fun y j hj => ?_) (fun e => hfin _) (fun j e => hfin _) z
  · rw [hq, q_read m c t b hb ρ hρ i ⟨128 * a + r, by omega⟩ (by show (i : ℕ) = _ + (128 * (a : ℕ) + r); omega)]
  · rw [hk, k_read m c t b hb ρ hρ j ⟨128 * a + y, by omega⟩ (by show (j : ℕ) + 64 = _ + (128 * (a : ℕ) + y); omega)]
  · rw [hv, v_read m c t b hb ρ hρ j ⟨128 * a + y, by omega⟩ (by show (j : ℕ) + 64 = _ + (128 * (a : ℕ) + y); omega)]

end

/-- The piece a head stores, at the blocks of a point. -/
theorem out_piece (a : Fin 2) (h : Fin 8) (o : BitVec 32) (ho : o.toInt = ((t.val % 8 * 256 + 128 * a : ℕ) : ℤ) - 64) (o₁ o₂ : ℕ)
    (h₁ : o₁ = 128 * a) (h₂ : o₂ = h * 128)
    (inq : ∀ d, (![0, o₁, o₂] : Fin 3 → ℕ) d + (![1, 128, 128] : Fin 3 → ℕ) d ≤ S1x256x1024.size d)
    (inb : ∀ d, (![o₁, o₂] : Fin 2 → ℕ) d + (![256, 128] : Fin 2 → ℕ) d ≤ S384x1024.size d)
    (hfin : ∀ i, proj m c i ≠ ⊥ ∧ proj m c i ≠ ⊤) (b : Fin 2) (hb : (b : ℕ) = t.val / 32) (ρ : Fin 4) (hρ : (ρ : ℕ) = (t.val / 8 % 4)) (i : Fin 2048) (r : Fin 128)
    (hi : (i : ℕ) = t.val % 8 * 256 + (o₁ + r)) (z : Fin 1) (d : Fin 128) (w : Fin 4096) (hw : (w : ℕ) = ρ * 1024 + (o₂ + d)) :
    headOut (score (maskAt o 2048#32) (View.ld (S := S1x256x1024) (Val := Elt Ideal) (e' := .bf16) (iblk m c 0 t) (Rect.unit ![0, o₁, o₂] ![1, 128, 128] inq))
        ((View.whole cc0_scratch0).readCov (Val := Elt Ideal) [⟨Rect.unit ![320, 0] ![64, 1024] inb_S384x1024_S64x1024_320_0, k0_pay5 (iblk m c 3 t)⟩,
          ⟨Rect.unit ![64, 0] ![256, 1024] inb_S384x1024_S256x1024_64_0, k0_pay4 (iblk m c 2 t)⟩,
          ⟨Rect.unit ![0, 0] ![64, 1024] inb_S384x1024_S64x1024_0_0, k0_pay3 (iblk m c 1 t)⟩] (Rect.unit (s := S384x1024) ![o₁, o₂] ![256, 128] inb).toLoadRect))
        ((View.whole cc0_scratch1).readCov (Val := Elt Ideal) [⟨Rect.unit ![320, 0] ![64, 1024] inb_S384x1024_S64x1024_320_0, k0_pay8 (iblk m c 6 t)⟩,
          ⟨Rect.unit ![64, 0] ![256, 1024] inb_S384x1024_S256x1024_64_0, k0_pay7 (iblk m c 5 t)⟩,
          ⟨Rect.unit ![0, 0] ![64, 1024] inb_S384x1024_S64x1024_0_0, k0_pay6 (iblk m c 4 t)⟩] (Rect.unit (s := S384x1024) ![o₁, o₂] ![256, 128] inb).toLoadRect)
        (ix3 z r d)
      = Cert.AttnFourRefIdeal.Read.val_main_v44 (F := Ideal) (proj m c) (ix3 b i w) := by
  refine out_head m c t a h o ho _ _ _ (fun r e => ?_) (fun y e => ?_) (fun y e => ?_) b hb ρ hρ i r (by omega) hfin z d w (by omega)
  · exact query_tile (iblk m c 0 t) a h o₁ o₂ h₁ h₂ inq r e
  · exact slab_tile (View.whole cc0_scratch0) (iblk m c 1 t) (iblk m c 2 t) (iblk m c 3 t) a h o₁ o₂ h₁ h₂ inb y e
  · exact slab_tile (View.whole cc0_scratch1) (iblk m c 4 t) (iblk m c 5 t) (iblk m c 6 t) a h o₁ o₂ h₁ h₂ inb y e

/-- The logarithm of a query's normaliser, in the reference. -/
abbrev lseOf (b : Fin 2) (ρ : Fin 4) (i : Fin 2048) (h : Fin 8) : EReal :=
  seqLse (seqScore (Cert.AttnFourRefIdeal.Spec.rowQ (proj m c) b ρ h i) (Cert.AttnFourRefIdeal.Spec.rowK (proj m c) b ρ h) i)

/-- The logarithms a head stores, at the blocks of a point. -/
theorem lse_piece (a : Fin 2) (h : Fin 8) (o : BitVec 32) (ho : o.toInt = ((t.val % 8 * 256 + 128 * a : ℕ) : ℤ) - 64) (o₁ o₂ : ℕ)
    (h₁ : o₁ = 128 * a) (h₂ : o₂ = h * 128)
    (inq : ∀ d, (![0, o₁, o₂] : Fin 3 → ℕ) d + (![1, 128, 128] : Fin 3 → ℕ) d ≤ S1x256x1024.size d)
    (inb : ∀ d, (![o₁, o₂] : Fin 2 → ℕ) d + (![256, 128] : Fin 2 → ℕ) d ≤ S384x1024.size d)
    (b : Fin 2) (hb : (b : ℕ) = t.val / 32) (ρ : Fin 4) (hρ : (ρ : ℕ) = (t.val / 8 % 4)) (i : Fin 2048) (r : Fin 128) (hi : (i : ℕ) = t.val % 8 * 256 + (o₁ + r)) :
    headLse (score (maskAt o 2048#32) (View.ld (S := S1x256x1024) (Val := Elt Ideal) (e' := .bf16) (iblk m c 0 t) (Rect.unit ![0, o₁, o₂] ![1, 128, 128] inq))
        ((View.whole cc0_scratch0).readCov (Val := Elt Ideal) [⟨Rect.unit ![320, 0] ![64, 1024] inb_S384x1024_S64x1024_320_0, k0_pay5 (iblk m c 3 t)⟩,
          ⟨Rect.unit ![64, 0] ![256, 1024] inb_S384x1024_S256x1024_64_0, k0_pay4 (iblk m c 2 t)⟩,
          ⟨Rect.unit ![0, 0] ![64, 1024] inb_S384x1024_S64x1024_0_0, k0_pay3 (iblk m c 1 t)⟩] (Rect.unit (s := S384x1024) ![o₁, o₂] ![256, 128] inb).toLoadRect))
        (ix2 r 0)
      = seqLse (seqScore (Cert.AttnFourRefIdeal.Spec.rowQ (proj m c) b ρ h i) (Cert.AttnFourRefIdeal.Spec.rowK (proj m c) b ρ h) i) := by
  refine lse_head m c t a h o ho _ _ (fun r e => ?_) (fun y e => ?_) b hb ρ hρ i r (by omega)
  · exact query_tile (iblk m c 0 t) a h o₁ o₂ h₁ h₂ inq r e
  · exact slab_tile (View.whole cc0_scratch0) (iblk m c 1 t) (iblk m c 2 t) (iblk m c 3 t) a h o₁ o₂ h₁ h₂ inb y e

/-- Eight heads' logarithms in their lanes are the reference's padded row. -/
theorem lanes_eq (b : Fin 2) (ρ : Fin 4) (i : Fin 2048) (z : Fin 1) (r x : Fin 128) (w : Fin 512) (hw : (w : ℕ) = ρ * 128 + x) (l0 l1 l2 l3 l4 l5 l6 l7 : FVec Ideal S128x1 .f32)
    (h0 : l0 (ix2 r 0) = lseOf m c b ρ i 0) (h1 : l1 (ix2 r 0) = lseOf m c b ρ i 1) (h2 : l2 (ix2 r 0) = lseOf m c b ρ i 2)
    (h3 : l3 (ix2 r 0) = lseOf m c b ρ i 3) (h4 : l4 (ix2 r 0) = lseOf m c b ρ i 4) (h5 : l5 (ix2 r 0) = lseOf m c b ρ i 5)
    (h6 : l6 (ix2 r 0) = lseOf m c b ρ i 6) (h7 : l7 (ix2 r 0) = lseOf m c b ρ i 7) :
    lanes ![l0, l1, l2, l3, l4, l5, l6, l7] (ix3 z r x) = Cert.AttnFourRefIdeal.Read.val_main_v48 (F := Ideal) (proj m c) (ix3 b i w) := by
  have e : w = ⟨(ρ : ℕ) * 128 + x, by omega⟩ := Fin.ext hw
  have hl (h : Fin 8) : ![l0, l1, l2, l3, l4, l5, l6, l7] h (ix2 r 0) = lseOf m c b ρ i h := by
    fin_cases h <;> assumption
  rw [lanes_at, e, Cert.AttnFourRefIdeal.Spec.pad_at]
  simp only [hl]

set_option maxHeartbeats 2000000 in
/-- The output array is the reference's. -/
theorem final7 (hfin : ∀ i, proj m c i ≠ ⊥ ∧ proj m c i ≠ ⊤) :
    (dats m 0 c).arrAt 7 cfg0.N = Cert.AttnFourRefIdeal.Read.val_main_v44 (F := Ideal) (proj m c) := by
  refine (dats m 0 c).arrAt_eq_of_covers 7 _ (by decide +kernel) fun t _ y => ?_
  blk_simp
  obtain_idx i : S2x2048x4096 := [t.val / 32, t.val % 8 * 256 + y 1, (t.val / 8 % 4) * 1024 + y 2] with hi
  refine Eq.trans (b := Cert.AttnFourRefIdeal.Read.val_main_v44 (F := Ideal) (proj m c) i) ?_ (congrArg _ ?_)
  rotate_left
  · blk_ext [idx t]
  have hi : i = ix3 (i 0) (i 1) (i 2) := by blk_ext
  have ht : t.val % 8 ≤ 31 := by omega
  obtain ⟨ρ, hρ⟩ : ∃ ρ : Fin 4, (ρ : ℕ) = (t.val / 8 % 4) := ⟨⟨(t.val / 8 % 4), by omega⟩, rfl⟩
  have lo := off_lo (t.val % 8) ht
  have up := off_hi (t.val % 8) ht
  rw [hi, after0_7]
  unfold Gen.outsAt0
  frame_out
  rw [(coords t).2.2]
  clear hi
  canon_tiles x e
  · idx_vars x
    exact out_piece m c t 1 7 _ up 128 896 rfl rfl _ _ hfin (i 0) hi0 ρ hρ (i 1) x1 (by omega) x0 x2 (i 2) (by omega)
  · idx_vars x
    exact out_piece m c t 1 6 _ up 128 768 rfl rfl _ _ hfin (i 0) hi0 ρ hρ (i 1) x1 (by omega) x0 x2 (i 2) (by omega)
  · idx_vars x
    exact out_piece m c t 1 5 _ up 128 640 rfl rfl _ _ hfin (i 0) hi0 ρ hρ (i 1) x1 (by omega) x0 x2 (i 2) (by omega)
  · idx_vars x
    exact out_piece m c t 1 4 _ up 128 512 rfl rfl _ _ hfin (i 0) hi0 ρ hρ (i 1) x1 (by omega) x0 x2 (i 2) (by omega)
  · idx_vars x
    exact out_piece m c t 1 3 _ up 128 384 rfl rfl _ _ hfin (i 0) hi0 ρ hρ (i 1) x1 (by omega) x0 x2 (i 2) (by omega)
  · idx_vars x
    exact out_piece m c t 1 2 _ up 128 256 rfl rfl _ _ hfin (i 0) hi0 ρ hρ (i 1) x1 (by omega) x0 x2 (i 2) (by omega)
  · idx_vars x
    exact out_piece m c t 1 1 _ up 128 128 rfl rfl _ _ hfin (i 0) hi0 ρ hρ (i 1) x1 (by omega) x0 x2 (i 2) (by omega)
  · idx_vars x
    exact out_piece m c t 1 0 _ up 128 0 rfl rfl _ _ hfin (i 0) hi0 ρ hρ (i 1) x1 (by omega) x0 x2 (i 2) (by omega)
  · idx_vars x
    exact out_piece m c t 0 7 _ lo 0 896 rfl rfl _ _ hfin (i 0) hi0 ρ hρ (i 1) x1 (by omega) x0 x2 (i 2) (by omega)
  · idx_vars x
    exact out_piece m c t 0 6 _ lo 0 768 rfl rfl _ _ hfin (i 0) hi0 ρ hρ (i 1) x1 (by omega) x0 x2 (i 2) (by omega)
  · idx_vars x
    exact out_piece m c t 0 5 _ lo 0 640 rfl rfl _ _ hfin (i 0) hi0 ρ hρ (i 1) x1 (by omega) x0 x2 (i 2) (by omega)
  · idx_vars x
    exact out_piece m c t 0 4 _ lo 0 512 rfl rfl _ _ hfin (i 0) hi0 ρ hρ (i 1) x1 (by omega) x0 x2 (i 2) (by omega)
  · idx_vars x
    exact out_piece m c t 0 3 _ lo 0 384 rfl rfl _ _ hfin (i 0) hi0 ρ hρ (i 1) x1 (by omega) x0 x2 (i 2) (by omega)
  · idx_vars x
    exact out_piece m c t 0 2 _ lo 0 256 rfl rfl _ _ hfin (i 0) hi0 ρ hρ (i 1) x1 (by omega) x0 x2 (i 2) (by omega)
  · idx_vars x
    exact out_piece m c t 0 1 _ lo 0 128 rfl rfl _ _ hfin (i 0) hi0 ρ hρ (i 1) x1 (by omega) x0 x2 (i 2) (by omega)
  · idx_vars x
    exact out_piece m c t 0 0 _ lo 0 0 rfl rfl _ _ hfin (i 0) hi0 ρ hρ (i 1) x1 (by omega) x0 x2 (i 2) (by omega)

end Cert.AttnFourIdeal.Final

end

end
-- ==== Proof.AttnFourLse.lean ====
/- The attention at dilation 4: the array of logarithms the run leaves is the reference's. -/
module

public import proofs.«01_k».proof.Proof.AttnFourValue

@[expose] public section

set_option maxRecDepth 200000

noncomputable section

namespace Cert.AttnFourIdeal.Final

open Idealize.ShloMosaic Idealize.ShloMosaic.TcCoe Idealize.SL.Sem
open Cert.Banded Cert.AttnFourIdeal Cert.AttnFourIdeal.Gen

variable (m : (ℓ : Loc nD τ sig) → Buf (Elt Ideal) ℓ) (c : Dev nD)

set_option maxHeartbeats 2000000 in
/-- The array of logarithms is the reference's. -/
theorem final8 : (dats m 0 c).arrAt 8 cfg0.N = Cert.AttnFourRefIdeal.Read.val_main_v48 (F := Ideal) (proj m c) := by
  refine (dats m 0 c).arrAt_eq_of_covers 8 _ (by decide +kernel) fun t _ y => ?_
  blk_simp
  obtain_idx i : S2x2048x512 := [t.val / 32, t.val % 8 * 256 + y 1, (t.val / 8 % 4) * 128 + y 2] with hi
  refine Eq.trans (b := Cert.AttnFourRefIdeal.Read.val_main_v48 (F := Ideal) (proj m c) i) ?_ (congrArg _ ?_)
  rotate_left
  · blk_ext [idx t]
  have hi : i = ix3 (i 0) (i 1) (i 2) := by blk_ext
  have ht : t.val % 8 ≤ 31 := by omega
  obtain ⟨ρ, hρ⟩ : ∃ ρ : Fin 4, (ρ : ℕ) = (t.val / 8 % 4) := ⟨⟨(t.val / 8 % 4), by omega⟩, rfl⟩
  have lo := off_lo (t.val % 8) ht
  have up := off_hi (t.val % 8) ht
  rw [hi, after0_8]
  unfold Gen.outsAt0
  frame_out
  rw [(coords t).2.2]
  clear hi
  canon_tiles x e
  · idx_vars x
    refine lanes_eq m c (i 0) ρ (i 1) x0 x1 x2 (i 2) (by omega) _ _ _ _ _ _ _ _ ?_ ?_ ?_ ?_ ?_ ?_ ?_ ?_
    · exact lse_piece m c t 1 0 _ up 128 0 rfl rfl _ _ (i 0) hi0 ρ hρ (i 1) x1 (by omega)
    · exact lse_piece m c t 1 1 _ up 128 128 rfl rfl _ _ (i 0) hi0 ρ hρ (i 1) x1 (by omega)
    · exact lse_piece m c t 1 2 _ up 128 256 rfl rfl _ _ (i 0) hi0 ρ hρ (i 1) x1 (by omega)
    · exact lse_piece m c t 1 3 _ up 128 384 rfl rfl _ _ (i 0) hi0 ρ hρ (i 1) x1 (by omega)
    · exact lse_piece m c t 1 4 _ up 128 512 rfl rfl _ _ (i 0) hi0 ρ hρ (i 1) x1 (by omega)
    · exact lse_piece m c t 1 5 _ up 128 640 rfl rfl _ _ (i 0) hi0 ρ hρ (i 1) x1 (by omega)
    · exact lse_piece m c t 1 6 _ up 128 768 rfl rfl _ _ (i 0) hi0 ρ hρ (i 1) x1 (by omega)
    · exact lse_piece m c t 1 7 _ up 128 896 rfl rfl _ _ (i 0) hi0 ρ hρ (i 1) x1 (by omega)
  · idx_vars x
    refine lanes_eq m c (i 0) ρ (i 1) x0 x1 x2 (i 2) (by omega) _ _ _ _ _ _ _ _ ?_ ?_ ?_ ?_ ?_ ?_ ?_ ?_
    · exact lse_piece m c t 0 0 _ lo 0 0 rfl rfl _ _ (i 0) hi0 ρ hρ (i 1) x1 (by omega)
    · exact lse_piece m c t 0 1 _ lo 0 128 rfl rfl _ _ (i 0) hi0 ρ hρ (i 1) x1 (by omega)
    · exact lse_piece m c t 0 2 _ lo 0 256 rfl rfl _ _ (i 0) hi0 ρ hρ (i 1) x1 (by omega)
    · exact lse_piece m c t 0 3 _ lo 0 384 rfl rfl _ _ (i 0) hi0 ρ hρ (i 1) x1 (by omega)
    · exact lse_piece m c t 0 4 _ lo 0 512 rfl rfl _ _ (i 0) hi0 ρ hρ (i 1) x1 (by omega)
    · exact lse_piece m c t 0 5 _ lo 0 640 rfl rfl _ _ (i 0) hi0 ρ hρ (i 1) x1 (by omega)
    · exact lse_piece m c t 0 6 _ lo 0 768 rfl rfl _ _ (i 0) hi0 ρ hρ (i 1) x1 (by omega)
    · exact lse_piece m c t 0 7 _ lo 0 896 rfl rfl _ _ (i 0) hi0 ρ hρ (i 1) x1 (by omega)

end Cert.AttnFourIdeal.Final

end
end
-- ==== Proof.AttnFourClaims.lean ====
/- Attention at dilation four: its claims. -/
module

public import proofs.«01_k».proof.Defs
public import proofs.«01_k».proof.Proof.AttnFourLse
public import proofs.«01_k».proof.Proof.FiniteInput
public import proofs.«01_k».proof.Proof.Gen.AttnFour.Frame
public import proofs.«01_k».proof.Proof.Gen.AttnFourIdeal.Frame
public import proofs.«01_k».proof.Proof.Gen.AttnFourRefIdeal.Run
public import proofs.«01_k».proof.Proof.Gen.AttnFourRefIdeal.Read
public import Idealize.ShloMosaic.Lib.Claim

@[expose] public section

set_option maxRecDepth 16384

noncomputable section

namespace Cert.AttnFourClaims

open Idealize.ShloMosaic Idealize.ShloMosaic.TcCoe Idealize.SL.Sem

/-- The program ends with its arguments as they were and every semaphore at zero. -/
theorem frame : Cert.quiescent_AttnFour (hAttnFour := Cert.AttnFour.Gen.facts) := fun m ρ _ => Cert.AttnFour.Gen.frame m ρ

/-- So does its idealization. -/
theorem frame_ideal : Cert.quiescent_AttnFourIdeal (hAttnFourIdeal := Cert.AttnFourIdeal.Gen.facts) := fun m ρ _ => Cert.AttnFourIdeal.Gen.frame m ρ

/-- So does the reference. -/
theorem frame_ref : Cert.quiescent_AttnFourRefIdeal (hAttnFourRefIdeal := Cert.AttnFourRefIdeal.Gen.facts) := fun m ρ _ =>
  (θ_run _ _ _).mono (fun r h => ⟨fun c => (h c).2.2, sem_eq_zero_of_no_sems (by decide) r.2⟩) (Cert.AttnFourRefIdeal.Value.run m ρ)

/-- The idealization's frame under the precondition. -/
theorem frame_ideal_pre : Cert.quiescent_AttnFourIdeal_pre_finite_projection (hAttnFourIdeal := Cert.AttnFourIdeal.Gen.facts)
    (hPre_finite_projection := Cert.Pre_finite_projection.Gen.facts) := fun m ρ _ => Cert.AttnFourIdeal.Gen.frame m ρ

/-- The reference's frame under the precondition. -/
theorem frame_ref_pre : Cert.quiescent_AttnFourRefIdeal_pre_finite_projection (hAttnFourRefIdeal := Cert.AttnFourRefIdeal.Gen.facts)
    (hPre_finite_projection := Cert.Pre_finite_projection.Gen.facts) := fun m ρ _ => frame_ref m ρ trivial

/-- The idealization only names the mask's constant. -/
theorem preserved : Cert.preserves_AttnFour_AttnFourIdeal := IdealRules.named_const.statement Cert.AttnFourIdeal.κ "mask" .f32 0xF149F2CA#32 ⊥ rfl

/-- The idealization and the reference compute the same two arrays of every finite projection. -/
theorem equal : Cert.algebraic_AttnFourIdeal_AttnFourRefIdeal_pre_finite_projection (hAttnFourIdeal := Cert.AttnFourIdeal.Gen.facts)
    (hAttnFourRefIdeal := Cert.AttnFourRefIdeal.Gen.facts) (hPre_finite_projection := Cert.Pre_finite_projection.Gen.facts) := by
  intro m g m' g' hpre hargs
  refine ⟨fun c => (Cert.AttnFourIdeal.Gen.dats m 0 c).arrAt 7 Cert.AttnFourIdeal.cfg0.N, fun c => (Cert.AttnFourIdeal.Gen.dats m 0 c).arrAt 8 Cert.AttnFourIdeal.cfg0.N,
    Cert.AttnFourIdeal.Value.run_blocks m g, ?_⟩
  refine (θ_run _ _ _).mono (fun r h c => ⟨(h c).1.trans ?_, (h c).2.1.trans ?_, (h c).2.2⟩) (Cert.AttnFourRefIdeal.Value.run m' g')
  · rw [Cert.AttnFourRefIdeal.Read.val_main_v44_eq, hargs c]
    exact (Cert.AttnFourIdeal.Final.final7 m c (Cert.FiniteInput.entries _ (hpre c))).symm
  · rw [Cert.AttnFourRefIdeal.Read.val_main_v48_eq, hargs c]
    exact (Cert.AttnFourIdeal.Final.final8 m c).symm

end Cert.AttnFourClaims

end

end
-- ==== Proof.AttnSixteenRef.lean ====
/- The reference of the attention at dilation 16, read at an index: the masked scores, the logarithm of the normaliser,
   the output and the padded array of logarithms. -/
module

public import proofs.«01_k».proof.Proof.BandedTile
public import proofs.«01_k».proof.Proof.Gen.AttnSixteenRefIdeal.Read

@[expose] public section

set_option maxRecDepth 16384

noncomputable section

namespace Cert.AttnSixteenRefIdeal.Spec

open Idealize.ShloMosaic Idealize.ShloMosaic.TcCoe Idealize.SL.Sem
open Cert.Banded Cert.AttnSixteenRefIdeal Cert.AttnSixteenRefIdeal.Gen Cert.AttnSixteenRefIdeal.Read

variable (x : (⟨S16384x22528, .bf16⟩ : BufTy).Contents (Elt Ideal)) (b : Fin 2) (r : Fin 16) (h : Fin 8)

/-- A query's row of one head. -/
abbrev rowQ (i : Fin 512) (e : Fin 128) : EReal := x (ix2 ⟨b * 8192 + (i * 16 + r), by omega⟩ ⟨(16 + h) * 128 + e, by omega⟩)

/-- A key's row of one head. -/
abbrev rowK (j : Fin 512) (e : Fin 128) : EReal := x (ix2 ⟨b * 8192 + (j * 16 + r), by omega⟩ ⟨3072 + ((16 + h) * 128 + e), by omega⟩)

/-- A value's row of one head. -/
abbrev rowV (j : Fin 512) (d : Fin 128) : EReal := x (ix2 ⟨b * 8192 + (j * 16 + r), by omega⟩ ⟨6144 + ((16 + h) * 128 + d), by omega⟩)

/-- A masked score: the dot product of the query's and the key's head where they lie within 64, −∞ elsewhere. -/
theorem score_at (i j : Fin 512) :
    val_main_v28 (F := Ideal) x (ix5 b r h i j) = seqScore (rowQ x b r h i) (rowK x b r h) i j := by
  rw [seqScore]
  rw [← if_congr (dist_iff 512 (by omega) i j) rfl rfl]
  pointwise [val_main_v28, val_main_call0_v2, val_main_call0_v1, val_main_call0_v0, val_main_v27, val_main_v26, val_main_v25,
    val_main_v24, val_main_v23, val_main_v22, val_main_v21, val_main_v20, val_main_v19, val_main_v18, val_main_c, val_main_cst,
    val_main_v17, val_main_v12, val_main_v11, val_main_v10, val_main_v9, val_main_v8, val_main_v7, val_main_v6, val_main_v5,
    val_main_v3, val_main_v2, val_main_v1, val_main_v0]
  rw [show id (constant S_ .f32 0xFF800000#32 : FVec Ideal S_ .f32) ix0 = ⊥ from ofBits_bot]
  rfl

/-- The largest score of a query. -/
theorem max_at (i : Fin 512) :
    val_main_v29 (F := Ideal) x (ix4 b r h i) = Finset.univ.sup fun j : Fin 512 => val_main_v28 (F := Ideal) x (ix5 b r h i j) := by
  unfold val_main_v29
  generalize val_main_v28 x = s
  exact hostMax s _ reducesTo_S2x16x8x512x512_S2x16x8x512_d4 (by decide) h_S_ ofBits_bot _ rfl (fun j => ix5 b r h i j) fun k =>
    funext fun a => Fin.ext (by match a with | ⟨0, _⟩ => rfl | ⟨1, _⟩ => rfl | ⟨2, _⟩ => rfl | ⟨3, _⟩ => rfl | ⟨4, _⟩ => rfl)

/-- The logarithm of a query's normaliser. -/
theorem lse_at (i : Fin 512) (z : Fin 1) :
    val_main_v37 (F := Ideal) x (ix5 b r h i z) = seqLse (seqScore (rowQ x b r h i) (rowK x b r h) i) := by
  rw [val_main_v37_apply, val_main_v36_apply, val_main_v30_apply, val_main_v35_apply, val_main_v34_apply]
  simp only [val_main_v33_apply, val_main_v32_apply, val_main_v31_apply, val_main_v30_apply]
  have e1 : idx_main_v30 (ix5 b r h i z) = ix4 b r h i := by blk_ext
  have e2 (k : Fin 512) : idx_main_v34 (idx_main_v35 (ix5 b r h i z)) k = ix5 b r h i k := by blk_ext
  have e3 (k : Fin 512) : idx_main_v30 (idx_main_v31 (ix5 b r h i k)) = ix4 b r h i := by blk_ext
  simp only [e2, e3, e1, max_at, score_at]
  refine congrArg (_ + ·) (congrArg Ideal.log ?_)
  exact (congrArg (· + _) (Ideal.ofBits_zero .f32)).trans (zero_add _)

/-- The output: the values weighted by the exponentials of the scores less the logarithm of the normaliser. -/
theorem out_at (i : Fin 512) (d : Fin 128) :
    val_main_v44 (F := Ideal) x (ix3 b i ⟨r * 1024 + (h * 128 + d), by omega⟩) = ∑ j : Fin 512, rowV x b r h j d
      * Ideal.exp (seqScore (rowQ x b r h i) (rowK x b r h) i j - seqLse (seqScore (rowQ x b r h i) (rowK x b r h) i)) := by
  rw [← lse_at x b r h i 0]
  simp only [← score_at x b r]
  unfold val_main_v44 val_main_v43 val_main_v42 val_main_v41 val_main_v40 val_main_v39 val_main_v38
  generalize val_main_v28 x = s
  generalize val_main_v37 x = l
  pointwise [val_main_v16, val_main_v15, val_main_v14, val_main_v13, val_main_v4, val_main_v1, val_main_v0]

/-- The array of logarithms: one lane a head, zeros after the eighth. -/
theorem pad_at (i : Fin 512) (l : Fin 128) :
    val_main_v48 (F := Ideal) x (ix3 b i ⟨r * 128 + l, by omega⟩)
      = if hl : (l : ℕ) < 8 then
          seqLse (seqScore (rowQ x b r ⟨l, hl⟩ i) (rowK x b r ⟨l, hl⟩) i) else 0 := by
  simp only [← lse_at x b r _ i 0]
  unfold val_main_v48 val_main_v47 val_main_v46 val_main_v45
  generalize val_main_v37 x = s
  pointwise [val_main_call1_v0, val_main_c_2]
  rw [sitofp_zero]

end Cert.AttnSixteenRefIdeal.Spec

end
end
-- ==== Proof.AttnSixteenValue.lean ====
/- The attention at dilation 16: what every grid point writes is the reference's value, so the two arrays are. -/
module

public import proofs.«01_k».proof.Proof.AttnSixteenRef
public import proofs.«01_k».proof.Proof.Gen.AttnSixteenIdeal.Value
public import Idealize.ShloMosaic.Lib.Claim

@[expose] public section

set_option maxRecDepth 16384

noncomputable section

namespace Cert.AttnSixteenIdeal.Final

open Idealize.ShloMosaic Idealize.ShloMosaic.TcCoe Idealize.SL.Sem
open Cert.Banded Cert.AttnSixteenIdeal Cert.AttnSixteenIdeal.Gen

variable (m : (ℓ : Loc nD τ sig) → Buf (Elt Ideal) ℓ) (c : Dev nD) (t : Fin cfg0.N)

/-- The projection the call is given. -/
abbrev proj : (⟨S16384x22528, .bf16⟩ : BufTy).Contents (Elt Ideal) := m ((c.tc : Thread nD τ).loc main_arg0)

/-- The grid's coordinates of a point. -/
theorem coords : ∀ t : Fin cfg0.N, (grid0.coords t 0).val = t.val / 32 ∧ (grid0.coords t 1).val = (t.val / 2 % 16) ∧ (grid0.coords t 2).val = t.val % 2 :=
  (by decide +kernel : ∀ t : Fin grid0.N, _)

/-- The windows' index maps. -/
theorem idx : ∀ t : Fin cfg0.N, win0_0.index t = ![t.val / 32, t.val % 2, (t.val / 2 % 16) * 22 + 2]
    ∧ win0_1.index t = ![t.val / 32, t.val % 2 * 4 - 1, (t.val / 2 % 16) * 22 + 5] ∧ win0_2.index t = ![t.val / 32, t.val % 2, (t.val / 2 % 16) * 22 + 5]
    ∧ win0_3.index t = ![t.val / 32, min (t.val % 2 * 4 + 4) 7, (t.val / 2 % 16) * 22 + 5]
    ∧ win0_4.index t = ![t.val / 32, t.val % 2 * 4 - 1, (t.val / 2 % 16) * 22 + 8] ∧ win0_5.index t = ![t.val / 32, t.val % 2, (t.val / 2 % 16) * 22 + 8]
    ∧ win0_6.index t = ![t.val / 32, min (t.val % 2 * 4 + 4) 7, (t.val / 2 % 16) * 22 + 8]
    ∧ win0_7.index t = ![t.val / 32, t.val % 2, (t.val / 2 % 16)] ∧ win0_8.index t = ![t.val / 32, t.val % 2, (t.val / 2 % 16)] :=
  (by decide +kernel : ∀ t : Fin grid0.N, _)

/-- A query block's element is the projection's. -/
theorem q_read (b : Fin 2) (hb : (b : ℕ) = t.val / 32) (ρ : Fin 16) (hρ : (ρ : ℕ) = (t.val / 2 % 16)) (i : Fin 512) (r : Fin 256) (hi : (i : ℕ) = t.val % 2 * 256 + r) (h : Fin 8) (e : Fin 128) :
    iblk m c 0 t (ix3 0 r ⟨h * 128 + e, by omega⟩) = proj m c (ix2 ⟨b * 8192 + (i * 16 + ρ), by omega⟩ ⟨(16 + h) * 128 + e, by omega⟩) := by
  blk_point [iblk, V, idx t]

/-- A key slab's element, at a row inside the sequence, is the projection's. -/
theorem k_read (b : Fin 2) (hb : (b : ℕ) = t.val / 32) (ρ : Fin 16) (hρ : (ρ : ℕ) = (t.val / 2 % 16)) (j : Fin 512) (y : Fin 384) (hj : (j : ℕ) + 64 = t.val % 2 * 256 + y) (h : Fin 8) (e : Fin 128) :
    slab (iblk m c 1 t) (iblk m c 2 t) (iblk m c 3 t) (ix2 y ⟨h * 128 + e, by omega⟩) = proj m c (ix2 ⟨b * 8192 + (j * 16 + ρ), by omega⟩ ⟨3072 + ((16 + h) * 128 + e), by omega⟩) := by
  refine slab_at _ _ _ _ y ⟨h * 128 + e, by omega⟩ (fun r e => ?_) (fun r e => ?_) fun r e => ?_
  all_goals blk_point [iblk, V, idx t]

/-- A value slab's element, at a row inside the sequence, is the projection's. -/
theorem v_read (b : Fin 2) (hb : (b : ℕ) = t.val / 32) (ρ : Fin 16) (hρ : (ρ : ℕ) = (t.val / 2 % 16)) (j : Fin 512) (y : Fin 384) (hj : (j : ℕ) + 64 = t.val % 2 * 256 + y) (h : Fin 8) (e : Fin 128) :
    slab (iblk m c 4 t) (iblk m c 5 t) (iblk m c 6 t) (ix2 y ⟨h * 128 + e, by omega⟩) = proj m c (ix2 ⟨b * 8192 + (j * 16 + ρ), by omega⟩ ⟨6144 + ((16 + h) * 128 + e), by omega⟩) := by
  refine slab_at _ _ _ _ y ⟨h * 128 + e, by omega⟩ (fun r e => ?_) (fun r e => ?_) fun r e => ?_
  all_goals blk_point [iblk, V, idx t]

section

variable (a : Fin 2) (h : Fin 8) (o : BitVec 32) (ho : o.toInt = ((t.val % 2 * 256 + 128 * a : ℕ) : ℤ) - 64)
  (q : FVec Ideal S1x128x128 .bf16) (k v : FVec Ideal S256x128 .bf16)
  (hq : ∀ (r e : Fin 128), q (ix3 0 r e) = iblk m c 0 t (ix3 0 ⟨128 * a + r, by omega⟩ ⟨h * 128 + e, by omega⟩))
  (hk : ∀ (y : Fin 256) (e : Fin 128), k (ix2 y e)
    = slab (iblk m c 1 t) (iblk m c 2 t) (iblk m c 3 t) (ix2 ⟨128 * a + y, by omega⟩ ⟨h * 128 + e, by omega⟩))
  (hv : ∀ (y : Fin 256) (e : Fin 128), v (ix2 y e)
    = slab (iblk m c 4 t) (iblk m c 5 t) (iblk m c 6 t) (ix2 ⟨128 * a + y, by omega⟩ ⟨h * 128 + e, by omega⟩))
  (b : Fin 2) (hb : (b : ℕ) = t.val / 32) (ρ : Fin 16) (hρ : (ρ : ℕ) = (t.val / 2 % 16)) (i : Fin 512) (r : Fin 128) (hi : (i : ℕ) = t.val % 2 * 256 + 128 * a + r)

include ho hq hk hb hρ hi

/-- A row of a head's logarithms is the reference's. -/
theorem lse_head : headLse (score (maskAt o 512#32) q k) (ix2 r 0)
    = seqLse (seqScore (Cert.AttnSixteenRefIdeal.Spec.rowQ (proj m c) b ρ h i) (Cert.AttnSixteenRefIdeal.Spec.rowK (proj m c) b ρ h) i) := by
  refine headLse_eq (n := 512) (by omega) o 512#32 (t.val % 2 * 256 + 128 * a) ho (by decide) r i hi q k _ _ (fun e => ?_)
    (fun y e j hj => ?_) 0
  · rw [hq, q_read m c t b hb ρ hρ i ⟨128 * a + r, by omega⟩ (by show (i : ℕ) = _ + (128 * (a : ℕ) + r); omega)]
  · rw [hk, k_read m c t b hb ρ hρ j ⟨128 * a + y, by omega⟩ (by show (j : ℕ) + 64 = _ + (128 * (a : ℕ) + y); omega)]

include hv

/-- A row of a head's output is the reference's, where the projection is finite. -/
theorem out_head (hfin : ∀ i, proj m c i ≠ ⊥ ∧ proj m c i ≠ ⊤) (z : Fin 1) (d : Fin 128) (w : Fin 16384)
    (hw : (w : ℕ) = ρ * 1024 + (h * 128 + d)) :
    headOut (score (maskAt o 512#32) q k) v (ix3 z r d)
      = Cert.AttnSixteenRefIdeal.Read.val_main_v44 (F := Ideal) (proj m c) (ix3 b i w) := by
  have lt : (ρ : ℕ) * 1024 + ((h : ℕ) * 128 + d) < 16384 := hw ▸ w.isLt
  obtain ⟨_, _⟩ := w
  obtain rfl : _ = (ρ : ℕ) * 1024 + (h * 128 + d) := hw
  rw [Cert.AttnSixteenRefIdeal.Spec.out_at]
  refine headOut_eq (n := 512) (by omega) o 512#32 (t.val % 2 * 256 + 128 * a) ho (by decide) r i hi q k v _ _ (fun e => ?_)
    (fun y e j hj => ?_) d _ (fun y j hj => ?_) (fun e => hfin _) (fun j e => hfin _) z
  · rw [hq, q_read m c t b hb ρ hρ i ⟨128 * a + r, by omega⟩ (by show (i : ℕ) = _ + (128 * (a : ℕ) + r); omega)]
  · rw [hk, k_read m c t b hb ρ hρ j ⟨128 * a + y, by omega⟩ (by show (j : ℕ) + 64 = _ + (128 * (a : ℕ) + y); omega)]
  · rw [hv, v_read m c t b hb ρ hρ j ⟨128 * a + y, by omega⟩ (by show (j : ℕ) + 64 = _ + (128 * (a : ℕ) + y); omega)]

end

/-- The piece a head stores, at the blocks of a point. -/
theorem out_piece (a : Fin 2) (h : Fin 8) (o : BitVec 32) (ho : o.toInt = ((t.val % 2 * 256 + 128 * a : ℕ) : ℤ) - 64) (o₁ o₂ : ℕ)
    (h₁ : o₁ = 128 * a) (h₂ : o₂ = h * 128)
    (inq : ∀ d, (![0, o₁, o₂] : Fin 3 → ℕ) d + (![1, 128, 128] : Fin 3 → ℕ) d ≤ S1x256x1024.size d)
    (inb : ∀ d, (![o₁, o₂] : Fin 2 → ℕ) d + (![256, 128] : Fin 2 → ℕ) d ≤ S384x1024.size d)
    (hfin : ∀ i, proj m c i ≠ ⊥ ∧ proj m c i ≠ ⊤) (b : Fin 2) (hb : (b : ℕ) = t.val / 32) (ρ : Fin 16) (hρ : (ρ : ℕ) = (t.val / 2 % 16)) (i : Fin 512) (r : Fin 128)
    (hi : (i : ℕ) = t.val % 2 * 256 + (o₁ + r)) (z : Fin 1) (d : Fin 128) (w : Fin 16384) (hw : (w : ℕ) = ρ * 1024 + (o₂ + d)) :
    headOut (score (maskAt o 512#32) (View.ld (S := S1x256x1024) (Val := Elt Ideal) (e' := .bf16) (iblk m c 0 t) (Rect.unit ![0, o₁, o₂] ![1, 128, 128] inq))
        ((View.whole cc0_scratch0).readCov (Val := Elt Ideal) [⟨Rect.unit ![320, 0] ![64, 1024] inb_S384x1024_S64x1024_320_0, k0_pay5 (iblk m c 3 t)⟩,
          ⟨Rect.unit ![64, 0] ![256, 1024] inb_S384x1024_S256x1024_64_0, k0_pay4 (iblk m c 2 t)⟩,
          ⟨Rect.unit ![0, 0] ![64, 1024] inb_S384x1024_S64x1024_0_0, k0_pay3 (iblk m c 1 t)⟩] (Rect.unit (s := S384x1024) ![o₁, o₂] ![256, 128] inb).toLoadRect))
        ((View.whole cc0_scratch1).readCov (Val := Elt Ideal) [⟨Rect.unit ![320, 0] ![64, 1024] inb_S384x1024_S64x1024_320_0, k0_pay8 (iblk m c 6 t)⟩,
          ⟨Rect.unit ![64, 0] ![256, 1024] inb_S384x1024_S256x1024_64_0, k0_pay7 (iblk m c 5 t)⟩,
          ⟨Rect.unit ![0, 0] ![64, 1024] inb_S384x1024_S64x1024_0_0, k0_pay6 (iblk m c 4 t)⟩] (Rect.unit (s := S384x1024) ![o₁, o₂] ![256, 128] inb).toLoadRect)
        (ix3 z r d)
      = Cert.AttnSixteenRefIdeal.Read.val_main_v44 (F := Ideal) (proj m c) (ix3 b i w) := by
  refine out_head m c t a h o ho _ _ _ (fun r e => ?_) (fun y e => ?_) (fun y e => ?_) b hb ρ hρ i r (by omega) hfin z d w (by omega)
  · exact query_tile (iblk m c 0 t) a h o₁ o₂ h₁ h₂ inq r e
  · exact slab_tile (View.whole cc0_scratch0) (iblk m c 1 t) (iblk m c 2 t) (iblk m c 3 t) a h o₁ o₂ h₁ h₂ inb y e
  · exact slab_tile (View.whole cc0_scratch1) (iblk m c 4 t) (iblk m c 5 t) (iblk m c 6 t) a h o₁ o₂ h₁ h₂ inb y e

/-- The logarithm of a query's normaliser, in the reference. -/
abbrev lseOf (b : Fin 2) (ρ : Fin 16) (i : Fin 512) (h : Fin 8) : EReal :=
  seqLse (seqScore (Cert.AttnSixteenRefIdeal.Spec.rowQ (proj m c) b ρ h i) (Cert.AttnSixteenRefIdeal.Spec.rowK (proj m c) b ρ h) i)

/-- The logarithms a head stores, at the blocks of a point. -/
theorem lse_piece (a : Fin 2) (h : Fin 8) (o : BitVec 32) (ho : o.toInt = ((t.val % 2 * 256 + 128 * a : ℕ) : ℤ) - 64) (o₁ o₂ : ℕ)
    (h₁ : o₁ = 128 * a) (h₂ : o₂ = h * 128)
    (inq : ∀ d, (![0, o₁, o₂] : Fin 3 → ℕ) d + (![1, 128, 128] : Fin 3 → ℕ) d ≤ S1x256x1024.size d)
    (inb : ∀ d, (![o₁, o₂] : Fin 2 → ℕ) d + (![256, 128] : Fin 2 → ℕ) d ≤ S384x1024.size d)
    (b : Fin 2) (hb : (b : ℕ) = t.val / 32) (ρ : Fin 16) (hρ : (ρ : ℕ) = (t.val / 2 % 16)) (i : Fin 512) (r : Fin 128) (hi : (i : ℕ) = t.val % 2 * 256 + (o₁ + r)) :
    headLse (score (maskAt o 512#32) (View.ld (S := S1x256x1024) (Val := Elt Ideal) (e' := .bf16) (iblk m c 0 t) (Rect.unit ![0, o₁, o₂] ![1, 128, 128] inq))
        ((View.whole cc0_scratch0).readCov (Val := Elt Ideal) [⟨Rect.unit ![320, 0] ![64, 1024] inb_S384x1024_S64x1024_320_0, k0_pay5 (iblk m c 3 t)⟩,
          ⟨Rect.unit ![64, 0] ![256, 1024] inb_S384x1024_S256x1024_64_0, k0_pay4 (iblk m c 2 t)⟩,
          ⟨Rect.unit ![0, 0] ![64, 1024] inb_S384x1024_S64x1024_0_0, k0_pay3 (iblk m c 1 t)⟩] (Rect.unit (s := S384x1024) ![o₁, o₂] ![256, 128] inb).toLoadRect))
        (ix2 r 0)
      = seqLse (seqScore (Cert.AttnSixteenRefIdeal.Spec.rowQ (proj m c) b ρ h i) (Cert.AttnSixteenRefIdeal.Spec.rowK (proj m c) b ρ h) i) := by
  refine lse_head m c t a h o ho _ _ (fun r e => ?_) (fun y e => ?_) b hb ρ hρ i r (by omega)
  · exact query_tile (iblk m c 0 t) a h o₁ o₂ h₁ h₂ inq r e
  · exact slab_tile (View.whole cc0_scratch0) (iblk m c 1 t) (iblk m c 2 t) (iblk m c 3 t) a h o₁ o₂ h₁ h₂ inb y e

/-- Eight heads' logarithms in their lanes are the reference's padded row. -/
theorem lanes_eq (b : Fin 2) (ρ : Fin 16) (i : Fin 512) (z : Fin 1) (r x : Fin 128) (w : Fin 2048) (hw : (w : ℕ) = ρ * 128 + x) (l0 l1 l2 l3 l4 l5 l6 l7 : FVec Ideal S128x1 .f32)
    (h0 : l0 (ix2 r 0) = lseOf m c b ρ i 0) (h1 : l1 (ix2 r 0) = lseOf m c b ρ i 1) (h2 : l2 (ix2 r 0) = lseOf m c b ρ i 2)
    (h3 : l3 (ix2 r 0) = lseOf m c b ρ i 3) (h4 : l4 (ix2 r 0) = lseOf m c b ρ i 4) (h5 : l5 (ix2 r 0) = lseOf m c b ρ i 5)
    (h6 : l6 (ix2 r 0) = lseOf m c b ρ i 6) (h7 : l7 (ix2 r 0) = lseOf m c b ρ i 7) :
    lanes ![l0, l1, l2, l3, l4, l5, l6, l7] (ix3 z r x) = Cert.AttnSixteenRefIdeal.Read.val_main_v48 (F := Ideal) (proj m c) (ix3 b i w) := by
  have e : w = ⟨(ρ : ℕ) * 128 + x, by omega⟩ := Fin.ext hw
  have hl (h : Fin 8) : ![l0, l1, l2, l3, l4, l5, l6, l7] h (ix2 r 0) = lseOf m c b ρ i h := by
    fin_cases h <;> assumption
  rw [lanes_at, e, Cert.AttnSixteenRefIdeal.Spec.pad_at]
  simp only [hl]

set_option maxHeartbeats 2000000 in
/-- The output array is the reference's. -/
theorem final7 (hfin : ∀ i, proj m c i ≠ ⊥ ∧ proj m c i ≠ ⊤) :
    (dats m 0 c).arrAt 7 cfg0.N = Cert.AttnSixteenRefIdeal.Read.val_main_v44 (F := Ideal) (proj m c) := by
  refine (dats m 0 c).arrAt_eq_of_covers 7 _ (by decide +kernel) fun t _ y => ?_
  blk_simp
  obtain_idx i : S2x512x16384 := [t.val / 32, t.val % 2 * 256 + y 1, (t.val / 2 % 16) * 1024 + y 2] with hi
  refine Eq.trans (b := Cert.AttnSixteenRefIdeal.Read.val_main_v44 (F := Ideal) (proj m c) i) ?_ (congrArg _ ?_)
  rotate_left
  · blk_ext [idx t]
  have hi : i = ix3 (i 0) (i 1) (i 2) := by blk_ext
  have ht : t.val % 2 ≤ 31 := by omega
  obtain ⟨ρ, hρ⟩ : ∃ ρ : Fin 16, (ρ : ℕ) = (t.val / 2 % 16) := ⟨⟨(t.val / 2 % 16), by omega⟩, rfl⟩
  have lo := off_lo (t.val % 2) ht
  have up := off_hi (t.val % 2) ht
  rw [hi, after0_7]
  unfold Gen.outsAt0
  frame_out
  rw [(coords t).2.2]
  clear hi
  canon_tiles x e
  · idx_vars x
    exact out_piece m c t 1 7 _ up 128 896 rfl rfl _ _ hfin (i 0) hi0 ρ hρ (i 1) x1 (by omega) x0 x2 (i 2) (by omega)
  · idx_vars x
    exact out_piece m c t 1 6 _ up 128 768 rfl rfl _ _ hfin (i 0) hi0 ρ hρ (i 1) x1 (by omega) x0 x2 (i 2) (by omega)
  · idx_vars x
    exact out_piece m c t 1 5 _ up 128 640 rfl rfl _ _ hfin (i 0) hi0 ρ hρ (i 1) x1 (by omega) x0 x2 (i 2) (by omega)
  · idx_vars x
    exact out_piece m c t 1 4 _ up 128 512 rfl rfl _ _ hfin (i 0) hi0 ρ hρ (i 1) x1 (by omega) x0 x2 (i 2) (by omega)
  · idx_vars x
    exact out_piece m c t 1 3 _ up 128 384 rfl rfl _ _ hfin (i 0) hi0 ρ hρ (i 1) x1 (by omega) x0 x2 (i 2) (by omega)
  · idx_vars x
    exact out_piece m c t 1 2 _ up 128 256 rfl rfl _ _ hfin (i 0) hi0 ρ hρ (i 1) x1 (by omega) x0 x2 (i 2) (by omega)
  · idx_vars x
    exact out_piece m c t 1 1 _ up 128 128 rfl rfl _ _ hfin (i 0) hi0 ρ hρ (i 1) x1 (by omega) x0 x2 (i 2) (by omega)
  · idx_vars x
    exact out_piece m c t 1 0 _ up 128 0 rfl rfl _ _ hfin (i 0) hi0 ρ hρ (i 1) x1 (by omega) x0 x2 (i 2) (by omega)
  · idx_vars x
    exact out_piece m c t 0 7 _ lo 0 896 rfl rfl _ _ hfin (i 0) hi0 ρ hρ (i 1) x1 (by omega) x0 x2 (i 2) (by omega)
  · idx_vars x
    exact out_piece m c t 0 6 _ lo 0 768 rfl rfl _ _ hfin (i 0) hi0 ρ hρ (i 1) x1 (by omega) x0 x2 (i 2) (by omega)
  · idx_vars x
    exact out_piece m c t 0 5 _ lo 0 640 rfl rfl _ _ hfin (i 0) hi0 ρ hρ (i 1) x1 (by omega) x0 x2 (i 2) (by omega)
  · idx_vars x
    exact out_piece m c t 0 4 _ lo 0 512 rfl rfl _ _ hfin (i 0) hi0 ρ hρ (i 1) x1 (by omega) x0 x2 (i 2) (by omega)
  · idx_vars x
    exact out_piece m c t 0 3 _ lo 0 384 rfl rfl _ _ hfin (i 0) hi0 ρ hρ (i 1) x1 (by omega) x0 x2 (i 2) (by omega)
  · idx_vars x
    exact out_piece m c t 0 2 _ lo 0 256 rfl rfl _ _ hfin (i 0) hi0 ρ hρ (i 1) x1 (by omega) x0 x2 (i 2) (by omega)
  · idx_vars x
    exact out_piece m c t 0 1 _ lo 0 128 rfl rfl _ _ hfin (i 0) hi0 ρ hρ (i 1) x1 (by omega) x0 x2 (i 2) (by omega)
  · idx_vars x
    exact out_piece m c t 0 0 _ lo 0 0 rfl rfl _ _ hfin (i 0) hi0 ρ hρ (i 1) x1 (by omega) x0 x2 (i 2) (by omega)

end Cert.AttnSixteenIdeal.Final

end

end
-- ==== Proof.AttnSixteenLse.lean ====
/- The attention at dilation 16: the array of logarithms the run leaves is the reference's. -/
module

public import proofs.«01_k».proof.Proof.AttnSixteenValue

@[expose] public section

set_option maxRecDepth 200000

noncomputable section

namespace Cert.AttnSixteenIdeal.Final

open Idealize.ShloMosaic Idealize.ShloMosaic.TcCoe Idealize.SL.Sem
open Cert.Banded Cert.AttnSixteenIdeal Cert.AttnSixteenIdeal.Gen

variable (m : (ℓ : Loc nD τ sig) → Buf (Elt Ideal) ℓ) (c : Dev nD)

set_option maxHeartbeats 2000000 in
/-- The array of logarithms is the reference's. -/
theorem final8 : (dats m 0 c).arrAt 8 cfg0.N = Cert.AttnSixteenRefIdeal.Read.val_main_v48 (F := Ideal) (proj m c) := by
  refine (dats m 0 c).arrAt_eq_of_covers 8 _ (by decide +kernel) fun t _ y => ?_
  blk_simp
  obtain_idx i : S2x512x2048 := [t.val / 32, t.val % 2 * 256 + y 1, (t.val / 2 % 16) * 128 + y 2] with hi
  refine Eq.trans (b := Cert.AttnSixteenRefIdeal.Read.val_main_v48 (F := Ideal) (proj m c) i) ?_ (congrArg _ ?_)
  rotate_left
  · blk_ext [idx t]
  have hi : i = ix3 (i 0) (i 1) (i 2) := by blk_ext
  have ht : t.val % 2 ≤ 31 := by omega
  obtain ⟨ρ, hρ⟩ : ∃ ρ : Fin 16, (ρ : ℕ) = (t.val / 2 % 16) := ⟨⟨(t.val / 2 % 16), by omega⟩, rfl⟩
  have lo := off_lo (t.val % 2) ht
  have up := off_hi (t.val % 2) ht
  rw [hi, after0_8]
  unfold Gen.outsAt0
  frame_out
  rw [(coords t).2.2]
  clear hi
  canon_tiles x e
  · idx_vars x
    refine lanes_eq m c (i 0) ρ (i 1) x0 x1 x2 (i 2) (by omega) _ _ _ _ _ _ _ _ ?_ ?_ ?_ ?_ ?_ ?_ ?_ ?_
    · exact lse_piece m c t 1 0 _ up 128 0 rfl rfl _ _ (i 0) hi0 ρ hρ (i 1) x1 (by omega)
    · exact lse_piece m c t 1 1 _ up 128 128 rfl rfl _ _ (i 0) hi0 ρ hρ (i 1) x1 (by omega)
    · exact lse_piece m c t 1 2 _ up 128 256 rfl rfl _ _ (i 0) hi0 ρ hρ (i 1) x1 (by omega)
    · exact lse_piece m c t 1 3 _ up 128 384 rfl rfl _ _ (i 0) hi0 ρ hρ (i 1) x1 (by omega)
    · exact lse_piece m c t 1 4 _ up 128 512 rfl rfl _ _ (i 0) hi0 ρ hρ (i 1) x1 (by omega)
    · exact lse_piece m c t 1 5 _ up 128 640 rfl rfl _ _ (i 0) hi0 ρ hρ (i 1) x1 (by omega)
    · exact lse_piece m c t 1 6 _ up 128 768 rfl rfl _ _ (i 0) hi0 ρ hρ (i 1) x1 (by omega)
    · exact lse_piece m c t 1 7 _ up 128 896 rfl rfl _ _ (i 0) hi0 ρ hρ (i 1) x1 (by omega)
  · idx_vars x
    refine lanes_eq m c (i 0) ρ (i 1) x0 x1 x2 (i 2) (by omega) _ _ _ _ _ _ _ _ ?_ ?_ ?_ ?_ ?_ ?_ ?_ ?_
    · exact lse_piece m c t 0 0 _ lo 0 0 rfl rfl _ _ (i 0) hi0 ρ hρ (i 1) x1 (by omega)
    · exact lse_piece m c t 0 1 _ lo 0 128 rfl rfl _ _ (i 0) hi0 ρ hρ (i 1) x1 (by omega)
    · exact lse_piece m c t 0 2 _ lo 0 256 rfl rfl _ _ (i 0) hi0 ρ hρ (i 1) x1 (by omega)
    · exact lse_piece m c t 0 3 _ lo 0 384 rfl rfl _ _ (i 0) hi0 ρ hρ (i 1) x1 (by omega)
    · exact lse_piece m c t 0 4 _ lo 0 512 rfl rfl _ _ (i 0) hi0 ρ hρ (i 1) x1 (by omega)
    · exact lse_piece m c t 0 5 _ lo 0 640 rfl rfl _ _ (i 0) hi0 ρ hρ (i 1) x1 (by omega)
    · exact lse_piece m c t 0 6 _ lo 0 768 rfl rfl _ _ (i 0) hi0 ρ hρ (i 1) x1 (by omega)
    · exact lse_piece m c t 0 7 _ lo 0 896 rfl rfl _ _ (i 0) hi0 ρ hρ (i 1) x1 (by omega)

end Cert.AttnSixteenIdeal.Final

end
end
-- ==== Proof.AttnSixteenClaims.lean ====
/- Attention at dilation sixteen: its claims. -/
module

public import proofs.«01_k».proof.Defs
public import proofs.«01_k».proof.Proof.AttnSixteenLse
public import proofs.«01_k».proof.Proof.FiniteInput
public import proofs.«01_k».proof.Proof.Gen.AttnSixteen.Frame
public import proofs.«01_k».proof.Proof.Gen.AttnSixteenIdeal.Frame
public import proofs.«01_k».proof.Proof.Gen.AttnSixteenRefIdeal.Run
public import proofs.«01_k».proof.Proof.Gen.AttnSixteenRefIdeal.Read
public import Idealize.ShloMosaic.Lib.Claim

@[expose] public section

set_option maxRecDepth 16384

noncomputable section

namespace Cert.AttnSixteenClaims

open Idealize.ShloMosaic Idealize.ShloMosaic.TcCoe Idealize.SL.Sem

/-- The program ends with its arguments as they were and every semaphore at zero. -/
theorem frame : Cert.quiescent_AttnSixteen (hAttnSixteen := Cert.AttnSixteen.Gen.facts) := fun m ρ _ => Cert.AttnSixteen.Gen.frame m ρ

/-- So does its idealization. -/
theorem frame_ideal : Cert.quiescent_AttnSixteenIdeal (hAttnSixteenIdeal := Cert.AttnSixteenIdeal.Gen.facts) := fun m ρ _ => Cert.AttnSixteenIdeal.Gen.frame m ρ

/-- So does the reference. -/
theorem frame_ref : Cert.quiescent_AttnSixteenRefIdeal (hAttnSixteenRefIdeal := Cert.AttnSixteenRefIdeal.Gen.facts) := fun m ρ _ =>
  (θ_run _ _ _).mono (fun r h => ⟨fun c => (h c).2.2, sem_eq_zero_of_no_sems (by decide) r.2⟩) (Cert.AttnSixteenRefIdeal.Value.run m ρ)

/-- The idealization's frame under the precondition. -/
theorem frame_ideal_pre : Cert.quiescent_AttnSixteenIdeal_pre_finite_projection (hAttnSixteenIdeal := Cert.AttnSixteenIdeal.Gen.facts)
    (hPre_finite_projection := Cert.Pre_finite_projection.Gen.facts) := fun m ρ _ => Cert.AttnSixteenIdeal.Gen.frame m ρ

/-- The reference's frame under the precondition. -/
theorem frame_ref_pre : Cert.quiescent_AttnSixteenRefIdeal_pre_finite_projection (hAttnSixteenRefIdeal := Cert.AttnSixteenRefIdeal.Gen.facts)
    (hPre_finite_projection := Cert.Pre_finite_projection.Gen.facts) := fun m ρ _ => frame_ref m ρ trivial

/-- The idealization only names the mask's constant. -/
theorem preserved : Cert.preserves_AttnSixteen_AttnSixteenIdeal := IdealRules.named_const.statement Cert.AttnSixteenIdeal.κ "mask" .f32 0xF149F2CA#32 ⊥ rfl

/-- The idealization and the reference compute the same two arrays of every finite projection. -/
theorem equal : Cert.algebraic_AttnSixteenIdeal_AttnSixteenRefIdeal_pre_finite_projection (hAttnSixteenIdeal := Cert.AttnSixteenIdeal.Gen.facts)
    (hAttnSixteenRefIdeal := Cert.AttnSixteenRefIdeal.Gen.facts) (hPre_finite_projection := Cert.Pre_finite_projection.Gen.facts) := by
  intro m g m' g' hpre hargs
  refine ⟨fun c => (Cert.AttnSixteenIdeal.Gen.dats m 0 c).arrAt 7 Cert.AttnSixteenIdeal.cfg0.N, fun c => (Cert.AttnSixteenIdeal.Gen.dats m 0 c).arrAt 8 Cert.AttnSixteenIdeal.cfg0.N,
    Cert.AttnSixteenIdeal.Value.run_blocks m g, ?_⟩
  refine (θ_run _ _ _).mono (fun r h c => ⟨(h c).1.trans ?_, (h c).2.1.trans ?_, (h c).2.2⟩) (Cert.AttnSixteenRefIdeal.Value.run m' g')
  · rw [Cert.AttnSixteenRefIdeal.Read.val_main_v44_eq, hargs c]
    exact (Cert.AttnSixteenIdeal.Final.final7 m c (Cert.FiniteInput.entries _ (hpre c))).symm
  · rw [Cert.AttnSixteenRefIdeal.Read.val_main_v48_eq, hargs c]
    exact (Cert.AttnSixteenIdeal.Final.final8 m c).symm

end Cert.AttnSixteenClaims

end

end
-- ==== Proof.NormValue.lean ====
/- The normalisation: what every grid point writes is the reference's value, so the array is. -/
module

public import proofs.«01_k».proof.Proof.Gen.NormIdeal.Value
public import proofs.«01_k».proof.Proof.Gen.NormRefIdeal.Read
public import Idealize.ShloMosaic.Lib.Pointwise
public import Idealize.ShloMosaic.Lib.Pipeline.ValueKit
public import Idealize.ShloMosaic.Lib.Claim

@[expose] public section

set_option maxRecDepth 16384

noncomputable section

namespace Cert.NormIdeal.Final

open Idealize.ShloMosaic Idealize.ShloMosaic.TcCoe Idealize.SL.Sem
open Cert.NormIdeal Cert.NormIdeal.Gen
open Cert.NormRefIdeal.Read (val_main_v15)

/-- A row divided by the root of its mean square, times a scale: the value both programs compute at a column. -/
def normed (x : Fin 4096 → EReal) (g : EReal) (e : Fin 4096) : EReal :=
  x e * Ideal.rsqrt (Ideal.div (∑ k, x k * x k) (Ideal.ofBits .f32 0x45800000#32) + Ideal.ofBits .f32 0x358637BD#32) * g

/-- What the body computes at an index of its block. -/
theorem body_at (A : Vec Ideal S256x4096 .f32) (B : Vec Ideal S1x4096 .f32) (r : Fin 256) (e : Fin 4096) :
    k0_pay1 A B (ix2 r e) = normed (fun k => A (ix2 r k)) (B (ix2 0 e)) e := by
  unfold normed
  pointwise [k0_pay1]

open Cert.NormRefIdeal.Read in
/-- What the reference computes at a row and column. -/
theorem ref_at (x0 : (⟨S2x8192x4096, .f32⟩ : BufTy).Contents (Elt Ideal)) (x1 : (⟨S1x4096, .f32⟩ : BufTy).Contents (Elt Ideal))
    (b : Fin 2) (s : Fin 8192) (i : Fin 16384) (hi : (i : ℕ) = b * 8192 + s) (e : Fin 4096) :
    Cert.NormRefIdeal.Read.val_main_v15 (F := Ideal) x0 x1 (ix2 i e) = normed (fun k => x0 (ix3 b s k)) (x1 (ix2 0 e)) e := by
  obtain ⟨i, _⟩ := i
  obtain rfl : i = b * 8192 + s := hi
  have h0 : val_main_v2 (F := Ideal) x0 (ix2 b s) = ∑ k : Fin 4096, x0 (ix3 b s k) * x0 (ix3 b s k) := by
    rw [val_main_v2_apply]
    pointwise [val_main_v1, val_main_cst]
    exact Finset.sum_congr rfl fun k _ => by
      have h : idx_main_v2 (ix2 b s) k = ix3 b s k := by blk_ext
      rw [h]
  unfold normed
  rw [← h0]
  clear h0
  generalize hy : val_main_v2 (F := Ideal) x0 = y at *
  pointwise [val_main_v15, val_main_v14, val_main_v13, val_main_v12, val_main_v11, val_main_v10, val_main_v9, val_main_v8, val_main_v7,
    val_main_v6, val_main_v5, val_main_v4, val_main_v3, val_main_v0, val_main_cst_0, val_main_cst_1]
  rw [hy]

variable (m : (ℓ : Loc nD τ sig) → Buf (Elt Ideal) ℓ) (c : Dev nD) (t : Fin cfg0.N)

/-- The windows' index maps. -/
theorem idx : ∀ t : Fin cfg0.N, win0_0.index t = ![t.val, 0] ∧ win0_1.index t = ![0, 0] ∧ win0_2.index t = ![t.val, 0] :=
  (by decide +kernel : ∀ t : Fin grid0.N, _)

/-- The value a point writes is the reference's. -/
theorem piece (r : Fin 256) (e : Fin 4096) (i : Fin 16384) (hi : (i : ℕ) = t.val * 256 + r) (w : Fin 4096) (hw : (w : ℕ) = e) :
    k0_pay1 (iblk m c 0 t) (iblk m c 1 t) (ix2 r e)
      = val_main_v15 (F := Ideal) (m ((c.tc : Thread nD τ).loc main_arg0)) (m ((c.tc : Thread nD τ).loc main_arg1)) (ix2 i w) := by
  have hlt := i.isLt
  obtain rfl : w = e := Fin.ext hw
  have hA (k : Fin 4096) : iblk m c 0 t (ix2 r k) = m ((c.tc : Thread nD τ).loc main_arg0) (ix3 ⟨i / 8192, by omega⟩ ⟨i % 8192, by omega⟩ k) := by
    blk_point [iblk, V, idx t]
  have hB (k : Fin 4096) : iblk m c 1 t (ix2 0 k) = m ((c.tc : Thread nD τ).loc main_arg1) (ix2 0 k) := by
    blk_point [iblk, V, idx t]
  rw [body_at, ref_at _ _ ⟨i / 8192, by omega⟩ ⟨i % 8192, by omega⟩ i (by show (i : ℕ) = (i : ℕ) / 8192 * 8192 + (i : ℕ) % 8192; omega), hB]
  simp only [hA]

/-- The output array is the reference's. -/
theorem final2 : (dats m 0 c).arrAt 2 cfg0.N
    = val_main_v15 (F := Ideal) (m ((c.tc : Thread nD τ).loc main_arg0)) (m ((c.tc : Thread nD τ).loc main_arg1)) := by
  refine (dats m 0 c).arrAt_eq_of_covers 2 _ (by decide +kernel) fun t _ y => ?_
  have ht : t.val < 64 := t.isLt
  blk_simp
  obtain_idx i : S16384x4096 := [t.val * 256 + (y 0).val, (y 1).val] with hi
  refine Eq.trans (b := val_main_v15 (F := Ideal) (m ((c.tc : Thread nD τ).loc main_arg0)) (m ((c.tc : Thread nD τ).loc main_arg1)) i) ?_ (congrArg _ ?_)
  rotate_left
  · blk_ext [idx t]
  have hi : i = ix2 (i 0) (i 1) := by blk_ext
  have hy : y = ix2 (y 0) (y 1) := by blk_ext
  rw [hi, after0_2, hy]
  unfold Gen.out0_2
  frame_out
  exact piece m c t (y 0) (y 1) (i 0) hi0 (i 1) hi1

end Cert.NormIdeal.Final

end

end
-- ==== Proof.NormClaims.lean ====
/- The normalisation: its claims. -/
module

public import proofs.«01_k».proof.Defs
public import proofs.«01_k».proof.Proof.NormValue
public import proofs.«01_k».proof.Proof.Gen.Norm.Frame
public import proofs.«01_k».proof.Proof.Gen.NormIdeal.Frame
public import proofs.«01_k».proof.Proof.Gen.NormRefIdeal.Run
public import proofs.«01_k».proof.Proof.Gen.NormRefIdeal.Read
public import Idealize.ShloMosaic.Lib.Claim

@[expose] public section

set_option maxRecDepth 16384

noncomputable section

namespace Cert.NormClaims

open Idealize.ShloMosaic Idealize.ShloMosaic.TcCoe Idealize.SL.Sem

/-- The program ends with its arguments as they were and every semaphore at zero. -/
theorem frame : Cert.quiescent_Norm (hNorm := Cert.Norm.Gen.facts) := fun m ρ _ => Cert.Norm.Gen.frame m ρ

/-- So does its idealization. -/
theorem frame_ideal : Cert.quiescent_NormIdeal (hNormIdeal := Cert.NormIdeal.Gen.facts) := fun m ρ _ => Cert.NormIdeal.Gen.frame m ρ

/-- So does the reference. -/
theorem frame_ref : Cert.quiescent_NormRefIdeal (hNormRefIdeal := Cert.NormRefIdeal.Gen.facts) := fun m ρ _ =>
  (θ_run _ _ _).mono (fun r h => ⟨fun c => (h c).2, sem_eq_zero_of_no_sems (by decide) r.2⟩) (Cert.NormRefIdeal.Value.run m ρ)

/-- The idealization and the reference compute the same array. -/
theorem equal : Cert.algebraic_NormIdeal_NormRefIdeal (hNormIdeal := Cert.NormIdeal.Gen.facts) (hNormRefIdeal := Cert.NormRefIdeal.Gen.facts) := by
  intro m g m' g' _ hargs
  refine ⟨fun c => (Cert.NormIdeal.Gen.dats m 0 c).arrAt 2 Cert.NormIdeal.cfg0.N, Cert.NormIdeal.Value.run_blocks m g, ?_⟩
  refine (θ_run _ _ _).mono (fun r h c => ⟨(h c).1.trans ?_, (h c).2⟩) (Cert.NormRefIdeal.Value.run m' g')
  rw [Cert.NormRefIdeal.Read.val_main_v15_eq, (hargs c).1, (hargs c).2]
  exact (Cert.NormIdeal.Final.final2 m c).symm

end Cert.NormClaims

end

end
-- ==== Proof.InProjRef.lean ====
/- The reference of the input projection, read at an index: the product, and per group of columns what becomes of it. -/
module

public import Idealize.ShloMosaic.Lib.Pointwise
public import Idealize.ShloMosaic.Lib.Pipeline.ValueKit
public import proofs.«01_k».proof.Proof.Gen.InProjRefIdeal.Read

@[expose] public section

set_option maxRecDepth 16384

noncomputable section

namespace Cert.InProjRefIdeal.Spec

open Idealize.ShloMosaic Idealize.ShloMosaic.TcCoe Idealize.SL.Sem
open Cert.InProjRefIdeal Cert.InProjRefIdeal.Gen Cert.InProjRefIdeal.Read

variable (x0 : (⟨S16384x4096, .bf16⟩ : BufTy).Contents (Elt Ideal)) (x1 : (⟨S1x4096x22528, .f32⟩ : BufTy).Contents (Elt Ideal))
  (x2 : (⟨S1x8192, .f32⟩ : BufTy).Contents (Elt Ideal))

/-- The product of a row and a column. -/
abbrev prod (i : Fin 16384) (n : Fin 22528) : EReal := ∑ k : Fin 4096, x0 (ix2 i k) * x1 (ix3 0 k n)

variable (b : Fin 2) (s : Fin 8192)

/-- The reference's product. -/
theorem prod_at (i : Fin 16384) (hi : (i : ℕ) = b * 8192 + s) (n : Fin 22528) : val_main_v4 (F := Ideal) x0 x1 (ix3 b s n) = prod x0 x1 i n := by
  obtain ⟨i, _⟩ := i
  obtain rfl : i = b * 8192 + s := hi
  rw [val_main_v4_apply]
  refine Finset.sum_congr rfl fun k _ => ?_
  rw [show lidx_main_v4 (ix3 b s n) k = ix3 b s k from by blk_ext, show ridx_main_v4 (ix3 b s n) k = ix2 k n from by blk_ext]
  pointwise [val_main_v2, val_main_v1, val_main_v3]

/-- The result's rows are the two sequences' positions. -/
theorem row_at (i : Fin 16384) (hi : (i : ℕ) = b * 8192 + s) (n : Fin 22528) :
    val_main_v90 (F := Ideal) x0 x1 x2 (ix2 i n) = val_main_v88 (F := Ideal) x0 x1 x2 (ix3 b s n) := by
  obtain ⟨i, _⟩ := i
  obtain rfl : i = b * 8192 + s := hi
  unfold val_main_v90 val_main_v89
  generalize val_main_v88 x0 x1 x2 = y
  pointwise

/-- The seven groups of columns, in their order along a row. -/
theorem group_at (n : Fin 22528) : val_main_v88 (F := Ideal) x0 x1 x2 (ix3 b s n)
    = if h0 : (n : ℕ) < 3072 then val_main_v74 (F := Ideal) x0 x1 (ix3 b s ⟨n, h0⟩)
      else if h1 : (n : ℕ) - 3072 < 3072 then val_main_v75 (F := Ideal) x0 x1 (ix3 b s ⟨n - 3072, h1⟩)
      else if h2 : (n : ℕ) - 3072 - 3072 < 3072 then val_main_v7 (F := Ideal) x0 x1 (ix3 b s ⟨n - 3072 - 3072, h2⟩)
      else if h3 : (n : ℕ) - 3072 - 3072 - 3072 < 1024 then val_main_v76 (F := Ideal) x0 x1 (ix3 b s ⟨n - 3072 - 3072 - 3072, h3⟩)
      else if h4 : (n : ℕ) - 3072 - 3072 - 3072 - 1024 < 2048 then
        val_main_v9 (F := Ideal) x0 x1 (ix3 b s ⟨n - 3072 - 3072 - 3072 - 1024, h4⟩)
      else if h5 : (n : ℕ) - 3072 - 3072 - 3072 - 1024 - 2048 < 2048 then
        val_main_v77 (F := Ideal) x0 x1 (ix3 b s ⟨n - 3072 - 3072 - 3072 - 1024 - 2048, h5⟩)
      else val_main_v87 (F := Ideal) x0 x1 x2 (ix3 b s ⟨n - 3072 - 3072 - 3072 - 1024 - 2048 - 2048, by omega⟩) := by
  unfold val_main_v88
  generalize val_main_v74 x0 x1 = y0
  generalize val_main_v75 x0 x1 = y1
  generalize val_main_v7 x0 x1 = y2
  generalize val_main_v76 x0 x1 = y3
  generalize val_main_v9 x0 x1 = y4
  generalize val_main_v77 x0 x1 = y5
  generalize val_main_v87 x0 x1 x2 = y6
  pointwise

/-- A plain column (a value, or the Fourier branch's input) is the product. -/
theorem plain_at (i : Fin 16384) (hi : (i : ℕ) = b * 8192 + s) (n : Fin 22528) (h : 6144 ≤ (n : ℕ) ∧ (n : ℕ) < 9216 ∨ 10240 ≤ (n : ℕ) ∧ (n : ℕ) < 12288) :
    val_main_v90 (F := Ideal) x0 x1 x2 (ix2 i n) = prod x0 x1 i n := by
  rw [row_at x0 x1 x2 b s i hi, group_at, ← prod_at x0 x1 b s i hi]
  unfold val_main_v7 val_main_v9
  generalize val_main_v4 x0 x1 = y
  have e (m : Fin 22528) (hm : (m : ℕ) = n) : y (ix3 b s m) = y (ix3 b s n) := by rw [Fin.ext hm]
  rcases h with h | h
  · rw [dif_neg (by omega), dif_neg (by omega), dif_pos (by omega)]
    pointwise
    exact e _ (by show 6144 + ((n : ℕ) - 3072 - 3072) = n; omega)
  · rw [dif_neg (by omega), dif_neg (by omega), dif_neg (by omega), dif_neg (by omega), dif_pos (by omega)]
    pointwise
    exact e _ (by show 10240 + ((n : ℕ) - 3072 - 3072 - 3072 - 1024) = n; omega)

/-- A gating column is the product times its sigmoid. -/
theorem silu_at (i : Fin 16384) (hi : (i : ℕ) = b * 8192 + s) (n : Fin 22528) (h : 9216 ≤ (n : ℕ) ∧ (n : ℕ) < 10240 ∨ 12288 ≤ (n : ℕ) ∧ (n : ℕ) < 14336) :
    val_main_v90 (F := Ideal) x0 x1 x2 (ix2 i n)
      = prod x0 x1 i n * Ideal.div (Ideal.ofBits .f32 0x3F800000#32)
        (Ideal.ofBits .f32 0x3F800000#32 + Ideal.exp (-prod x0 x1 i n)) := by
  rw [row_at x0 x1 x2 b s i hi, group_at, ← prod_at x0 x1 b s i hi]
  unfold val_main_v76 val_main_v77 val_main_call0_v5 val_main_call1_v5 val_main_call0_v4 val_main_call1_v4 val_main_call0_v3 val_main_call1_v3
    val_main_call0_v2 val_main_call1_v2 val_main_call0_v1 val_main_call1_v1 val_main_call0_v0 val_main_call1_v0 val_main_v8 val_main_v10
    val_main_call0_cst val_main_call1_cst val_main_call0_cst_0 val_main_call1_cst_0
  generalize val_main_v4 x0 x1 = y
  have e (m : Fin 22528) (hm : (m : ℕ) = n) : y (ix3 b s m) = y (ix3 b s n) := by rw [Fin.ext hm]
  rcases h with h | h
  · rw [dif_neg (by omega), dif_neg (by omega), dif_neg (by omega), dif_pos (by omega)]
    pointwise
    simp only [e ⟨9216 + ((n : ℕ) - 3072 - 3072 - 3072), by omega⟩ (by show 9216 + ((n : ℕ) - 3072 - 3072 - 3072) = n; omega)]
  · rw [dif_neg (by omega), dif_neg (by omega), dif_neg (by omega), dif_neg (by omega), dif_neg (by omega), dif_pos (by omega)]
    pointwise
    simp only [e ⟨12288 + ((n : ℕ) - 3072 - 3072 - 3072 - 1024 - 2048), by omega⟩
      (by show 12288 + ((n : ℕ) - 3072 - 3072 - 3072 - 1024 - 2048) = n; omega)]

/-- A branch gate is the sigmoid of the product and its bias. -/
theorem gate_at (i : Fin 16384) (hi : (i : ℕ) = b * 8192 + s) (g : Fin 8192) (w : Fin 22528) (hw : (w : ℕ) = 14336 + g) :
    val_main_v90 (F := Ideal) x0 x1 x2 (ix2 i w)
      = Ideal.div (Ideal.ofBits .f32 0x3F800000#32) (Ideal.ofBits .f32 0x3F800000#32
        + Ideal.exp (-(prod x0 x1 i w + x2 (ix2 0 g)))) := by
  obtain ⟨w, _⟩ := w
  obtain rfl : w = 14336 + g := hw
  rw [row_at x0 x1 x2 b s i hi, group_at, ← prod_at x0 x1 b s i hi]
  rw [dif_neg (by simp; omega), dif_neg (by simp; omega), dif_neg (by simp; omega), dif_neg (by simp; omega), dif_neg (by simp; omega),
    dif_neg (by simp; omega)]
  unfold val_main_v87 val_main_v86 val_main_v85 val_main_v84 val_main_v83 val_main_v82 val_main_v81 val_main_v80 val_main_v79 val_main_v78
    val_main_v11 val_main_cst_4 val_main_cst_5
  generalize val_main_v4 x0 x1 = y
  pointwise
  have hg : 14336 + (g : ℕ) - 3072 - 3072 - 3072 - 1024 - 2048 - 2048 = g := by omega
  simp only [hg]

/-- The rotation of a head: the first half's columns and the second half's, by the angles' cosines and sines. -/
def rot (y : Fin 128 → EReal) (co si : Fin 64 → EReal) (e : Fin 128) : EReal :=
  if h : (e : ℕ) < 64 then y e * co ⟨e, h⟩ - y ⟨64 + e, by omega⟩ * si ⟨e, h⟩
  else y e * co ⟨e - 64, by omega⟩ + y ⟨e - 64, by omega⟩ * si ⟨e - 64, by omega⟩

/-- A query column is its head's rotation, scaled. -/
theorem query_at (i : Fin 16384) (hi : (i : ℕ) = b * 8192 + s) (h : Fin 24) (e : Fin 128) (w : Fin 22528) (hw : (w : ℕ) = h * 128 + e) :
    val_main_v90 (F := Ideal) x0 x1 x2 (ix2 i w)
      = rot (fun e => prod x0 x1 i ⟨h * 128 + e, by omega⟩) (fun d => val_main_v25 (F := Ideal) (ix2 s d))
        (fun d => val_main_v27 (F := Ideal) (ix2 s d)) e * Ideal.ofBits .f32 0x3DB504F3#32 := by
  obtain ⟨w, _⟩ := w
  obtain rfl : w = h * 128 + e := hw
  rw [row_at x0 x1 x2 b s i hi, group_at, dif_pos (by show (h : ℕ) * 128 + e < 3072; omega)]
  simp only [← prod_at x0 x1 b s i hi]
  unfold val_main_v74 val_main_v43 val_main_v42 val_main_v41 val_main_v40 val_main_v39 val_main_v38 val_main_v37 val_main_v36 val_main_v35
    val_main_v34 val_main_v33 val_main_v32 val_main_v31 val_main_v30 val_main_v29 val_main_v28 val_main_v26 val_main_v12 val_main_v5
    val_main_cst_1
  generalize val_main_v4 x0 x1 = y
  generalize val_main_v25 (F := Ideal) = co
  generalize val_main_v27 (F := Ideal) = si
  pointwise
  refine congrArg (· * _) ?_
  unfold rot
  split
  · rfl
  · have hp : 64 + ((e : ℕ) - 64) = e := by omega
    simp only [hp]

/-- A key column is its head's rotation. -/
theorem key_at (i : Fin 16384) (hi : (i : ℕ) = b * 8192 + s) (h : Fin 24) (e : Fin 128) (w : Fin 22528) (hw : (w : ℕ) = 3072 + (h * 128 + e)) :
    val_main_v90 (F := Ideal) x0 x1 x2 (ix2 i w)
      = rot (fun e => prod x0 x1 i ⟨3072 + (h * 128 + e), by omega⟩) (fun d => val_main_v25 (F := Ideal) (ix2 s d))
        (fun d => val_main_v27 (F := Ideal) (ix2 s d)) e := by
  obtain ⟨w, _⟩ := w
  obtain rfl : w = 3072 + (h * 128 + e) := hw
  rw [row_at x0 x1 x2 b s i hi, group_at, dif_neg (by show ¬3072 + ((h : ℕ) * 128 + e) < 3072; omega),
    dif_pos (by show 3072 + ((h : ℕ) * 128 + e) - 3072 < 3072; omega)]
  simp only [← prod_at x0 x1 b s i hi, ← show val_main_v57 (F := Ideal) = val_main_v25 from rfl, ← show val_main_v59 (F := Ideal) = val_main_v27 from rfl]
  unfold val_main_v75 val_main_v73 val_main_v72 val_main_v71 val_main_v70 val_main_v69 val_main_v68 val_main_v67 val_main_v66 val_main_v65
    val_main_v64 val_main_v63 val_main_v62 val_main_v61 val_main_v60 val_main_v58 val_main_v44 val_main_v6
  generalize val_main_v4 x0 x1 = y
  generalize val_main_v57 (F := Ideal) = co
  generalize val_main_v59 (F := Ideal) = si
  pointwise
  unfold rot
  split
  · rfl
  · have hp : 64 + ((e : ℕ) - 64) = e := by omega
    simp only [hp]

end Cert.InProjRefIdeal.Spec

end

end
-- ==== Proof.Sigmoid.lean ====
/- The two ways a sigmoid is written, by the hyperbolic tangent and by the exponential, are one function, at the infinities too. -/
module

public import Idealize.ShloMosaic.Lib.Pointwise
public import Idealize.ShloMosaic.Lib.IdealHost

@[expose] public section

noncomputable section

namespace Cert.Sigmoid

open Idealize.ShloMosaic

/-- The tangent's half-argument form of the sigmoid, at a real. -/
theorem real_eq (x : ℝ) : 1 / 2 * (Real.tanh (1 / 2 * x) + 1) = 1 / (1 + Real.exp (-x)) := by
  rw [Real.tanh_eq_sinh_div_cosh, Real.sinh_eq, Real.cosh_eq]
  have h := Real.exp_pos (1 / 2 * x)
  have e : Real.exp (-x) = Real.exp (-(1 / 2 * x)) * Real.exp (-(1 / 2 * x)) := by rw [← Real.exp_add]; congr 1; ring
  have g : Real.exp (-(1 / 2 * x)) = (Real.exp (1 / 2 * x))⁻¹ := Real.exp_neg _
  rw [e, g]
  field_simp
  ring

/-- The constant one half. -/
theorem half : Ideal.ofBits .f32 0x3F000000#32 = ((1 / 2 : ℝ) : EReal) := by
  simp [Ideal.ofBits, Ideal.ieee, -EReal.coe_mul]; norm_num

/-- The two forms of the sigmoid agree. -/
theorem eq (x : EReal) : ((1 / 2 : ℝ) : EReal) * (Ideal.tanh (((1 / 2 : ℝ) : EReal) * x) + 1) = Ideal.div 1 (1 + Ideal.exp (-x)) := by
  induction x using EReal.rec with
  | bot =>
    rw [EReal.coe_mul_bot_of_pos (by norm_num), EReal.neg_bot, Ideal.tanh_bot, Ideal.exp_top]
    have h : (1 : EReal) + ⊤ = ⊤ := EReal.add_top_of_ne_bot (EReal.coe_ne_bot 1)
    have g : (-1 : EReal) + 1 = 0 := by rw [← EReal.coe_one, ← EReal.coe_neg, ← EReal.coe_add]; norm_num
    rw [h, g, mul_zero, Ideal.div, if_neg (by simp), EReal.inv_top, mul_zero]
  | coe x =>
    rw [← EReal.coe_mul, Ideal.tanh_coe, ← EReal.coe_neg, Ideal.exp_coe, ← EReal.coe_one, ← EReal.coe_add, ← EReal.coe_add, ← EReal.coe_mul,
      real_eq, Ideal.div_coe (by have := Real.exp_pos (-x); positivity), ← EReal.coe_mul, one_mul]
  | top =>
    rw [EReal.coe_mul_top_of_pos (by norm_num), EReal.neg_top, Ideal.tanh_top, Ideal.exp_bot, ← EReal.coe_one, ← EReal.coe_zero,
      ← EReal.coe_add, ← EReal.coe_add, ← EReal.coe_mul, Ideal.div_coe (by norm_num), ← EReal.coe_mul]
    norm_num

/-- The gate the kernel writes is the quotient the reference writes. -/
theorem gate (x : EReal) : Ideal.ofBits .f32 0x3F000000#32 * (Ideal.tanh (Ideal.ofBits .f32 0x3F000000#32 * x) + Ideal.ofBits .f32 0x3F800000#32)
    = Ideal.div (Ideal.ofBits .f32 0x3F800000#32) (Ideal.ofBits .f32 0x3F800000#32 + Ideal.exp (-x)) := by
  rw [half, Ideal.ofBits_one_f32]
  exact eq x

end Cert.Sigmoid

end

end
-- ==== Proof.InProjValue.lean ====
/- The input projection: what every grid point writes is the reference's value, so the array is. -/
module

public import proofs.«01_k».proof.Proof.InProjRef
public import proofs.«01_k».proof.Proof.Sigmoid
public import proofs.«01_k».proof.Proof.Gen.InProjIdeal.Value
public import Idealize.ShloMosaic.Lib.Claim
public import Idealize.ShloMosaic.Lib.StableHlo.ReadAt

@[expose] public section

set_option maxRecDepth 16384

noncomputable section

namespace Cert.InProjIdeal.Final

open Idealize.ShloMosaic Idealize.ShloMosaic.TcCoe Idealize.SL.Sem
open Cert.InProjIdeal Cert.InProjIdeal.Gen
open Cert.InProjRefIdeal.Spec (prod rot)
open Cert.InProjRefIdeal.Read (val_main_v25 val_main_v27 val_main_v90)

variable (m : (ℓ : Loc nD τ sig) → Buf (Elt Ideal) ℓ) (c : Dev nD) (t : Fin cfg0.N)

/-- The rows the call is given. -/
abbrev rows : (⟨S16384x4096, .bf16⟩ : BufTy).Contents (Elt Ideal) := m ((c.tc : Thread nD τ).loc main_arg0)

/-- The weights it is given. -/
abbrev weights : (⟨S1x4096x22528, .f32⟩ : BufTy).Contents (Elt Ideal) := m ((c.tc : Thread nD τ).loc main_arg1)

/-- The gates' bias it is given. -/
abbrev bias : (⟨S1x8192, .f32⟩ : BufTy).Contents (Elt Ideal) := m ((c.tc : Thread nD τ).loc main_arg2)

/-- The grid's coordinates of a point. -/
theorem coords : ∀ t : Fin cfg0.N, (grid0.coords t 0).val = t.val / 22 ∧ (grid0.coords t 1).val = t.val % 22 :=
  (by decide +kernel : ∀ t : Fin grid0.N, _)

/-- The windows' index maps. -/
theorem idx : ∀ t : Fin cfg0.N, win0_0.index t = ![t.val / 22, 0] ∧ win0_1.index t = ![0, t.val % 22]
    ∧ win0_2.index t = ![t.val / 22 % 8, 0] ∧ win0_3.index t = ![t.val / 22 % 8, 0]
    ∧ win0_4.index t = ![0, t.val % 22 - 14] ∧ win0_5.index t = ![t.val / 22, t.val % 22] :=
  (by decide +kernel : ∀ t : Fin grid0.N, _)

/-- A tile's product is the reference's. -/
theorem acc_at (r n : Fin 1024) (i : Fin 16384) (w : Fin 22528) (hi : (i : ℕ) = t.val / 22 * 1024 + r) (hw : (w : ℕ) = t.val % 22 * 1024 + n) :
    k0_pay1 (iblk m c 0 t) (iblk m c 1 t) (ix2 r n) = prod (rows m c) (weights m c) i w := by
  have e0 (k : Fin 4096) : iblk m c 0 t (ix2 r k) = rows m c (ix2 i k) := by
    blk_point [iblk, V, idx t]
  have e1 (k : Fin 4096) : iblk m c 1 t (ix2 k n) = weights m c (ix3 0 k w) := by
    blk_point [iblk, V, idx t]
  generalize iblk m c 0 t = A at *
  generalize iblk m c 1 t = B at *
  pointwise [k0_pay1]
  exact Finset.sum_congr rfl fun k _ => by rw [e0, e1]

open Cert.InProjRefIdeal.Read in
/-- The reference's cosine of a position's angle. -/
theorem ref_cos (s : Fin 8192) (d : Fin 64) : val_main_v25 (F := Ideal) (ix2 s d)
    = Ideal.cos (FloatOps.sitofp (F := Ideal) .f32 (BitVec.ofNat 32 s)
      * Ideal.pow (Ideal.ofBits .f32 0x461C4000#32) (-FloatOps.sitofp (F := Ideal) .f32 (BitVec.ofNat 32 d) * Ideal.ofBits .f32 0x3C800000#32)) := by
  pointwise [val_main_v25, val_main_v24, val_main_v23, val_main_v22, val_main_v21, val_main_v20, val_main_v19, val_main_v18, val_main_v17,
    val_main_v16, val_main_v15, val_main_v14, val_main_v13, val_main_v0, val_main_cst, val_main_cst_0]

open Cert.InProjRefIdeal.Read in
/-- The reference's sine of a position's angle. -/
theorem ref_sin (s : Fin 8192) (d : Fin 64) : val_main_v27 (F := Ideal) (ix2 s d)
    = Ideal.sin (FloatOps.sitofp (F := Ideal) .f32 (BitVec.ofNat 32 s)
      * Ideal.pow (Ideal.ofBits .f32 0x461C4000#32) (-FloatOps.sitofp (F := Ideal) .f32 (BitVec.ofNat 32 d) * Ideal.ofBits .f32 0x3C800000#32)) := by
  pointwise [val_main_v27, val_main_v24, val_main_v23, val_main_v22, val_main_v21, val_main_v20, val_main_v19, val_main_v18, val_main_v17,
    val_main_v16, val_main_v15, val_main_v14, val_main_v13, val_main_v0, val_main_cst, val_main_cst_0]

/-- The cosines' table. -/
theorem cos_table (s : Fin 8192) (e : Fin 128) : V m c main_v14 (ix2 s e) = val_main_v25 (F := Ideal) (ix2 s ⟨e % 64, by omega⟩) := by
  rw [ref_cos]
  unfold V
  after_reads_at
  split
  · have h : (e : ℕ) % 64 = e := by omega
    simp only [h]
  · have h : (e : ℕ) % 64 = e - 64 := by omega
    simp only [h]

/-- The sines' table. -/
theorem sin_table (s : Fin 8192) (e : Fin 128) : V m c main_v18 (ix2 s e) = if (e : ℕ) < 64 then -val_main_v27 (F := Ideal) (ix2 s ⟨e % 64, by omega⟩)
      else val_main_v27 (F := Ideal) (ix2 s ⟨e % 64, by omega⟩) := by
  rw [ref_sin]
  unfold V
  after_reads_at
  split
  · have h : (e : ℕ) % 64 = e := by omega
    simp only [h]
  · have h : (e : ℕ) % 64 = e - 64 := by omega
    simp only [h]

/-- The cosines' block holds the reference's cosines, twice along a row. -/
theorem cos_at (r : Fin 1024) (e : Fin 128) (s : Fin 8192) (hs : (s : ℕ) = t.val / 22 % 8 * 1024 + r) :
    iblk m c 2 t (ix2 r e) = val_main_v25 (F := Ideal) (ix2 s ⟨e % 64, by omega⟩) := by
  rw [← cos_table m c s e]
  blk_point [iblk, idx t]

/-- The sines' block holds the reference's sines, negated in a row's first half. -/
theorem sin_at (r : Fin 1024) (e : Fin 128) (s : Fin 8192) (hs : (s : ℕ) = t.val / 22 % 8 * 1024 + r) :
    iblk m c 3 t (ix2 r e) = if (e : ℕ) < 64 then -val_main_v27 (F := Ideal) (ix2 s ⟨e % 64, by omega⟩)
      else val_main_v27 (F := Ideal) (ix2 s ⟨e % 64, by omega⟩) := by
  rw [← sin_table m c s e]
  blk_point [iblk, idx t]

/-- What a rotary step stores of one head of the product: the head times the cosines, plus the head turned by half times the sines, scaled. -/
def headRot (P : FVec Ideal S1024x1024 .f32) (o : ℕ) (ho : S1024x1024.Slices ![0, o] S1024x128) (co si : FVec Ideal S1024x128 .f32)
    (sc : Ideal .f32) : FVec Ideal S1024x128 .bf16 :=
  truncf .bf16 (mulf (addf (mulf (extractStridedSlice S1024x128 ![0, o] P ho) co)
    (mulf (dynamicRotate 1 64#32 none (extractStridedSlice S1024x128 ![0, o] P ho) rotates_S1024x128_d1) si)) (broadcast S1024x128 sc)) bitsLt_bf16_f32

/-- … at an index. -/
theorem headRot_at (P : FVec Ideal S1024x1024 .f32) (o : ℕ) (ho : S1024x1024.Slices ![0, o] S1024x128) (co si : FVec Ideal S1024x128 .f32)
    (sc : Ideal .f32) (hb : o + 128 ≤ 1024) (r : Fin 1024) (e : Fin 128) :
    headRot P o ho co si sc (ix2 r e)
      = (P (ix2 r ⟨o + e, by omega⟩) * co (ix2 r e) + P (ix2 r ⟨o + (e + 64) % 128, by omega⟩) * si (ix2 r e)) * sc := by
  unfold headRot
  pointwise
  have h : (e : ℕ) + 128 - 64 = e + 64 := by omega
  simp only [h]

/-- The turned head against the signed sines is the rotation. -/
theorem rot_eq (y : Fin 128 → EReal) (co si : Fin 64 → EReal) (e : Fin 128) (s : EReal)
    (hs : s = if (e : ℕ) < 64 then -si ⟨e % 64, by omega⟩ else si ⟨e % 64, by omega⟩) :
    y e * co ⟨e % 64, by omega⟩ + y ⟨(e + 64) % 128, by omega⟩ * s = rot y co si e := by
  unfold rot
  subst hs
  split
  · have h1 : (e : ℕ) % 64 = e := by omega
    have h2 : ((e : ℕ) + 64) % 128 = 64 + e := by omega
    simp only [h1, h2, mul_neg, sub_eq_add_neg]
  · have h1 : (e : ℕ) % 64 = e - 64 := by omega
    have h2 : ((e : ℕ) + 64) % 128 = e - 64 := by omega
    simp only [h1, h2]

/-- The scale a rotary step multiplies by: a query column's, or one. -/
theorem scale_at (j : ℕ) (hj : j ≤ 5) : k0_pay10 (F := Ideal) (BitVec.ofNat 32 j)
    = if j < 3 then Ideal.ofBits .f32 0x3DB504F3#32 else Ideal.ofBits .f32 0x3F800000#32 := by
  unfold k0_pay10
  interval_cases j <;> rfl

/-- A head a rotary step stores is the reference's. -/
theorem rot_piece (h0 : t.val % 22 ≤ 5) (g : Fin 8) (o : ℕ) (ho : S1024x1024.Slices ![0, o] S1024x128) (hg : o = 128 * g)
    (r : Fin 1024) (e : Fin 128) (i : Fin 16384) (w : Fin 22528) (hi : (i : ℕ) = t.val / 22 * 1024 + r) (hw : (w : ℕ) = t.val % 22 * 1024 + (o + e)) :
    headRot (k0_pay1 (iblk m c 0 t) (iblk m c 1 t)) o ho (k0_pay11 (iblk m c 2 t)) (k0_pay12 (iblk m c 3 t))
        (k0_pay10 (F := Ideal) (BitVec.ofNat 32 (grid0.coords t 1).val)) (ix2 r e)
      = val_main_v90 (F := Ideal) (rows m c) (weights m c) (bias m c) (ix2 i w) := by
  have hi' := i.isLt
  obtain ⟨b, hb⟩ : ∃ b : Fin 2, (b : ℕ) = t.val / 22 / 8 := ⟨⟨t.val / 22 / 8, by omega⟩, rfl⟩
  obtain ⟨s, hs⟩ : ∃ s : Fin 8192, (s : ℕ) = t.val / 22 % 8 * 1024 + r := ⟨⟨t.val / 22 % 8 * 1024 + r, by omega⟩, rfl⟩
  have his : (i : ℕ) = b * 8192 + s := by omega
  have hP (e : Fin 128) (w : Fin 22528) (n : Fin 1024) (hn : (n : ℕ) = o + e) (hw : (w : ℕ) = t.val % 22 * 1024 + (o + e)) :
      k0_pay1 (iblk m c 0 t) (iblk m c 1 t) (ix2 r n) = prod (rows m c) (weights m c) i w :=
    acc_at m c t r n i w hi (by omega)
  rw [headRot_at _ _ _ _ _ _ (by omega), (coords t).2, scale_at _ h0,
    show k0_pay11 (iblk m c 2 t) (ix2 r e) = iblk m c 2 t (ix2 r e) from by generalize iblk m c 2 t = A; pointwise [k0_pay11],
    show k0_pay12 (iblk m c 3 t) (ix2 r e) = iblk m c 3 t (ix2 r e) from by generalize iblk m c 3 t = A; pointwise [k0_pay12],
    cos_at m c t r e s hs]
  have hR := rot_eq (fun e => k0_pay1 (iblk m c 0 t) (iblk m c 1 t) (ix2 r ⟨o + e, by omega⟩)) (fun d => val_main_v25 (F := Ideal) (ix2 s d))
    (fun d => val_main_v27 (F := Ideal) (ix2 s d)) e _ (sin_at m c t r e s hs)
  rw [hR]
  by_cases hq : t.val % 22 < 3
  · rw [if_pos hq, Cert.InProjRefIdeal.Spec.query_at _ _ _ b s i his ⟨t.val % 22 * 8 + g, by omega⟩ e w
      (by show (w : ℕ) = (t.val % 22 * 8 + g) * 128 + e; omega)]
    refine congrArg (fun y => rot y _ _ e * _) (funext fun e => ?_)
    exact hP e _ _ rfl (by show (t.val % 22 * 8 + g) * 128 + (e : ℕ) = _; omega)
  · rw [if_neg hq, Ideal.ofBits_one_f32, mul_one, Cert.InProjRefIdeal.Spec.key_at _ _ _ b s i his ⟨t.val % 22 * 8 + g - 24, by omega⟩ e w
      (by show (w : ℕ) = 3072 + ((t.val % 22 * 8 + g - 24) * 128 + e); omega)]
    refine congrArg (fun y => rot y _ _ e) (funext fun e => ?_)
    exact hP e _ _ rfl (by show 3072 + ((t.val % 22 * 8 + g - 24) * 128 + (e : ℕ)) = _; omega)

/-- A tile a plain step stores is the reference's. -/
theorem plain_piece (h1 : t.val % 22 = 6 ∨ t.val % 22 = 7 ∨ t.val % 22 = 8 ∨ t.val % 22 = 10 ∨ t.val % 22 = 11)
    (r n : Fin 1024) (i : Fin 16384) (w : Fin 22528) (hi : (i : ℕ) = t.val / 22 * 1024 + r) (hw : (w : ℕ) = t.val % 22 * 1024 + n) :
    k0_pay7 (iblk m c 0 t) (iblk m c 1 t) (ix2 r n) = val_main_v90 (F := Ideal) (rows m c) (weights m c) (bias m c) (ix2 i w) := by
  have hi' := i.isLt
  rw [Cert.InProjRefIdeal.Spec.plain_at _ _ _ ⟨t.val / 22 / 8, by omega⟩ ⟨t.val / 22 % 8 * 1024 + r, by omega⟩ i
    (by show (i : ℕ) = t.val / 22 / 8 * 8192 + (t.val / 22 % 8 * 1024 + r); omega) w (by omega), ← acc_at m c t r n i w hi hw]
  unfold k0_pay7
  generalize k0_pay1 (iblk m c 0 t) (iblk m c 1 t) = P
  pointwise

/-- A tile a gating step stores is the reference's. -/
theorem silu_piece (h2 : t.val % 22 = 9 ∨ t.val % 22 = 12 ∨ t.val % 22 = 13)
    (r n : Fin 1024) (i : Fin 16384) (w : Fin 22528) (hi : (i : ℕ) = t.val / 22 * 1024 + r) (hw : (w : ℕ) = t.val % 22 * 1024 + n) :
    k0_pay8 (iblk m c 0 t) (iblk m c 1 t) (ix2 r n) = val_main_v90 (F := Ideal) (rows m c) (weights m c) (bias m c) (ix2 i w) := by
  have hi' := i.isLt
  rw [Cert.InProjRefIdeal.Spec.silu_at _ _ _ ⟨t.val / 22 / 8, by omega⟩ ⟨t.val / 22 % 8 * 1024 + r, by omega⟩ i
    (by show (i : ℕ) = t.val / 22 / 8 * 8192 + (t.val / 22 % 8 * 1024 + r); omega) w (by omega), ← acc_at m c t r n i w hi hw,
    ← Cert.Sigmoid.gate]
  unfold k0_pay8
  generalize k0_pay1 (iblk m c 0 t) (iblk m c 1 t) = P
  pointwise

/-- A tile of branch gates is the reference's. -/
theorem gate_piece (h3 : 14 ≤ t.val % 22)
    (r n : Fin 1024) (i : Fin 16384) (w : Fin 22528) (hi : (i : ℕ) = t.val / 22 * 1024 + r) (hw : (w : ℕ) = t.val % 22 * 1024 + n) :
    k0_pay9 (iblk m c 0 t) (iblk m c 1 t) (iblk m c 4 t) (ix2 r n)
      = val_main_v90 (F := Ideal) (rows m c) (weights m c) (bias m c) (ix2 i w) := by
  have hi' := i.isLt
  have hw' := w.isLt
  have hb : iblk m c 4 t (ix2 0 n) = bias m c (ix2 0 ⟨w - 14336, by omega⟩) := by
    blk_point [iblk, V, idx t]
  rw [Cert.InProjRefIdeal.Spec.gate_at _ _ _ ⟨t.val / 22 / 8, by omega⟩ ⟨t.val / 22 % 8 * 1024 + r, by omega⟩ i
    (by show (i : ℕ) = t.val / 22 / 8 * 8192 + (t.val / 22 % 8 * 1024 + r); omega) ⟨w - 14336, by omega⟩ w
    (by show (w : ℕ) = 14336 + (w - 14336); omega), ← acc_at m c t r n i w hi hw, ← hb, ← Cert.Sigmoid.gate]
  unfold k0_pay9
  generalize k0_pay1 (iblk m c 0 t) (iblk m c 1 t) = P
  generalize iblk m c 4 t = B
  pointwise

set_option maxHeartbeats 1000000 in
/-- The output array is the reference's. -/
theorem final5 : (dats m 0 c).arrAt 5 cfg0.N = val_main_v90 (F := Ideal) (rows m c) (weights m c) (bias m c) := by
  refine (dats m 0 c).arrAt_eq_of_covers 5 _ (by decide +kernel) fun t _ y => ?_
  blk_simp
  obtain_idx i : S16384x22528 := [t.val / 22 * 1024 + y 0, t.val % 22 * 1024 + y 1] with hi
  refine Eq.trans (b := val_main_v90 (F := Ideal) (rows m c) (weights m c) (bias m c) i) ?_ (congrArg _ ?_)
  rotate_left
  · blk_ext [idx t]
  have hi : i = ix2 (i 0) (i 1) := by blk_ext
  rw [hi, after0_5]
  clear hi
  by_cases h0 : t.val % 22 ≤ 5
  · rw [outsAt0_A m c t h0 (by omega) (by omega) (by omega)]
    frame_out
    canon_tiles x e
    · idx_vars x
      exact rot_piece m c t h0 7 896 slices_S1024x1024_o0_896_S1024x128 rfl x0 x1 (i 0) (i 1) (by omega) (by omega)
    · idx_vars x
      exact rot_piece m c t h0 6 768 slices_S1024x1024_o0_768_S1024x128 rfl x0 x1 (i 0) (i 1) (by omega) (by omega)
    · idx_vars x
      exact rot_piece m c t h0 5 640 slices_S1024x1024_o0_640_S1024x128 rfl x0 x1 (i 0) (i 1) (by omega) (by omega)
    · idx_vars x
      exact rot_piece m c t h0 4 512 slices_S1024x1024_o0_512_S1024x128 rfl x0 x1 (i 0) (i 1) (by omega) (by omega)
    · idx_vars x
      exact rot_piece m c t h0 3 384 slices_S1024x1024_o0_384_S1024x128 rfl x0 x1 (i 0) (i 1) (by omega) (by omega)
    · idx_vars x
      exact rot_piece m c t h0 2 256 slices_S1024x1024_o0_256_S1024x128 rfl x0 x1 (i 0) (i 1) (by omega) (by omega)
    · idx_vars x
      exact rot_piece m c t h0 1 128 slices_S1024x1024_o0_128_S1024x128 rfl x0 x1 (i 0) (i 1) (by omega) (by omega)
    · idx_vars x
      exact rot_piece m c t h0 0 0 slices_S1024x1024_o0_0_S1024x128 rfl x0 x1 (i 0) (i 1) (by omega) (by omega)
  have hy : y = ix2 (y 0) (y 1) := by blk_ext
  rw [hy]
  by_cases h1 : (t.val % 22 = 6 ∨ t.val % 22 = 7 ∨ t.val % 22 = 8 ∨ t.val % 22 = 10 ∨ t.val % 22 = 11)
  · rw [outsAt0_B m c t h0 h1 (by omega) (by omega)]
    frame_out
    exact plain_piece m c t h1 (y 0) (y 1) (i 0) (i 1) hi0 hi1
  by_cases h2 : (t.val % 22 = 9 ∨ t.val % 22 = 12 ∨ t.val % 22 = 13)
  · rw [outsAt0_C m c t h0 h1 h2 (by omega)]
    frame_out
    exact silu_piece m c t h2 (y 0) (y 1) (i 0) (i 1) hi0 hi1
  rw [outsAt0_D m c t h0 h1 h2 (by omega)]
  frame_out
  exact gate_piece m c t (by omega) (y 0) (y 1) (i 0) (i 1) hi0 hi1

end Cert.InProjIdeal.Final

end

end
-- ==== Proof.InProjClaims.lean ====
/- The input projection: its claims. -/
module

public import proofs.«01_k».proof.Defs
public import proofs.«01_k».proof.Proof.InProjValue
public import proofs.«01_k».proof.Proof.Gen.InProj.Frame
public import proofs.«01_k».proof.Proof.Gen.InProjIdeal.Frame
public import proofs.«01_k».proof.Proof.Gen.InProjRefIdeal.Run
public import proofs.«01_k».proof.Proof.Gen.InProjRefIdeal.Read
public import Idealize.ShloMosaic.Lib.Claim

@[expose] public section

set_option maxRecDepth 16384

noncomputable section

namespace Cert.InProjClaims

open Idealize.ShloMosaic Idealize.ShloMosaic.TcCoe Idealize.SL.Sem

/-- The program ends with its arguments as they were and every semaphore at zero. -/
theorem frame : Cert.quiescent_InProj (hInProj := Cert.InProj.Gen.facts) := fun m ρ _ => Cert.InProj.Gen.frame m ρ

/-- So does its idealization. -/
theorem frame_ideal : Cert.quiescent_InProjIdeal (hInProjIdeal := Cert.InProjIdeal.Gen.facts) := fun m ρ _ => Cert.InProjIdeal.Gen.frame m ρ

/-- So does the reference. -/
theorem frame_ref : Cert.quiescent_InProjRefIdeal (hInProjRefIdeal := Cert.InProjRefIdeal.Gen.facts) := fun m ρ _ =>
  (θ_run _ _ _).mono (fun r h => ⟨fun c => (h c).2, sem_eq_zero_of_no_sems (by decide) r.2⟩) (Cert.InProjRefIdeal.Value.run m ρ)

/-- The idealization and the reference compute the same array. -/
theorem equal : Cert.algebraic_InProjIdeal_InProjRefIdeal (hInProjIdeal := Cert.InProjIdeal.Gen.facts) (hInProjRefIdeal := Cert.InProjRefIdeal.Gen.facts) := by
  intro m g m' g' _ hargs
  refine ⟨fun c => (Cert.InProjIdeal.Gen.dats m 0 c).arrAt 5 Cert.InProjIdeal.cfg0.N, Cert.InProjIdeal.Value.run_blocks m g, ?_⟩
  refine (θ_run _ _ _).mono (fun r h c => ⟨(h c).1.trans ?_, (h c).2⟩) (Cert.InProjRefIdeal.Value.run m' g')
  rw [Cert.InProjRefIdeal.Read.val_main_v90_eq, (hargs c).1, (hargs c).2.1, (hargs c).2.2]
  exact (Cert.InProjIdeal.Final.final5 m c).symm

end Cert.InProjClaims

end

end
-- ==== Proof.GroupMix.lean ====
/- The arithmetic of combining three attention groups by the logarithms of their normalisers, apart from any program.

The kernel weighs each group's output by the exponential of its logarithm less the largest, and divides the sum by the sum
of the weights; the reference divides each weight first. For finite logarithms the two are equal, whatever the outputs. -/
module

public import proofs.«01_k».proof.Proof.BandedSoftmax

@[expose] public section

noncomputable section

namespace Cert.GroupMix

open Idealize.ShloMosaic

variable (l a : Fin 3 → EReal)

/-- A group's weight before the division: the exponential of its logarithm less the largest. -/
abbrev weight (k : Fin 3) : EReal := Ideal.exp (l k - Finset.univ.sup l)

/-- The three groups combined: the softmax of the logarithms against the outputs. -/
def comb : EReal := ∑ k, Ideal.div (weight l k) (∑ k, weight l k) * a k

/-- The largest of three. -/
theorem sup_three : Finset.univ.sup l = max (max (l 0) (l 1)) (l 2) := by
  rw [show (Finset.univ : Finset (Fin 3)) = {0, 1, 2} from by decide, Finset.sup_insert, Finset.sup_insert, Finset.sup_singleton]
  exact (sup_assoc _ _ _).symm

/-- Dividing once at the end is dividing each weight, for finite logarithms. -/
theorem comb_eq (hl : ∀ k, l k ≠ ⊥ ∧ l k ≠ ⊤) :
    Ideal.div (weight l 0 * a 0 + weight l 1 * a 1 + weight l 2 * a 2) (weight l 0 + weight l 1 + weight l 2) = comb l a := by
  obtain ⟨M, hM⟩ := Cert.Banded.sup_finite l (fun k => (hl k).2) ⟨0, (hl 0).1⟩
  obtain ⟨L, hL, hLr⟩ := Cert.Banded.norm_finite l (fun k => (hl k).2) ⟨0, (hl 0).1⟩ M
  rw [← hM] at hLr
  unfold comb
  rw [← Fin.sum_univ_three fun k => weight l k * a k, ← Fin.sum_univ_three fun k => weight l k, hLr, Ideal.div_coe hL.ne',
    ← Cert.Banded.sum_mul_coe _ _ (by positivity)]
  refine Finset.sum_congr rfl fun k _ => ?_
  rw [Ideal.div_coe hL.ne', mul_right_comm]

end Cert.GroupMix

end

end
-- ==== Proof.MixRef.lean ====
/- The reference of the mixing step, read at an index: the combined groups, gated, and the two branches' projections. -/
module

public import proofs.«01_k».proof.Proof.GroupMix
public import proofs.«01_k».proof.Proof.BandedHead
public import proofs.«01_k».proof.Proof.Gen.MixRefIdeal.Read

@[expose] public section

set_option maxRecDepth 16384

noncomputable section

namespace Cert.MixRefIdeal.Spec

open Idealize.ShloMosaic Idealize.ShloMosaic.TcCoe Idealize.SL.Sem
open Cert.MixRefIdeal Cert.MixRefIdeal.Gen Cert.MixRefIdeal.Read Cert.GroupMix

variable (x0 : (⟨S2x8192x1024, .bf16⟩ : BufTy).Contents (Elt Ideal)) (x1 : (⟨S2x2048x4096, .bf16⟩ : BufTy).Contents (Elt Ideal))
  (x2 : (⟨S2x512x16384, .bf16⟩ : BufTy).Contents (Elt Ideal)) (x3 : (⟨S2x8192x128, .f32⟩ : BufTy).Contents (Elt Ideal))
  (x4 : (⟨S2x2048x512, .f32⟩ : BufTy).Contents (Elt Ideal)) (x5 : (⟨S2x512x2048, .f32⟩ : BufTy).Contents (Elt Ideal))
  (x6 : (⟨S16384x22528, .bf16⟩ : BufTy).Contents (Elt Ideal)) (x7 : (⟨S16384x2048, .bf16⟩ : BufTy).Contents (Elt Ideal))
  (x8 : (⟨S1x1024x4096, .f32⟩ : BufTy).Contents (Elt Ideal)) (x9 : (⟨S1x2048x4096, .f32⟩ : BufTy).Contents (Elt Ideal))
  (i : Fin 16384) (h : Fin 8) (d : Fin 128)

/-- The three groups' logarithms at a row and a head. -/
abbrev lseAt (k : Fin 3) : EReal := val_main_v19 (F := Ideal) x3 x4 x5 (ix3 k i h)

/-- The three groups' outputs at a row, a head and a lane. -/
abbrev outAt (k : Fin 3) : EReal := val_main_v9 (F := Ideal) x0 x1 x2 (ix4 k i h d)

/-- The three groups' logarithms, in the arrays they are given in. -/
theorem lse_of (k : Fin 3) : lseAt x3 x4 x5 i h k = match k with
    | 0 => x3 (ix3 ⟨i / 8192, by omega⟩ ⟨i % 8192, by omega⟩ ⟨h, by omega⟩)
    | 1 => x4 (ix3 ⟨i / 8192, by omega⟩ ⟨i / 4 % 2048, by omega⟩ ⟨i % 4 * 128 + h, by omega⟩)
    | 2 => x5 (ix3 ⟨i / 8192, by omega⟩ ⟨i / 16 % 512, by omega⟩ ⟨i % 16 * 128 + h, by omega⟩) := by
  unfold lseAt
  match k with
  | 0 => pointwise [val_main_v19, val_main_v16, val_main_v11, val_main_v10]
  | 1 => pointwise [val_main_v19, val_main_v17, val_main_v13, val_main_v12]
  | 2 => pointwise [val_main_v19, val_main_v18, val_main_v15, val_main_v14]

/-- The three groups' outputs, in the arrays they are given in. -/
theorem out_of (k : Fin 3) : outAt x0 x1 x2 i h d k = match k with
    | 0 => x0 (ix3 ⟨i / 8192, by omega⟩ ⟨i % 8192, by omega⟩ ⟨h * 128 + d, by omega⟩)
    | 1 => x1 (ix3 ⟨i / 8192, by omega⟩ ⟨i / 4 % 2048, by omega⟩ ⟨i % 4 * 1024 + h * 128 + d, by omega⟩)
    | 2 => x2 (ix3 ⟨i / 8192, by omega⟩ ⟨i / 16 % 512, by omega⟩ ⟨i % 16 * 1024 + h * 128 + d, by omega⟩) := by
  unfold outAt
  match k with
  | 0 => pointwise [val_main_v9, val_main_v6, val_main_v1, val_main_v0]
  | 1 => pointwise [val_main_v9, val_main_v7, val_main_v3, val_main_v2]
  | 2 => pointwise [val_main_v9, val_main_v8, val_main_v5, val_main_v4]

/-- The largest logarithm. -/
theorem max_at : val_main_v22 (F := Ideal) x3 x4 x5 (ix2 i h) = Finset.univ.sup (lseAt x3 x4 x5 i h) := by
  have e : val_main_v20 (F := Ideal) x3 x4 x5 (ix2 i h) = Finset.univ.sup (lseAt x3 x4 x5 i h) := by
    unfold val_main_v20 lseAt
    generalize val_main_v19 x3 x4 x5 = s
    exact Cert.Banded.hostMax s _ reducesTo_S3x16384x8_S16384x8_d0 (by decide) h_S_ Cert.Banded.ofBits_bot _ rfl (fun k => ix3 k i h) fun k =>
      funext fun a => Fin.ext (by match a with | ⟨0, _⟩ => rfl | ⟨1, _⟩ => rfl | ⟨2, _⟩ => rfl)
  rw [val_main_v22_apply, e, val_main_v21_apply, show val_main_cst_0 (F := Ideal) _ = (⊥ : EReal) from Cert.Banded.ofBits_bot]
  exact bot_sup_eq _

/-- The groups combined. -/
theorem comb_at : val_main_v34 (F := Ideal) x0 x1 x2 x3 x4 x5 (ix3 i h d) = comb (lseAt x3 x4 x5 i h) (outAt x0 x1 x2 i h d) := by
  have e1 (k : Fin 3) : idx_main_v34 (ix3 i h d) k = ix4 k i h d := by blk_ext
  have e2 (k : Fin 3) : idx_main_v31 (idx_main_v32 (ix4 k i h d)) = ix3 k i h := by blk_ext
  have e3 (k : Fin 3) : idx_main_v28 (idx_main_v29 (ix3 k i h)) = ix2 i h := by blk_ext
  have e4 (k : Fin 3) : idx_main_v23 (idx_main_v24 (ix3 k i h)) = ix2 i h := by blk_ext
  have e5 (k : Fin 3) : idx_main_v27 (ix2 i h) k = ix3 k i h := by blk_ext
  have z1 : val_main_cst_1 (F := Ideal) (Shape.Idx.first h_S_) = 0 := Ideal.ofBits_zero_f32
  have z2 : val_main_cst_2 (F := Ideal) (Shape.Idx.first h_S_) = 0 := Ideal.ofBits_zero_f32
  have w (k : Fin 3) : val_main_v26 (F := Ideal) x3 x4 x5 (ix3 k i h) = weight (lseAt x3 x4 x5 i h) k := by
    rw [val_main_v26_apply, val_main_v25_apply, val_main_v24_apply, val_main_v23_apply, e4, max_at]
    rfl
  rw [val_main_v34_apply, z2, zero_add]
  refine Finset.sum_congr rfl fun k _ => ?_
  rw [e1, val_main_v33_apply, val_main_v32_apply, val_main_v31_apply, e2, val_main_v30_apply, val_main_v29_apply, val_main_v28_apply, e3,
    val_main_v27_apply, z1, zero_add, w, Finset.sum_congr rfl fun k _ => (congrArg _ (e5 k)).trans (w k)]
  rfl

/-- The combined groups times the attention's gate. -/
theorem gated_at (w : Fin 1024) (hw : (w : ℕ) = h * 128 + d) (u : Fin 22528) (hu : (u : ℕ) = 9216 + w) :
    val_main_v40 (F := Ideal) x0 x1 x2 x3 x4 x5 x6 (ix2 i w)
      = comb (lseAt x3 x4 x5 i h) (outAt x0 x1 x2 i h d) * x6 (ix2 i u) := by
  have e1 : idx_main_v35 (ix2 i w) = ix3 i h d := by blk_ext
  have e2 : idx_main_v37 (ix2 i w) = ix2 i u := by blk_ext
  rw [val_main_v40_apply, val_main_v35_apply, e1, comb_at, val_main_v37_apply, e2, val_main_v36_apply]
  rfl

/-- The output: the two gated projections' sum. -/
theorem out_at (n : Fin 4096) (u v : Fin 22528) (hu : (u : ℕ) = 14336 + n) (hv : (v : ℕ) = 18432 + n) :
    val_main_v49 (F := Ideal) x0 x1 x2 x3 x4 x5 x6 x7 x8 x9 (ix2 i n)
      = x6 (ix2 i u) * (∑ k : Fin 1024, val_main_v40 (F := Ideal) x0 x1 x2 x3 x4 x5 x6 (ix2 i k) * x8 (ix3 0 k n))
        + x6 (ix2 i v) * (∑ k : Fin 2048, x7 (ix2 i k) * x9 (ix3 0 k n)) := by
  have e1 : idx_main_v38 (ix2 i n) = ix2 i u := by blk_ext
  have e2 : idx_main_v39 (ix2 i n) = ix2 i v := by blk_ext
  have l1 (k : Fin 1024) : lidx_main_v42 (ix2 i n) k = ix2 i k := by blk_ext
  have r1 (k : Fin 1024) : idx_main_v41 (ridx_main_v42 (ix2 i n) k) = ix3 0 k n := by blk_ext
  have l2 (k : Fin 2048) : lidx_main_v45 (ix2 i n) k = ix2 i k := by blk_ext
  have r2 (k : Fin 2048) : idx_main_v44 (ridx_main_v45 (ix2 i n) k) = ix3 0 k n := by blk_ext
  rw [val_main_v49_apply, val_main_v48_apply, val_main_v46_apply, val_main_v47_apply, val_main_v38_apply, e1, val_main_v39_apply, e2,
    val_main_v36_apply, val_main_v36_apply, val_main_v42_apply, val_main_v45_apply]
  simp only [val_main_v41_apply, val_main_v43_apply, val_main_v44_apply, l1, r1, l2, r2]
  rfl

end Cert.MixRefIdeal.Spec

end

end
-- ==== Proof.MixReads.lean ====
/- The mixing step: what a grid point's blocks hold, in the arrays the call is given. -/
module

public import proofs.«01_k».proof.Proof.MixRef
public import proofs.«01_k».proof.Proof.Gen.MixIdeal.Value
public import Idealize.ShloMosaic.Lib.Claim
public import Idealize.ShloMosaic.Lib.StableHlo.ReadAt

@[expose] public section

set_option maxRecDepth 16384

noncomputable section

namespace Cert.MixIdeal.Final

open Idealize.ShloMosaic Idealize.ShloMosaic.TcCoe Idealize.SL.Sem
open Cert.MixIdeal Cert.MixIdeal.Gen Cert.GroupMix
open Cert.MixRefIdeal.Read (val_main_v40 val_main_v49)
open Cert.MixRefIdeal.Spec (lseAt outAt)

variable (m : (ℓ : Loc nD τ sig) → Buf (Elt Ideal) ℓ) (c : Dev nD) (t : Fin cfg0.N)

/-- The first group's outputs the call is given. -/
abbrev a0 : (⟨S2x8192x1024, .bf16⟩ : BufTy).Contents (Elt Ideal) := m ((c.tc : Thread nD τ).loc main_arg0)
/-- The second group's. -/
abbrev a1 : (⟨S2x2048x4096, .bf16⟩ : BufTy).Contents (Elt Ideal) := m ((c.tc : Thread nD τ).loc main_arg1)
/-- The third group's. -/
abbrev a2 : (⟨S2x512x16384, .bf16⟩ : BufTy).Contents (Elt Ideal) := m ((c.tc : Thread nD τ).loc main_arg2)
/-- The first group's logarithms. -/
abbrev a3 : (⟨S2x8192x128, .f32⟩ : BufTy).Contents (Elt Ideal) := m ((c.tc : Thread nD τ).loc main_arg3)
/-- The second group's. -/
abbrev a4 : (⟨S2x2048x512, .f32⟩ : BufTy).Contents (Elt Ideal) := m ((c.tc : Thread nD τ).loc main_arg4)
/-- The third group's. -/
abbrev a5 : (⟨S2x512x2048, .f32⟩ : BufTy).Contents (Elt Ideal) := m ((c.tc : Thread nD τ).loc main_arg5)
/-- The projection. -/
abbrev a6 : (⟨S16384x22528, .bf16⟩ : BufTy).Contents (Elt Ideal) := m ((c.tc : Thread nD τ).loc main_arg6)
/-- The gated Fourier branch. -/
abbrev a7 : (⟨S16384x2048, .bf16⟩ : BufTy).Contents (Elt Ideal) := m ((c.tc : Thread nD τ).loc main_arg7)
/-- The attention branch's weights. -/
abbrev a8 : (⟨S1x1024x4096, .f32⟩ : BufTy).Contents (Elt Ideal) := m ((c.tc : Thread nD τ).loc main_arg8)
/-- The Fourier branch's weights. -/
abbrev a9 : (⟨S1x2048x4096, .f32⟩ : BufTy).Contents (Elt Ideal) := m ((c.tc : Thread nD τ).loc main_arg9)

/-- The reference's gated combination of the three groups. -/
abbrev gated : (⟨S16384x1024, .f32⟩ : BufTy).Contents (Elt Ideal) :=
  val_main_v40 (F := Ideal) (a0 m c) (a1 m c) (a2 m c) (a3 m c) (a4 m c) (a5 m c) (a6 m c)

/-- The reference's output. -/
abbrev mixed : (⟨S16384x4096, .bf16⟩ : BufTy).Contents (Elt Ideal) :=
  val_main_v49 (F := Ideal) (a0 m c) (a1 m c) (a2 m c) (a3 m c) (a4 m c) (a5 m c) (a6 m c) (a7 m c) (a8 m c) (a9 m c)

/-- The windows' index maps. -/
theorem idx : ∀ t : Fin cfg0.N, win0_0.index t = ![t.val / 4, 0] ∧ win0_1.index t = ![t.val / 4, 0] ∧ win0_2.index t = ![t.val / 4, 0]
    ∧ win0_3.index t = ![t.val / 4, 0] ∧ win0_4.index t = ![t.val / 4, 0] ∧ win0_5.index t = ![t.val / 4, 0]
    ∧ win0_6.index t = ![t.val / 4, 9] ∧ win0_7.index t = ![t.val / 4, 0] ∧ win0_8.index t = ![0, t.val % 4] ∧ win0_9.index t = ![0, t.val % 4]
    ∧ win0_10.index t = ![t.val / 4, 14 + t.val % 4] ∧ win0_11.index t = ![t.val / 4, 18 + t.val % 4]
    ∧ win0_12.index t = ![t.val / 4, t.val % 4] :=
  (by decide +kernel : ∀ t : Fin grid0.N, _)

section Reads

variable (r : Fin 512) (i : Fin 16384) (hi : (i : ℕ) = t.val / 4 * 512 + r)

include hi

/-- The blocks of logarithms hold the reference's. -/
theorem lse_read (h : Fin 8) (o : Fin 128) (ho : (o : ℕ) = h) :
    iblk m c 3 t (ix2 r o) = lseAt (a3 m c) (a4 m c) (a5 m c) i h 0 ∧ iblk m c 4 t (ix2 r o) = lseAt (a3 m c) (a4 m c) (a5 m c) i h 1
      ∧ iblk m c 5 t (ix2 r o) = lseAt (a3 m c) (a4 m c) (a5 m c) i h 2 := by
  have hr := r.isLt
  simp only [Cert.MixRefIdeal.Spec.lse_of]
  refine ⟨?_, ?_, ?_⟩
  · blk_point [iblk, V, idx t]
  · blk_point [iblk, V, idx t]
  · blk_point [iblk, V, idx t]

/-- The blocks of outputs hold the reference's. -/
theorem out_read (h : Fin 8) (d : Fin 128) (w : Fin 1024) (hw : (w : ℕ) = h * 128 + d) :
    iblk m c 0 t (ix2 r w) = outAt (a0 m c) (a1 m c) (a2 m c) i h d 0 ∧ iblk m c 1 t (ix2 r w) = outAt (a0 m c) (a1 m c) (a2 m c) i h d 1
      ∧ iblk m c 2 t (ix2 r w) = outAt (a0 m c) (a1 m c) (a2 m c) i h d 2 := by
  have hr := r.isLt
  simp only [Cert.MixRefIdeal.Spec.out_of]
  refine ⟨?_, ?_, ?_⟩
  · blk_point [iblk, V, idx t]
  · blk_point [iblk, V, idx t]
  · blk_point [iblk, V, idx t]

/-- The attention gate's block. -/
theorem gate_read (w : Fin 1024) (u : Fin 22528) (hu : (u : ℕ) = 9216 + w) : iblk m c 6 t (ix2 r w) = a6 m c (ix2 i u) := by
  blk_point [iblk, V, idx t]

/-- The Fourier branch's block. -/
theorem four_read (k : Fin 2048) : iblk m c 7 t (ix2 r k) = a7 m c (ix2 i k) := by
  blk_point [iblk, V, idx t]

/-- The first branch gate's block. -/
theorem ga_read (n : Fin 1024) (u : Fin 22528) (hu : (u : ℕ) = 14336 + (t.val % 4 * 1024 + n)) : iblk m c 10 t (ix2 r n) = a6 m c (ix2 i u) := by
  blk_point [iblk, V, idx t]

/-- The second branch gate's block. -/
theorem gf_read (n : Fin 1024) (u : Fin 22528) (hu : (u : ℕ) = 18432 + (t.val % 4 * 1024 + n)) : iblk m c 11 t (ix2 r n) = a6 m c (ix2 i u) := by
  blk_point [iblk, V, idx t]

end Reads

/-- The attention branch's weights' block. -/
theorem wa_read (k n : Fin 1024) (j : Fin 4096) (hj : (j : ℕ) = t.val % 4 * 1024 + n) : iblk m c 8 t (ix2 k n) = a8 m c (ix3 0 k j) := by
  blk_point [iblk, V, idx t]

/-- The Fourier branch's weights' block. -/
theorem wf_read (k : Fin 2048) (n : Fin 1024) (j : Fin 4096) (hj : (j : ℕ) = t.val % 4 * 1024 + n) : iblk m c 9 t (ix2 k n) = a9 m c (ix3 0 k j) := by
  blk_point [iblk, V, idx t]

end Cert.MixIdeal.Final

end

end
-- ==== Proof.MixHead.lean ====
/- The mixing step: the pieces a grid point stores, as the reference's values. -/
module

public import proofs.«01_k».proof.Proof.MixReads

@[expose] public section

set_option maxRecDepth 16384

noncomputable section

namespace Cert.MixIdeal.Final

open Idealize.ShloMosaic Idealize.ShloMosaic.TcCoe Idealize.SL.Sem
open Cert.MixIdeal Cert.MixIdeal.Gen Cert.GroupMix
open Cert.MixRefIdeal.Read (val_main_v40 val_main_v49)
open Cert.MixRefIdeal.Spec (lseAt outAt)

variable (m : (ℓ : Loc nD τ sig) → Buf (Elt Ideal) ℓ) (c : Dev nD) (t : Fin cfg0.N)

/-- What the first step of a row block stores of one head: the three groups' outputs against their weights, divided by the weights' sum,
    times the attention gate. -/
def headMix (l0 l1 l2 : Vec Ideal S512x128 .f32) (o : ℕ) (ho : S512x128.Slices ![0, o] S512x1) (x0 x1 x2 z : Vec Ideal S512x128 .bf16) :
    FVec Ideal S512x128 .bf16 :=
  shapeCast S512x128 (truncf .bf16 (mulf (divf
    (addf (addf
      (mulf (broadcastTo S512x128 (extractStridedSlice S512x1 ![0, o] (k0_pay8 l0 l1 l2) ho) broadcasts_S512x1_S512x128)
        (extf .f32 (shapeCast S512x128 x0 shapeCasts_S512x128_S512x128) bitsLt_bf16_f32))
      (mulf (broadcastTo S512x128 (extractStridedSlice S512x1 ![0, o] (k0_pay9 l0 l1 l2) ho) broadcasts_S512x1_S512x128)
        (extf .f32 (shapeCast S512x128 x1 shapeCasts_S512x128_S512x128) bitsLt_bf16_f32)))
      (mulf (broadcastTo S512x128 (extractStridedSlice S512x1 ![0, o] (k0_pay10 l0 l1 l2) ho) broadcasts_S512x1_S512x128)
        (extf .f32 (shapeCast S512x128 x2 shapeCasts_S512x128_S512x128) bitsLt_bf16_f32)))
    (broadcastTo S512x128 (extractStridedSlice S512x1 ![0, o] (k0_pay11 l0 l1 l2) ho) broadcasts_S512x1_S512x128))
    (extf .f32 z bitsLt_bf16_f32)) bitsLt_bf16_f32) shapeCasts_S512x128_S512x128

/-- … at an index: the groups combined, times the gate. -/
theorem headMix_at (l0 l1 l2 : Vec Ideal S512x128 .f32) (o : ℕ) (ho : S512x128.Slices ![0, o] S512x1) (x0 x1 x2 z : Vec Ideal S512x128 .bf16)
    (hb : o < 128) (r : Fin 512) (d : Fin 128) (l a : Fin 3 → EReal) (hl : ∀ k, l k ≠ ⊥ ∧ l k ≠ ⊤)
    (e0 : l0 (ix2 r ⟨o, hb⟩) = l 0) (e1 : l1 (ix2 r ⟨o, hb⟩) = l 1) (e2 : l2 (ix2 r ⟨o, hb⟩) = l 2)
    (f0 : x0 (ix2 r d) = a 0) (f1 : x1 (ix2 r d) = a 1) (f2 : x2 (ix2 r d) = a 2) :
    headMix l0 l1 l2 o ho x0 x1 x2 z (ix2 r d) = comb l a * z (ix2 r d) := by
  rw [← comb_eq l a hl]
  simp only [weight, sup_three, ← e0, ← e1, ← e2, ← f0, ← f1, ← f2]
  unfold headMix
  pointwise [k0_pay11, k0_pay10, k0_pay9, k0_pay8, k0_pay7, k0_pay6, k0_pay5, k0_pay4]

/-- A head's columns of a block. -/
theorem head_tile (X : Vec Ideal S512x1024 .bf16) (o : ℕ) (inb : ∀ d, (![0, o] : Fin 2 → ℕ) d + (![512, 128] : Fin 2 → ℕ) d ≤ S512x1024.size d)
    (r : Fin 512) (d : Fin 128) (w : Fin 1024) (hw : (w : ℕ) = o + d) :
    View.ld (S := S512x1024) (Val := Elt Ideal) (e' := .bf16) X (Rect.unit ![0, o] ![512, 128] inb) (ix2 r d) = X (ix2 r w) := by
  refine View.ld_unit_apply_of X _ _ inb _ _ fun e => ?_
  match e with
  | ⟨0, _⟩ => exact (Nat.zero_add _).symm
  | ⟨1, _⟩ => exact hw

/-- The piece a head stores, at the blocks of a point. -/
theorem head_piece (hl : ∀ i h k, lseAt (a3 m c) (a4 m c) (a5 m c) i h k ≠ ⊥ ∧ lseAt (a3 m c) (a4 m c) (a5 m c) i h k ≠ ⊤)
    (h : Fin 8) (o : ℕ) (ho : S512x128.Slices ![0, o] S512x1) (h₁ : o = h) (p : ℕ) (h₂ : p = h * 128)
    (inb : ∀ d, (![0, p] : Fin 2 → ℕ) d + (![512, 128] : Fin 2 → ℕ) d ≤ S512x1024.size d)
    (r : Fin 512) (d : Fin 128) (i : Fin 16384) (w : Fin 1024) (hi : (i : ℕ) = t.val / 4 * 512 + r) (hw : (w : ℕ) = p + d) :
    headMix (iblk m c 3 t) (iblk m c 4 t) (iblk m c 5 t) o ho
        (View.ld (S := S512x1024) (Val := Elt Ideal) (e' := .bf16) (iblk m c 0 t) (Rect.unit ![0, p] ![512, 128] inb))
        (View.ld (S := S512x1024) (Val := Elt Ideal) (e' := .bf16) (iblk m c 1 t) (Rect.unit ![0, p] ![512, 128] inb))
        (View.ld (S := S512x1024) (Val := Elt Ideal) (e' := .bf16) (iblk m c 2 t) (Rect.unit ![0, p] ![512, 128] inb))
        (View.ld (S := S512x1024) (Val := Elt Ideal) (e' := .bf16) (iblk m c 6 t) (Rect.unit ![0, p] ![512, 128] inb)) (ix2 r d)
      = gated m c (ix2 i w) := by
  obtain ⟨e0, e1, e2⟩ := lse_read m c t r i hi h ⟨o, by omega⟩ h₁
  obtain ⟨f0, f1, f2⟩ := out_read m c t r i hi h d w (by omega)
  rw [gated, Cert.MixRefIdeal.Spec.gated_at _ _ _ _ _ _ _ i h d w (by omega) ⟨9216 + w, by omega⟩ rfl,
    ← gate_read m c t r i hi w ⟨9216 + w, by omega⟩ rfl, ← head_tile (iblk m c 6 t) p inb r d w hw]
  exact headMix_at _ _ _ o ho _ _ _ _ (by omega) r d _ _ (hl i h) e0 e1 e2
    ((head_tile (iblk m c 0 t) p inb r d w hw).trans f0) ((head_tile (iblk m c 1 t) p inb r d w hw).trans f1)
    ((head_tile (iblk m c 2 t) p inb r d w hw).trans f2)

/-- The product a step stores, of a gated combination that is the reference's, is the reference's. -/
theorem out_piece (A : Vec Ideal S512x1024 .bf16) (r : Fin 512) (n : Fin 1024) (i : Fin 16384) (j : Fin 4096)
    (hi : (i : ℕ) = t.val / 4 * 512 + r) (hj : (j : ℕ) = t.val % 4 * 1024 + n) (hA : ∀ k, A (ix2 r k) = gated m c (ix2 i k)) :
    k0_pay3 A (iblk m c 8 t) (iblk m c 7 t) (iblk m c 9 t) (iblk m c 10 t) (iblk m c 11 t) (ix2 r n) = mixed m c (ix2 i j) := by
  rw [mixed, Cert.MixRefIdeal.Spec.out_at _ _ _ _ _ _ _ _ _ _ i j ⟨14336 + j, by omega⟩ ⟨18432 + j, by omega⟩ rfl rfl,
    ← ga_read m c t r i hi n ⟨14336 + j, by omega⟩ (by show 14336 + (j : ℕ) = _; omega),
    ← gf_read m c t r i hi n ⟨18432 + j, by omega⟩ (by show 18432 + (j : ℕ) = _; omega)]
  simp only [← wa_read m c t _ n j hj, ← wf_read m c t _ n j hj, ← four_read m c t r i hi, ← hA]
  generalize iblk m c 8 t = WA
  generalize iblk m c 7 t = X
  generalize iblk m c 9 t = WF
  generalize iblk m c 10 t = GA
  generalize iblk m c 11 t = GF
  pointwise [k0_pay3]

end Cert.MixIdeal.Final

end

end
-- ==== Proof.MixValue.lean ====
/- The mixing step: what every grid point writes is the reference's value, so the array is. -/
module

public import proofs.«01_k».proof.Proof.MixHead
public import Idealize.ShloMosaic.Lib.Pipeline.ReadBack

@[expose] public section

set_option maxRecDepth 16384

noncomputable section

namespace Cert.MixIdeal.Final

open Idealize.ShloMosaic Idealize.ShloMosaic.TcCoe Idealize.SL.Sem
open Cert.MixIdeal Cert.MixIdeal.Gen Cert.GroupMix
open Cert.MixRefIdeal.Read (val_main_v40 val_main_v49)
open Cert.MixRefIdeal.Spec (lseAt outAt)

variable (m : (ℓ : Loc nD τ sig) → Buf (Elt Ideal) ℓ) (c : Dev nD) (t : Fin cfg0.N)

/-- A whole array loaded after pieces were stored is those pieces' contents. -/
theorem load_whole {kd : Kind} {sp : Space} (v : View sig kd sp S512x1024 .bf16) (L : List (View.Piece (Elt Ideal) S512x1024 .bf16)) :
    (v.readCov L (Rect.unit (s := S512x1024) ![0, 0] ![512, 1024] inb_S512x1024_S512x1024_0_0).toLoadRect : Vec Ideal S512x1024 .bf16)
      = View.canon L :=
  (View.readCov_eq_canon' v L _).trans
    (View.ld_unit_lit (S := S512x1024) inb_S512x1024_S512x1024_0_0 (View.canon L) (by decide))

set_option maxHeartbeats 2000000 in
/-- The first step of a row block leaves the reference's gated combination in the scratch. -/
theorem scratch_first (hl : ∀ i h k, lseAt (a3 m c) (a4 m c) (a5 m c) i h k ≠ ⊥ ∧ lseAt (a3 m c) (a4 m c) (a5 m c) i h k ≠ ⊤)
    (h0 : t.val % 4 = 0) (r : Fin 512) (k : Fin 1024) (i : Fin 16384) (hi : (i : ℕ) = t.val / 4 * 512 + r) :
    (outsAt0 m c t.val t.isLt).2 (ix2 r k) = gated m c (ix2 i k) := by
  rw [outsAt0_A m c t h0]
  frame_out
  canon_tiles x e
  · idx_vars x
    exact head_piece m c t hl 7 7 _ rfl 896 rfl _ x0 x1 i _ (by omega) (by omega)
  · idx_vars x
    exact head_piece m c t hl 6 6 _ rfl 768 rfl _ x0 x1 i _ (by omega) (by omega)
  · idx_vars x
    exact head_piece m c t hl 5 5 _ rfl 640 rfl _ x0 x1 i _ (by omega) (by omega)
  · idx_vars x
    exact head_piece m c t hl 4 4 _ rfl 512 rfl _ x0 x1 i _ (by omega) (by omega)
  · idx_vars x
    exact head_piece m c t hl 3 3 _ rfl 384 rfl _ x0 x1 i _ (by omega) (by omega)
  · idx_vars x
    exact head_piece m c t hl 2 2 _ rfl 256 rfl _ x0 x1 i _ (by omega) (by omega)
  · idx_vars x
    exact head_piece m c t hl 1 1 _ rfl 128 rfl _ x0 x1 i _ (by omega) (by omega)
  · idx_vars x
    exact head_piece m c t hl 0 0 _ rfl 0 rfl _ x0 x1 i _ (by omega) (by omega)

set_option maxHeartbeats 2000000 in
/-- Every step of the row block finds it there. -/
theorem scratch (hl : ∀ i h k, lseAt (a3 m c) (a4 m c) (a5 m c) i h k ≠ ⊥ ∧ lseAt (a3 m c) (a4 m c) (a5 m c) i h k ≠ ⊤) (n : ℕ) :
    ∀ (hn : n < cfg0.N) (r : Fin 512) (k : Fin 1024) (i : Fin 16384), (i : ℕ) = n / 4 * 512 + r →
      (outsAt0 m c n hn).2 (ix2 r k) = gated m c (ix2 i k) := by
  induction n with
  | zero => exact fun hn r k i hi => scratch_first m c ⟨0, hn⟩ hl rfl r k i hi
  | succ n ih =>
    intro hn r k i hi
    by_cases h0 : (n + 1) % 4 = 0
    · exact scratch_first m c ⟨n + 1, hn⟩ hl h0 r k i hi
    · exact (congrFun (congrArg Prod.snd (outsAt0_B m c ⟨n + 1, hn⟩ h0)) _).trans (ih _ r k i (by omega))

set_option maxHeartbeats 2000000 in
/-- The output array is the reference's. -/
theorem final12 (hl : ∀ i h k, lseAt (a3 m c) (a4 m c) (a5 m c) i h k ≠ ⊥ ∧ lseAt (a3 m c) (a4 m c) (a5 m c) i h k ≠ ⊤) :
    (dats m 0 c).arrAt 12 cfg0.N = mixed m c := by
  refine (dats m 0 c).arrAt_eq_of_covers 12 _ (by decide +kernel) fun t _ y => ?_
  blk_simp
  obtain_idx i : S16384x4096 := [t.val / 4 * 512 + y 0, t.val % 4 * 1024 + y 1] with hi
  refine Eq.trans (b := mixed m c i) ?_ (congrArg _ ?_)
  rotate_left
  · blk_ext [idx t]
  have hi : i = ix2 (i 0) (i 1) := by blk_ext
  have hy : y = ix2 (y 0) (y 1) := by blk_ext
  rw [hi, after0_12, hy]
  by_cases h0 : t.val % 4 = 0
  · have hs := fun k => scratch_first m c t hl h0 (y 0) k (i 0) hi0
    rw [outsAt0_A m c t h0] at hs ⊢
    frame_out
    refine out_piece m c t _ (y 0) (y 1) (i 0) (i 1) hi0 hi1 fun k => ?_
    refine (congrFun (load_whole _ _) _).trans (Eq.trans ?_ (hs k))
    frame_out
  · rw [outsAt0_B m c t h0]
    frame_out
    simp only [read_unread_whole]
    exact out_piece m c t _ (y 0) (y 1) (i 0) (i 1) hi0 hi1 fun k =>
      scratch m c hl (t.val - 1) _ (y 0) k (i 0) (by omega)

end Cert.MixIdeal.Final

end

end
-- ==== Proof.MixClaims.lean ====
/- The mixing step: its claims. -/
module

public import proofs.«01_k».proof.Defs
public import proofs.«01_k».proof.Proof.MixValue
public import proofs.«01_k».proof.Proof.FiniteInput
public import proofs.«01_k».proof.Proof.Gen.Pre_finite_lse
public import proofs.«01_k».proof.Proof.Gen.Mix.Frame
public import proofs.«01_k».proof.Proof.Gen.MixIdeal.Frame
public import proofs.«01_k».proof.Proof.Gen.MixRefIdeal.Run
public import proofs.«01_k».proof.Proof.Gen.MixRefIdeal.Read
public import Idealize.ShloMosaic.Lib.Claim

@[expose] public section

set_option maxRecDepth 16384

noncomputable section

namespace Cert.MixClaims

open Idealize.ShloMosaic Idealize.ShloMosaic.TcCoe Idealize.SL.Sem

/-- The program ends with its arguments as they were and every semaphore at zero. -/
theorem frame : Cert.quiescent_Mix (hMix := Cert.Mix.Gen.facts) := fun m ρ _ => Cert.Mix.Gen.frame m ρ

/-- So does its idealization. -/
theorem frame_ideal : Cert.quiescent_MixIdeal (hMixIdeal := Cert.MixIdeal.Gen.facts) := fun m ρ _ => Cert.MixIdeal.Gen.frame m ρ

/-- So does the reference. -/
theorem frame_ref : Cert.quiescent_MixRefIdeal (hMixRefIdeal := Cert.MixRefIdeal.Gen.facts) := fun m ρ _ =>
  (θ_run _ _ _).mono (fun r h => ⟨fun c => (h c).2, sem_eq_zero_of_no_sems (by decide) r.2⟩) (Cert.MixRefIdeal.Value.run m ρ)

/-- The idealization's frame under the precondition. -/
theorem frame_ideal_pre : Cert.quiescent_MixIdeal_pre_finite_lse (hMixIdeal := Cert.MixIdeal.Gen.facts)
    (hPre_finite_lse := Cert.Pre_finite_lse.Gen.facts) := fun m ρ _ => Cert.MixIdeal.Gen.frame m ρ

/-- The reference's frame under the precondition. -/
theorem frame_ref_pre : Cert.quiescent_MixRefIdeal_pre_finite_lse (hMixRefIdeal := Cert.MixRefIdeal.Gen.facts)
    (hPre_finite_lse := Cert.Pre_finite_lse.Gen.facts) := fun m ρ _ => frame_ref m ρ trivial

/-- Where the three groups' logarithms are finite, so are the ones a row and head is mixed by. -/
theorem finite_lse (x3 : FVec Ideal Cert.MixRefIdeal.S2x8192x128 .f32) (x4 : FVec Ideal Cert.MixRefIdeal.S2x2048x512 .f32)
    (x5 : FVec Ideal Cert.MixRefIdeal.S2x512x2048 .f32) (h3 : ∀ i, x3 i ≠ ⊥ ∧ x3 i ≠ ⊤) (h4 : ∀ i, x4 i ≠ ⊥ ∧ x4 i ≠ ⊤)
    (h5 : ∀ i, x5 i ≠ ⊥ ∧ x5 i ≠ ⊤) (i : Fin 16384) (h : Fin 8) (k : Fin 3) :
    Cert.MixRefIdeal.Spec.lseAt x3 x4 x5 i h k ≠ ⊥ ∧ Cert.MixRefIdeal.Spec.lseAt x3 x4 x5 i h k ≠ ⊤ := by
  rw [Cert.MixRefIdeal.Spec.lse_of]
  match k with
  | 0 => exact h3 _
  | 1 => exact h4 _
  | 2 => exact h5 _

/-- The idealization and the reference compute the same array of finite logarithms. -/
theorem equal : Cert.algebraic_MixIdeal_MixRefIdeal_pre_finite_lse (hMixIdeal := Cert.MixIdeal.Gen.facts)
    (hMixRefIdeal := Cert.MixRefIdeal.Gen.facts) (hPre_finite_lse := Cert.Pre_finite_lse.Gen.facts) := by
  intro m g m' g' hpre hargs
  refine ⟨fun c => (Cert.MixIdeal.Gen.dats m 0 c).arrAt 12 Cert.MixIdeal.cfg0.N, Cert.MixIdeal.Value.run_blocks m g, ?_⟩
  refine (θ_run _ _ _).mono (fun r h c => ⟨(h c).1.trans ?_, (h c).2⟩) (Cert.MixRefIdeal.Value.run m' g')
  obtain ⟨e0, e1, e2, e3, e4, e5, e6, e7, e8, e9⟩ := hargs c
  rw [Cert.MixRefIdeal.Read.val_main_v49_eq, e0, e1, e2, e3, e4, e5, e6, e7, e8, e9]
  exact (Cert.MixIdeal.Final.final12 m c (finite_lse _ _ _ (fun i => Cert.FiniteInput.of_lt _ (congrFun (hpre c).1 i))
    (fun i => Cert.FiniteInput.of_lt _ (congrFun (hpre c).2.1 i)) (fun i => Cert.FiniteInput.of_lt _ (congrFun (hpre c).2.2 i)))).symm

end Cert.MixClaims

end

end
-- ==== Proof.OutProjIdealRun.lean ====
/- The output projection's body, run once at any grid point: a point that is not a row block's last stores one tile into the
   scratch and leaves the output alone; the last stores its own tile, then reads all eight and writes the normalised rows. -/
module

public import proofs.«01_k».proof.Proof.Gen.OutProjIdeal.Frame
public import proofs.«01_k».proof.Proof.Gen.OutProjIdeal.Skeleton

@[expose] public section

set_option maxRecDepth 16384

noncomputable section

namespace Cert.OutProjIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.OutProjIdeal Cert.OutProjIdeal.Gen

variable {F : FTy → Type} [FloatOps F]

/-- The last tile of a row block. -/
theorem last_iff : ∀ t : Fin cfg0.N, k0_cond1 (grid0.coords t) = 1#1 ↔ t.val % 8 = 7 :=
  (by decide +kernel : ∀ t : Fin grid0.N, k0_cond1 (grid0.coords t) = 1#1 ↔ t.val % 8 = 7)

/-- Which tile of the scratch a point stores. -/
theorem tile_off : ∀ t : Fin cfg0.N, k0_off1 (grid0.coords t) = ![t.val % 8, 0, 0] :=
  (by decide +kernel : ∀ t : Fin grid0.N, k0_off1 (grid0.coords t) = ![t.val % 8, 0, 0])

section Runs

variable (c : Dev nD) (i : grid0.Coords) (arg2 : Memref sig .tc .vmem S512x512 .f32) (harg2 : arg2.IsWhole) (arg3 : Memref sig .tc .vmem S512x4096 .bf16) (harg3 : arg3.IsWhole) (arg4 : Memref sig .tc .vmem S4096x512 .bf16) (harg4 : arg4.IsWhole) (arg5 : Memref sig .tc .vmem S1x4096 .f32) (harg5 : arg5.IsWhole) (arg6 : Memref sig .tc .vmem S512x4096 .f32) (harg6 : arg6.IsWhole) (arg7 : Memref sig .tc .vmem S8x512x512 .f32) (harg7 : arg7.IsWhole)
  (x0 : Vec F S512x512 .f32) (x1 : Vec F S512x4096 .bf16) (x2 : Vec F S4096x512 .bf16) (x3 : Vec F S1x4096 .f32)

/-- A point that is not the last: what it stores into the scratch, and that its run does. -/
def runTile (hc : ¬k0_cond1 i = 1#1) :
    { LS : List (View.Piece (Elt F) S8x512x512 .f32) //
      ∀ (y : Vec F S512x4096 .f32) (xs : Vec F S8x512x512 .f32) (E : Set ℕ) (K : PUnit → sProp (MT nD τ sig Unit (Elt F) ℕ (UR sig nD τ) ℕ)),
        iprop(owns (c : Thread nD τ) arg2 fullShare x0 ∗ owns (c : Thread nD τ) arg3 fullShare x1
          ∗ owns (c : Thread nD τ) arg4 fullShare x2 ∗ owns (c : Thread nD τ) arg5 fullShare x3 ∗ owns (c : Thread nD τ) arg6 fullShare y ∗ owns (c : Thread nD τ) arg7 fullShare xs
          ∗ (iprop(owns (c : Thread nD τ) arg2 fullShare x0 ∗ owns (c : Thread nD τ) arg3 fullShare x1
          ∗ owns (c : Thread nD τ) arg4 fullShare x2 ∗ owns (c : Thread nD τ) arg5 fullShare x3 ∗ owns (c : Thread nD τ) arg6 fullShare y
            ∗ (arg7.view.loc (c : Thread nD τ) ↦[arg7.view.set]{fullShare} arg7.view.writes (Elt F) (harg7.unread xs) LS)) -∗ K ⟨⟩))
          ⊢ wp frame (wpE (defs₀ (F := F)) Variants.none c none) E (cc0_out_proj i arg2 harg2 arg3 harg3 arg4 harg4 arg5 harg5 arg6 harg6 arg7 harg7) K } := by
  refine ⟨?_, fun y xs E K => ?run⟩
  case run =>
    simp only [cc0_out_proj_eq_skeleton]; unfold cc0_out_proj_skel
    unfold owns
    iintro ⟨⟨%f0, %hf0, H0⟩, ⟨%f1, %hf1, H1⟩, ⟨%f2, %hf2, H2⟩, ⟨%f3, %hf3, H3⟩, ⟨%f4, %hf4, H4⟩, ⟨%fs, %hfs, HS⟩, Hk⟩
    obtain rfl := harg2.eq_unread hf0; obtain rfl := harg3.eq_unread hf1; obtain rfl := harg4.eq_unread hf2
    obtain rfl := harg5.eq_unread hf3; obtain rfl := harg6.eq_unread hf4; obtain rfl := harg7.eq_unread hfs
    sl_exec (disch := first | sl_exact hc)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    iexact HS

set_option maxHeartbeats 1000000 in
/-- The last point, where the first seven tiles of the scratch are known: what it stores, and that its run does. -/
def runLast (hc : k0_cond1 i = 1#1) (hl : k0_off1 i = ![7, 0, 0]) (p0 p1 p2 p3 p4 p5 p6 : Vec F S1x512x512 .f32) :
    Σ' (L : List (View.Piece (Elt F) S512x4096 .f32)), { LS : List (View.Piece (Elt F) S8x512x512 .f32) //
      ∀ (xs : Vec F S8x512x512 .f32)
          (hp0 : View.readAt (Elt F) arg7.view (Rect.unit (s := S8x512x512) ![0, 0, 0] S1x512x512.size inb_S8x512x512_S1x512x512_0_0_0).toLoadRect (harg7.unread xs) = p0)
          (hp1 : View.readAt (Elt F) arg7.view (Rect.unit (s := S8x512x512) ![1, 0, 0] S1x512x512.size inb_S8x512x512_S1x512x512_1_0_0).toLoadRect (harg7.unread xs) = p1)
          (hp2 : View.readAt (Elt F) arg7.view (Rect.unit (s := S8x512x512) ![2, 0, 0] S1x512x512.size inb_S8x512x512_S1x512x512_2_0_0).toLoadRect (harg7.unread xs) = p2)
          (hp3 : View.readAt (Elt F) arg7.view (Rect.unit (s := S8x512x512) ![3, 0, 0] S1x512x512.size inb_S8x512x512_S1x512x512_3_0_0).toLoadRect (harg7.unread xs) = p3)
          (hp4 : View.readAt (Elt F) arg7.view (Rect.unit (s := S8x512x512) ![4, 0, 0] S1x512x512.size inb_S8x512x512_S1x512x512_4_0_0).toLoadRect (harg7.unread xs) = p4)
          (hp5 : View.readAt (Elt F) arg7.view (Rect.unit (s := S8x512x512) ![5, 0, 0] S1x512x512.size inb_S8x512x512_S1x512x512_5_0_0).toLoadRect (harg7.unread xs) = p5)
          (hp6 : View.readAt (Elt F) arg7.view (Rect.unit (s := S8x512x512) ![6, 0, 0] S1x512x512.size inb_S8x512x512_S1x512x512_6_0_0).toLoadRect (harg7.unread xs) = p6)
          (E : Set ℕ) (K : PUnit → sProp (MT nD τ sig Unit (Elt F) ℕ (UR sig nD τ) ℕ)),
        iprop(owns (c : Thread nD τ) arg2 fullShare x0 ∗ owns (c : Thread nD τ) arg3 fullShare x1
          ∗ owns (c : Thread nD τ) arg4 fullShare x2 ∗ owns (c : Thread nD τ) arg5 fullShare x3 ∗ (∃ d, owns (c : Thread nD τ) arg6 fullShare d) ∗ owns (c : Thread nD τ) arg7 fullShare xs
          ∗ (iprop(owns (c : Thread nD τ) arg2 fullShare x0 ∗ owns (c : Thread nD τ) arg3 fullShare x1
          ∗ owns (c : Thread nD τ) arg4 fullShare x2 ∗ owns (c : Thread nD τ) arg5 fullShare x3
            ∗ (∃ f, arg6.view.loc (c : Thread nD τ) ↦[arg6.view.set]{fullShare} arg6.view.writes (Elt F) f L)
            ∗ (arg7.view.loc (c : Thread nD τ) ↦[arg7.view.set]{fullShare} arg7.view.writes (Elt F) (harg7.unread xs) LS)) -∗ K ⟨⟩))
          ⊢ wp frame (wpE (defs₀ (F := F)) Variants.none c none) E (cc0_out_proj i arg2 harg2 arg3 harg3 arg4 harg4 arg5 harg5 arg6 harg6 arg7 harg7) K } := by
  refine ⟨?_, ?_, fun xs hp0 hp1 hp2 hp3 hp4 hp5 hp6 E K => ?run⟩
  case run =>
    letI : ClosedOff (k0_off1 i) := ⟨![7, 0, 0], hl⟩
    simp only [cc0_out_proj_eq_skeleton]; unfold cc0_out_proj_skel
    simp only [k0_part1_eq_skeleton, k0_part2_eq_skeleton, k0_part3_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%fs, %hfs, HS⟩, Hk⟩
    obtain rfl := harg2.eq_unread hf0; obtain rfl := harg3.eq_unread hf1; obtain rfl := harg4.eq_unread hf2
    obtain rfl := harg5.eq_unread hf3; obtain rfl := harg7.eq_unread hfs
    sl_exec (disch := first | sl_exact hc)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    iexact HS

end Runs

end Cert.OutProjIdeal.Hand

end

end
-- ==== Proof.OutProjIdealFrame.lean ====
/- The output projection's frame. The scratch holds, of each row block, the tiles stored so far; nothing else of it is known. A row
   block's last point reads all eight, so what it writes is a function of the eight points' blocks. -/
module

public import proofs.«01_k».proof.Proof.OutProjIdealRun
public import Idealize.ShloMosaic.Lib.WritesUnit
public import Idealize.ShloMosaic.Lib.VecWindow
public import Idealize.ShloMosaic.Lib.Claim

@[expose] public section

set_option maxRecDepth 16384

noncomputable section

namespace Cert.OutProjIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.OutProjIdeal Cert.OutProjIdeal.Gen

variable {F : FTy → Type} [FloatOps F]
variable (m : (ℓ : Loc nD τ sig) → Buf (Elt F) ℓ) (ρ : Dev nD → PrngReg) (c : Dev nD)

/-- Window 0's buffer at a point. -/
abbrev ms0 (t : Fin cfg0.N) : Memref sig .tc .vmem S512x512 .f32 := win0_0.stage (cfg0.slots t 0)
/-- It is whole. -/
abbrev hs0 (t : Fin cfg0.N) : (ms0 t).IsWhole := hstage0_0 ((cfg0.slots t 0).cast nbuf0_0)
/-- Window 1's buffer at a point. -/
abbrev ms1 (t : Fin cfg0.N) : Memref sig .tc .vmem S512x4096 .bf16 := win0_1.stage (cfg0.slots t 1)
/-- It is whole. -/
abbrev hs1 (t : Fin cfg0.N) : (ms1 t).IsWhole := hstage0_1 ((cfg0.slots t 1).cast nbuf0_1)
/-- Window 2's buffer at a point. -/
abbrev ms2 (t : Fin cfg0.N) : Memref sig .tc .vmem S4096x512 .bf16 := win0_2.stage (cfg0.slots t 2)
/-- It is whole. -/
abbrev hs2 (t : Fin cfg0.N) : (ms2 t).IsWhole := hstage0_2 ((cfg0.slots t 2).cast nbuf0_2)
/-- Window 3's buffer at a point. -/
abbrev ms3 (t : Fin cfg0.N) : Memref sig .tc .vmem S1x4096 .f32 := win0_3.stage (cfg0.slots t 3)
/-- It is whole. -/
abbrev hs3 (t : Fin cfg0.N) : (ms3 t).IsWhole := hstage0_3 ((cfg0.slots t 3).cast nbuf0_3)
/-- Window 4's buffer at a point. -/
abbrev ms4 (t : Fin cfg0.N) : Memref sig .tc .vmem S512x4096 .f32 := win0_4.stage (cfg0.slots t 4)
/-- It is whole. -/
abbrev hs4 (t : Fin cfg0.N) : (ms4 t).IsWhole := hstage0_4 ((cfg0.slots t 4).cast nbuf0_4)
/-- The scratch. -/
abbrev scr : Memref sig .tc .vmem S8x512x512 .f32 := Memref.whole cc0_scratch0
/-- It is whole. -/
abbrev hscr : (scr : Memref sig .tc .vmem S8x512x512 .f32).IsWhole := Memref.isWhole_whole _
/-- A view to state an output block's contents through. -/
abbrev outView : View sig .tc .vmem S512x4096 .f32 := (Memref.whole cc0_stg4_0 : Memref sig .tc .vmem S512x4096 .f32).view

/-- The tile a point stores: its blocks' product added to its block of the residual. -/
def tile (t : Fin cfg0.N) : Vec F S1x512x512 .f32 := k0_pay1 (iblk m c 0 t) (iblk m c 1 t) (iblk m c 2 t)

/-- The point of `t`'s row block that stores tile `k`. -/
def prior (t : Fin cfg0.N) (k : Fin 8) : Fin cfg0.N :=
  ⟨t.val / 8 * 8 + k.val, lt_of_lt_of_eq (by have := lt_of_lt_of_eq t.isLt N_0; have := k.isLt; omega : t.val / 8 * 8 + k.val < 256) N_0.symm⟩

theorem prior_val (t : Fin cfg0.N) (k : Fin 8) : (prior t k).val = t.val / 8 * 8 + k.val := rfl
theorem prior_mod (t : Fin cfg0.N) (k : Fin 8) : (prior t k).val % 8 = k.val := by have := k.isLt; simp only [prior_val]; omega
theorem prior_div (t : Fin cfg0.N) (k : Fin 8) : (prior t k).val / 8 = t.val / 8 := by have := k.isLt; simp only [prior_val]; omega

/-- The scratch before position `n` holds the tiles the row block's earlier points stored. -/
def Holds (n : ℕ) (X : Vec F S8x512x512 .f32) : Prop :=
  ∀ p : Fin cfg0.N, p.val < n → p.val / 8 = n / 8 → ∀ inb,
    View.readAt (Elt F) scr.view (Rect.unit (s := S8x512x512) ![p.val % 8, 0, 0] S1x512x512.size inb).toLoadRect (hscr.unread X) = tile m c p

variable {m c} in
/-- A known tile, at its number. -/
theorem Holds.read {n : ℕ} {X : Vec F S8x512x512 .f32} (h : Holds m c n X) (p : Fin cfg0.N) (k : ℕ) (inb) (hk : p.val % 8 = k)
    (hp : p.val < n) (hd : p.val / 8 = n / 8) :
    View.readAt (Elt F) scr.view (Rect.unit (s := S8x512x512) ![k, 0, 0] S1x512x512.size inb).toLoadRect (hscr.unread X) = tile m c p := by
  subst hk; exact h p hp hd inb

/-- A point's store adds its own tile to the known ones. -/
theorem Holds.step (t : Fin cfg0.N) (X : Vec F S8x512x512 .f32) (h : Holds m c t.val X) (hi) :
    Holds m c (t.val + 1) (scr.view.read (Elt F) (scr.view.writes (Elt F) (hscr.unread X)
      [⟨Rect.unit (s := S8x512x512) (k0_off1 (grid0.coords t)) S1x512x512.size hi, tile m c t⟩])) := by
  intro p hp hd inb
  rw [← hscr.eq_unread (f := scr.view.writes (Elt F) (hscr.unread X) [⟨Rect.unit (s := S8x512x512) (k0_off1 (grid0.coords t)) S1x512x512.size hi, tile m c t⟩]) rfl]
  by_cases he : p = t
  · subst he
    funext y
    exact View.read_writes_cons_unit_of_mem scr.view _ hi _ _ _ y (tile_off p) fun a => by
      show ![p.val % 8, 0, 0] a + 1 * (y a).val = _
      rw [Nat.one_mul]
  · have hne : p.val ≠ t.val := fun e => he (Fin.ext e)
    rw [← h p (by omega) (by omega) inb]
    funext y
    refine View.read_writes_cons_unit_of_not_mem scr.view _ hi _ _ _ (tile_off t) 0 ?_
    have hy : (y 0).val < 1 := (y 0).isLt
    show p.val % 8 + 1 * (y 0).val < t.val % 8 ∨ t.val % 8 + 1 ≤ p.val % 8 + 1 * (y 0).val
    omega

/-- A whole buffer loaded is what it holds. -/
theorem load_full {s : Shape} {e : EltTy} (v : Memref sig .tc .vmem s e) (hv : v.IsWhole) {off : Fin s.rank → ℕ} (inb : ∀ a, off a + s.size a ≤ s.size a)
    (x : Vec F s e) : View.readAt (Elt F) v.view (Rect.unit off s.size inb).toLoadRect (hv.unread x) = x :=
  (View.readAt_full _ _ inb).trans (hv.read_unread x)

/-- What a point that is not the last stores into the scratch is its tile. -/
theorem tile_pieces (t : Fin cfg0.N) (hc : ¬k0_cond1 (grid0.coords t) = 1#1) :
    (runTile c (grid0.coords t) (ms0 t) (hs0 t) (ms1 t) (hs1 t) (ms2 t) (hs2 t) (ms3 t) (hs3 t) (ms4 t) (hs4 t) scr hscr (iblk m c 0 t) (iblk m c 1 t) (iblk m c 2 t) (iblk m c 3 t) hc).1
      = [⟨Rect.unit (s := S8x512x512) (k0_off1 (grid0.coords t)) S1x512x512.size (k0_off1_inb _), tile m c t⟩] := by
  unfold runTile tile
  refine congrArg (fun w => [(⟨Rect.unit (s := S8x512x512) (k0_off1 (grid0.coords t)) S1x512x512.size (k0_off1_inb _), w⟩ : View.Piece (Elt F) S8x512x512 .f32)])
    (congr (congr (congrArg k0_pay1 ?_) ?_) ?_)
  · exact load_full _ (hs0 t) _ _
  · exact load_full _ (hs1 t) _ _
  · exact load_full _ (hs2 t) _ _

/-- What a row block's last point leaves in the output's buffer. -/
def outLast (t : Fin cfg0.N) (h : t.val % 8 = 7) : Vec F S512x4096 .f32 :=
  outView.read (Elt F) (outView.writes (Elt F) outView.junk
    (runLast c (grid0.coords t) (ms0 t) (hs0 t) (ms1 t) (hs1 t) (ms2 t) (hs2 t) (ms3 t) (hs3 t) (ms4 t) (hs4 t) scr hscr (iblk m c 0 t) (iblk m c 1 t) (iblk m c 2 t) (iblk m c 3 t)
      ((last_iff t).mpr h) ((tile_off t).trans (by rw [h])) (tile m c (prior t 0)) (tile m c (prior t 1)) (tile m c (prior t 2)) (tile m c (prior t 3)) (tile m c (prior t 4)) (tile m c (prior t 5)) (tile m c (prior t 6))).1)

/-- Its stores cover the block. -/
theorem last_cover (t : Fin cfg0.N) (h : t.val % 8 = 7) (y : S512x4096.Idx) :
    ∃ pc ∈ (runLast c (grid0.coords t) (ms0 t) (hs0 t) (ms1 t) (hs1 t) (ms2 t) (hs2 t) (ms3 t) (hs3 t) (ms4 t) (hs4 t) scr hscr (iblk m c 0 t) (iblk m c 1 t) (iblk m c 2 t) (iblk m c 3 t)
      ((last_iff t).mpr h) ((tile_off t).trans (by rw [h])) (tile m c (prior t 0)) (tile m c (prior t 1)) (tile m c (prior t 2)) (tile m c (prior t 3)) (tile m c (prior t 4)) (tile m c (prior t 5)) (tile m c (prior t 6))).1, y ∈ pc.1.set :=
  View.cover_of_tiledL (runLast c (grid0.coords t) (ms0 t) (hs0 t) (ms1 t) (hs1 t) (ms2 t) (hs2 t) (ms3 t) (hs3 t) (ms4 t) (hs4 t) scr hscr (iblk m c 0 t) (iblk m c 1 t) (iblk m c 2 t) (iblk m c 3 t)
    ((last_iff t).mpr h) ((tile_off t).trans (by rw [h])) (tile m c (prior t 0)) (tile m c (prior t 1)) (tile m c (prior t 2)) (tile m c (prior t 3)) (tile m c (prior t 4)) (tile m c (prior t 5)) (tile m c (prior t 6))).1 S512x512.size (by sl_kernel_rfl) y

/-- The invariant before position `n`. -/
def Inv (n : ℕ) : sProp (MT nD τ sig Unit (Elt F) ℕ (UR sig nD τ) ℕ) :=
  iprop((∃ X, owns (c : Thread nD τ) scr fullShare X ∗ ⌜Holds m c n X⌝) ∗ (∃ r, prngReg c r))

/-- The proof data. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => if h : t.val % 8 = 7 then outLast m c t h else outView.read (Elt F) outView.junk
  Φ t := Inv m c t.val
  q _ := fullShare
  owed _ := 0

theorem A_eq (c : Dev nD) (w : Fin cfg0.W) : (dats m 0 c).A w = V m c (Pipeline.arrRef spec0 w) := by dsimp only [dats]
theorem after0 (t : Fin cfg0.N) : (dats m 0 c).after 0 t = iblk m c 0 t := by dsimp only [dats]
theorem after1 (t : Fin cfg0.N) : (dats m 0 c).after 1 t = iblk m c 1 t := by dsimp only [dats]
theorem after2 (t : Fin cfg0.N) : (dats m 0 c).after 2 t = iblk m c 2 t := by dsimp only [dats]
theorem after3 (t : Fin cfg0.N) : (dats m 0 c).after 3 t = iblk m c 3 t := by dsimp only [dats]
theorem after4 (t : Fin cfg0.N) (h : t.val % 8 = 7) : (dats m 0 c).after 4 t = outLast m c t h := by dsimp only [dats]; rw [dif_pos h]

/-- The output is idle except at a row block's last point. -/
theorem idle4 : ∀ t : Fin cfg0.N, ¬t.val % 8 = 7 → cfg0.idle 4 (grid0.coords t) = true ∧ (cfg0.win 4).flush t = false :=
  (by decide +kernel : ∀ t : Fin grid0.N, ¬t.val % 8 = 7 → cfg0.idle 4 (grid0.coords t) = true ∧ (cfg0.win 4).flush t = false)
theorem live4 : ∀ t : Fin cfg0.N, t.val % 8 = 7 → cfg0.idle 4 (grid0.coords t) = false :=
  (by decide +kernel : ∀ t : Fin grid0.N, t.val % 8 = 7 → cfg0.idle 4 (grid0.coords t) = false)

set_option maxHeartbeats 3200000 in
/-- The body at any point, from the invariant before it to the invariant after. -/
theorem sound_body (t : Fin cfg0.N) :
    iprop((dats m 0 c).Φ t.castSucc ∗ (dats m 0 c).owesAt () t.castSucc
      ∗ (∃ d, owns (c : Thread nD τ) (ms0 t) fullShare ((dats m 0 c).before 0 t d))
      ∗ (∃ d, owns (c : Thread nD τ) (ms1 t) fullShare ((dats m 0 c).before 1 t d))
      ∗ (∃ d, owns (c : Thread nD τ) (ms2 t) fullShare ((dats m 0 c).before 2 t d))
      ∗ (∃ d, owns (c : Thread nD τ) (ms3 t) fullShare ((dats m 0 c).before 3 t d))
      ∗ (∃ d, owns (c : Thread nD τ) (ms4 t) fullShare ((dats m 0 c).before 4 t d)))
    ⊢ wp frame (wpE (defs₀ (F := F)) Variants.none c none) Set.univ (bodyAt0 t) (fun _ =>
      iprop((dats m 0 c).Φ t.succ ∗ (dats m 0 c).owesAt () t.succ
        ∗ (dats m 0 c).leavesExact 0 t ∗ (dats m 0 c).leavesExact 1 t ∗ (dats m 0 c).leavesExact 2 t
        ∗ (dats m 0 c).leavesExact 3 t ∗ (dats m 0 c).leavesExact 4 t)) := by
  unfold bodyAt0
  simp only [before0_0_of m (dats m 0 c) (A_eq m c 0) (after0 m c), before0_1_of m (dats m 0 c) (A_eq m c 1) (after1 m c),
    before0_2_of m (dats m 0 c) (A_eq m c 2) (after2 m c), before0_3_of m (dats m 0 c) (A_eq m c 3) (after3 m c)]
  rw [show (dats m 0 c).owesAt () t.succ = (dats m 0 c).owesAt () t.castSucc from rfl,
    show (dats m 0 c).Φ t.succ = Inv m c (t.val + 1) from rfl, show (dats m 0 c).Φ t.castSucc = Inv m c t.val from rfl]
  unfold Inv
  by_cases h : t.val % 8 = 7
  ·
    rw [show (dats m 0 c).leavesExact 0 t = owns (c : Thread nD τ) (ms0 t) fullShare ((dats m 0 c).after 0 t) from rfl, after0]
    rw [show (dats m 0 c).leavesExact 1 t = owns (c : Thread nD τ) (ms1 t) fullShare ((dats m 0 c).after 1 t) from rfl, after1]
    rw [show (dats m 0 c).leavesExact 2 t = owns (c : Thread nD τ) (ms2 t) fullShare ((dats m 0 c).after 2 t) from rfl, after2]
    rw [show (dats m 0 c).leavesExact 3 t = owns (c : Thread nD τ) (ms3 t) fullShare ((dats m 0 c).after 3 t) from rfl, after3]
    rw [show (dats m 0 c).leavesExact 4 t = owns (c : Thread nD τ) (ms4 t) fullShare ((dats m 0 c).after 4 t) from by
      unfold Dat.leavesExact; rw [live4 t h], after4 m c t h]
    iintro ⟨⟨⟨%X, HS, %hX⟩, Hg⟩, Ho, ⟨%d0, H0⟩, ⟨%d1, H1⟩, ⟨%d2, H2⟩, ⟨%d3, H3⟩, ⟨%d4, H4⟩⟩
    unfold outLast
    iapply ((runLast c (grid0.coords t) _ _ _ _ _ _ _ _ _ _ scr hscr (iblk m c 0 t) (iblk m c 1 t) (iblk m c 2 t) (iblk m c 3 t) ((last_iff t).mpr h) ((tile_off t).trans (by rw [h]))
      (tile m c (prior t 0)) (tile m c (prior t 1)) (tile m c (prior t 2)) (tile m c (prior t 3)) (tile m c (prior t 4)) (tile m c (prior t 5)) (tile m c (prior t 6))).2.2 X
      (hX.read (prior t 0) 0 _ (prior_mod t 0) (by simp only [prior_val]; omega) (prior_div t 0)) (hX.read (prior t 1) 1 _ (prior_mod t 1) (by simp only [prior_val]; omega) (prior_div t 1)) (hX.read (prior t 2) 2 _ (prior_mod t 2) (by simp only [prior_val]; omega) (prior_div t 2)) (hX.read (prior t 3) 3 _ (prior_mod t 3) (by simp only [prior_val]; omega) (prior_div t 3)) (hX.read (prior t 4) 4 _ (prior_mod t 4) (by simp only [prior_val]; omega) (prior_div t 4)) (hX.read (prior t 5) 5 _ (prior_mod t 5) (by simp only [prior_val]; omega) (prior_div t 5)) (hX.read (prior t 6) 6 _ (prior_mod t 6) (by simp only [prior_val]; omega) (prior_div t 6)) Set.univ _)
    isplitl [H0]; · iexact H0
    isplitl [H1]; · iexact H1
    isplitl [H2]; · iexact H2
    isplitl [H3]; · iexact H3
    isplitl [H4]; · iexists _; iexact H4
    isplitl [HS]; · iexact HS
    iintro ⟨H0, H1, H2, H3, ⟨%e4, H4⟩, HS⟩
    isplitl [HS Hg]
    · isplitl [HS]
      · iexists _
        isplitl [HS]
        · unfold owns; iexists _; isplitr
          swap; · iexact HS
          ipureintro; rfl
        ipureintro
        intro p hp hd
        exact absurd hd (by omega)
      iexact Hg
    isplitl [Ho]; · iexact Ho
    isplitl [H0]; · iexact H0
    isplitl [H1]; · iexact H1
    isplitl [H2]; · iexact H2
    isplitl [H3]; · iexact H3
    unfold owns; iexists _; isplitr
    swap; · iexact H4
    ipureintro; exact View.read_writes_of_cover _ _ _ _ _ (last_cover m c t h)
  ·
    rw [show (dats m 0 c).leavesExact 0 t = owns (c : Thread nD τ) (ms0 t) fullShare ((dats m 0 c).after 0 t) from rfl, after0]
    rw [show (dats m 0 c).leavesExact 1 t = owns (c : Thread nD τ) (ms1 t) fullShare ((dats m 0 c).after 1 t) from rfl, after1]
    rw [show (dats m 0 c).leavesExact 2 t = owns (c : Thread nD τ) (ms2 t) fullShare ((dats m 0 c).after 2 t) from rfl, after2]
    rw [show (dats m 0 c).leavesExact 3 t = owns (c : Thread nD τ) (ms3 t) fullShare ((dats m 0 c).after 3 t) from rfl, after3]
    rw [Dat.leavesExact_idle (dats m 0 c) 4 t (idle4 t h).1 (idle4 t h).2]
    iintro ⟨⟨⟨%X, HS, %hX⟩, Hg⟩, Ho, ⟨%d0, H0⟩, ⟨%d1, H1⟩, ⟨%d2, H2⟩, ⟨%d3, H3⟩, ⟨%d4, H4⟩⟩
    iapply ((runTile c (grid0.coords t) _ _ _ _ _ _ _ _ _ _ scr hscr (iblk m c 0 t) (iblk m c 1 t) (iblk m c 2 t) (iblk m c 3 t) (fun hc => h ((last_iff t).mp hc))).2 _ X Set.univ _)
    isplitl [H0]; · iexact H0
    isplitl [H1]; · iexact H1
    isplitl [H2]; · iexact H2
    isplitl [H3]; · iexact H3
    isplitl [H4]; · iexact H4
    isplitl [HS]; · iexact HS
    iintro ⟨H0, H1, H2, H3, H4, HS⟩
    isplitl [HS Hg]
    · isplitl [HS]
      · iexists _
        isplitl [HS]
        · unfold owns; iexists _; isplitr
          swap; · iexact HS
          ipureintro; rfl
        ipureintro
        rw [tile_pieces]
        exact Holds.step m c t X hX _
      iexact Hg
    isplitl [Ho]; · iexact Ho
    isplitl [H0]; · iexact H0
    isplitl [H1]; · iexact H1
    isplitl [H2]; · iexact H2
    isplitl [H3]; · iexact H3
    iexists _; iexact H4

/-- The body obligation. -/
theorem body_obligation : BodyObligation (dats (F := F) m 0 c) (defs₀ (F := F)) Variants.none () Set.univ := fun t => by
  rw [bigSep_W0, bigSep_W0, show defs₀ (F := F) .tc cfg0.body (cfg0.bodyArgs t (cfg0.slots t)) = bodyAt0 t from by
    unfold defs₀; rw [Defs.onTc_tc]]
  exact triple_restated (sound_body m c t) rfl .rfl fun _ => .rfl

/-- The scoped buffers outside the windows are the scratch, at any contents. -/
theorem rest_eq : (Pipeline.ΦA spec0 c : sProp (MT nD τ sig Unit (Elt F) ℕ (UR sig nD τ) ℕ))
    = iprop(iprop((∃ d, owns (c : Thread nD τ) scr fullShare d)) ∗ (∃ r, prngReg c r)) := by
  unfold Pipeline.ΦA; rw [scopedRest0_eq]; simp only [scr, owns_whole]; try rfl

/-- Before the first point no tile is known. -/
theorem inv_first : Pipeline.ΦA spec0 c ⊢ (dats m 0 c).Φ 0 := by
  rw [show (dats m 0 c).Φ 0 = Inv m c 0 from rfl, rest_eq]
  unfold Inv
  iintro ⟨⟨%X, HS⟩, Hg⟩
  isplitl [HS]
  · iexists X
    isplitl [HS]; · iexact HS
    ipureintro
    intro p hp
    exact absurd hp (Nat.not_lt_zero _)
  iexact Hg

/-- After the last the tiles are forgotten. -/
theorem inv_last : (dats m 0 c).Φ (Fin.last cfg0.N) ⊢ Pipeline.ΦA spec0 c := by
  rw [show (dats m 0 c).Φ (Fin.last cfg0.N) = Inv m c (Fin.last cfg0.N).val from rfl, rest_eq]
  unfold Inv
  iintro ⟨⟨%X, HS, %hX⟩, Hg⟩
  isplitl [HS]
  · iexists _; iexact HS
  iexact Hg

set_option backward.isDefEq.respectTransparency.types false in
/-- The run: every array as the proof data has it, every semaphore at zero. -/
theorem run : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := inv_first m) (hout := inv_last m)

/-- The arguments end as they were. -/
theorem unchanged : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (frame_of m ρ (dats m) (A_eq m) ((θ_run defs _ _).mono (fun _ h => h.1) (run m ρ)))
    ((θ_run defs _ _).mono (fun _ h => h.2) (run m ρ))

/-- The output array and the arguments after the run. -/
theorem run_out : θ_run defs (onTc (τ := τ) (main (F := F))) ⟨m, fun _ => 0, ρ⟩ fun r => ∀ c : Dev nD,
      r.2.mem ((c : Thread nD τ).loc main_v4) = (dats m 0 c).arrAt 4 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  have h : θ_run defs (onTc (τ := τ) (main (F := F))) ⟨m, fun _ => 0, ρ⟩ fun r => ∀ c : Dev nD,
      r.2.mem ((c : Thread nD τ).loc main_v4) = (dats m 0 c).arrAt 4 cfg0.N := (θ_run defs _ _).mono (fun _ h c => (h.1 c).1 4) (run m ρ)
  (θ_run defs _ _).mono (fun _ h c => ⟨h.1 c, h.2.1 c⟩) (θ_run_and h (unchanged m ρ))

end Cert.OutProjIdeal.Hand

end

end
-- ==== Proof.OutProjBody.lean ====
/- The output projection's body, read at an index: the tile a point stores, the root of a row's mean square over the eight tiles, and a
   tile divided by it. -/
module

public import proofs.«01_k».proof.Proof.Gen.OutProjIdeal.Skeleton
public import Idealize.ShloMosaic.Lib.Pointwise
public import Idealize.ShloMosaic.Lib.Pipeline.ValueKit

@[expose] public section

set_option maxRecDepth 16384

noncomputable section

namespace Cert.OutProjIdeal.Final

open Idealize.ShloMosaic Idealize.ShloMosaic.TcCoe Idealize.SL.Sem
open Cert.OutProjIdeal Cert.OutProjIdeal.Gen

/-- A row's sum is the sum over the eight tiles of the tiles' sums. -/
theorem sum_tiles (f : Fin 4096 → EReal) : ∑ k, f k = ∑ j : Fin 8, ∑ e : Fin 512, f ⟨j * 512 + e, by omega⟩ := by
  rw [← Fintype.sum_prod_type' (f := fun (j : Fin 8) (e : Fin 512) => f ⟨j * 512 + e, by omega⟩)]
  refine (Fintype.sum_equiv (finProdFinEquiv (m := 8) (n := 512)) _ f fun p => congrArg f (Fin.ext ?_)).symm
  show (p.1 : ℕ) * 512 + p.2 = (p.2 : ℕ) + 512 * p.1
  omega

/-- The tile a point stores: the residual's block plus the product of the two others. -/
theorem product_at (A : Vec Ideal S512x512 .f32) (B : Vec Ideal S512x4096 .bf16) (C : Vec Ideal S4096x512 .bf16) (r e : Fin 512) :
    k0_pay1 A B C (ix3 0 r e) = A (ix2 r e) + ∑ k : Fin 4096, B (ix2 r k) * C (ix2 k e) := by
  pointwise [k0_pay1]

/-- The inverse root of a row's mean square, the squares summed tile after tile. -/
theorem root_at (T : Fin 8 → Vec Ideal S1x512x512 .f32) (r : Fin 512) :
    k0_pay7 (k0_pay5 (T 0) (T 1) (T 2) (T 3) (T 4)) (k0_pay6 (T 5)) (T 6) (T 7) (ix2 r 0)
      = Ideal.rsqrt (Ideal.div (∑ j : Fin 8, ∑ e : Fin 512, T j (ix3 0 r e) * T j (ix3 0 r e)) (Ideal.ofBits .f32 0x45800000#32)
          + Ideal.ofBits .f32 0x358637BD#32) := by
  rw [Fin.sum_univ_eight]
  generalize T 0 = t0
  generalize T 1 = t1
  generalize T 2 = t2
  generalize T 3 = t3
  generalize T 4 = t4
  generalize T 5 = t5
  generalize T 6 = t6
  generalize T 7 = t7
  pointwise [k0_pay7, k0_pay6, k0_pay5]

/-- A tile times its rows' inverse roots and its columns' gains. -/
theorem scaled_at (v : FVec Ideal S512x1 .f32) (T : Vec Ideal S1x512x512 .f32) (g : Vec Ideal S1x512 .f32) (r e : Fin 512) :
    k0_pay3 v T g (ix2 r e) = T (ix3 0 r e) * v (ix2 r 0) * g (ix2 0 e) := by
  pointwise [k0_pay3]

end Cert.OutProjIdeal.Final

end

end
-- ==== Proof.OutProjRef.lean ====
/- The reference of the output projection, read at an index: a residual row plus its product, divided by the root of its mean square. -/
module

public import proofs.«01_k».proof.Proof.NormValue
public import proofs.«01_k».proof.Proof.Gen.OutProjRefIdeal.Read
public import Idealize.ShloMosaic.Lib.Pointwise
public import Idealize.ShloMosaic.Lib.Pipeline.ValueKit

@[expose] public section

set_option maxRecDepth 16384

noncomputable section

namespace Cert.OutProjRefIdeal.Spec

open Idealize.ShloMosaic Idealize.ShloMosaic.TcCoe Idealize.SL.Sem
open Cert.OutProjRefIdeal Cert.OutProjRefIdeal.Gen Cert.OutProjRefIdeal.Read
open Cert.NormIdeal.Final (normed)

variable (x0 : (⟨S2x8192x4096, .f32⟩ : BufTy).Contents (Elt Ideal)) (x1 : (⟨S16384x4096, .bf16⟩ : BufTy).Contents (Elt Ideal))
  (x2 : (⟨S1x4096x4096, .f32⟩ : BufTy).Contents (Elt Ideal)) (x3 : (⟨S4096, .f32⟩ : BufTy).Contents (Elt Ideal))

variable (b : Fin 2) (s : Fin 8192) (i : Fin 16384)

/-- The residual plus the projection, at a row and column. -/
def row (e : Fin 4096) : EReal := x0 (ix3 b s e) + ∑ k : Fin 4096, x1 (ix2 i k) * x2 (ix3 0 k e)

/-- The reference's residual sum. -/
theorem row_at (hi : (i : ℕ) = b * 8192 + s) (e : Fin 4096) :
    val_main_v4 (F := Ideal) x0 x1 x2 (ix3 b s e) = row x0 x1 x2 b s i e := by
  obtain ⟨i, _⟩ := i
  obtain rfl : i = b * 8192 + s := hi
  rw [val_main_v4_apply, val_main_v3_apply]
  refine congrArg (x0 (ix3 b s e) + ·) (Finset.sum_congr rfl fun k _ => ?_)
  rw [show lidx_main_v3 (ix3 b s e) k = ix3 b s k from by blk_ext, show ridx_main_v3 (ix3 b s e) k = ix2 k e from by blk_ext]
  pointwise [val_main_v1, val_main_v0, val_main_v2]

/-- What the reference computes at a row and column. -/
theorem out_at (hi : (i : ℕ) = b * 8192 + s) (e : Fin 4096) :
    val_main_v18 (F := Ideal) x0 x1 x2 x3 (ix2 i e) = normed (row x0 x1 x2 b s i) (x3 (ix1 e)) e := by
  have hr := row_at x0 x1 x2 b s i hi
  have h0 : val_main_v6 (F := Ideal) x0 x1 x2 (ix2 b s) = ∑ k : Fin 4096, row x0 x1 x2 b s i k * row x0 x1 x2 b s i k := by
    rw [val_main_v6_apply]
    simp only [← hr]
    pointwise [val_main_v5, val_main_cst]
    exact Finset.sum_congr rfl fun k _ => by
      have h : idx_main_v6 (ix2 b s) k = ix3 b s k := by blk_ext
      rw [h]
  unfold normed
  rw [← h0, ← hr]
  clear h0 hr
  obtain ⟨i, _⟩ := i
  obtain rfl : i = b * 8192 + s := hi
  unfold val_main_v18 val_main_v17 val_main_v14 val_main_v13 val_main_v12 val_main_v11 val_main_v9 val_main_v7
  generalize val_main_v6 (F := Ideal) x0 x1 x2 = y
  generalize val_main_v4 (F := Ideal) x0 x1 x2 = z
  pointwise [val_main_v16, val_main_v15, val_main_v10, val_main_v8, val_main_cst_0, val_main_cst_1]

end Cert.OutProjRefIdeal.Spec

end

end
-- ==== Proof.OutProjValue.lean ====
/- The output projection: what a row block's last point writes is the reference's value, so the array is. -/
module

public import proofs.«01_k».proof.Proof.OutProjIdealFrame
public import proofs.«01_k».proof.Proof.OutProjBody
public import proofs.«01_k».proof.Proof.OutProjRef
public import Idealize.ShloMosaic.Lib.Claim

@[expose] public section

set_option maxRecDepth 16384

noncomputable section

namespace Cert.OutProjIdeal.Final

open Idealize.ShloMosaic Idealize.ShloMosaic.TcCoe Idealize.SL.Sem
open Cert.OutProjIdeal Cert.OutProjIdeal.Gen
open Cert.OutProjIdeal.Hand (tile prior prior_val outLast tile_off dats after4 idle4)
open Cert.NormIdeal.Final (normed)
open Cert.OutProjRefIdeal.Spec (row)
open Cert.OutProjRefIdeal.Read (val_main_v18)

variable (m : (ℓ : Loc nD τ sig) → Buf (Elt Ideal) ℓ) (c : Dev nD) (t : Fin cfg0.N)

/-- The residual the call is given. -/
abbrev a0 : (⟨S2x8192x4096, .f32⟩ : BufTy).Contents (Elt Ideal) := m ((c.tc : Thread nD τ).loc main_arg0)
/-- The mixed rows it is given. -/
abbrev a1 : (⟨S16384x4096, .bf16⟩ : BufTy).Contents (Elt Ideal) := m ((c.tc : Thread nD τ).loc main_arg1)
/-- The weights it is given. -/
abbrev a2 : (⟨S1x4096x4096, .f32⟩ : BufTy).Contents (Elt Ideal) := m ((c.tc : Thread nD τ).loc main_arg2)
/-- The gains it is given. -/
abbrev a3 : (⟨S4096, .f32⟩ : BufTy).Contents (Elt Ideal) := m ((c.tc : Thread nD τ).loc main_arg3)

/-- The windows' index maps. -/
theorem idx : ∀ t : Fin cfg0.N, win0_0.index t = ![t.val / 8, t.val % 8] ∧ win0_1.index t = ![t.val / 8, 0]
    ∧ win0_2.index t = ![0, t.val % 8] ∧ win0_3.index t = ![0, 0] ∧ win0_4.index t = ![t.val / 8, 0] :=
  (by decide +kernel : ∀ t : Fin grid0.N, _)

/-- The tile a point stores is the reference's residual sum. -/
theorem tile_at (r e : Fin 512) (b : Fin 2) (s : Fin 8192) (i : Fin 16384) (hb : (i : ℕ) = b * 8192 + s) (hi : (i : ℕ) = t.val / 8 * 512 + r)
    (w : Fin 4096) (hw : (w : ℕ) = t.val % 8 * 512 + e) :
    tile m c t (ix3 0 r e) = row (a0 m c) (a1 m c) (a2 m c) b s i w := by
  have hs := s.isLt
  have eA : iblk m c 0 t (ix2 r e) = a0 m c (ix3 b s w) := by
    blk_point [iblk, V, idx t]
  have eB (k : Fin 4096) : iblk m c 1 t (ix2 r k) = a1 m c (ix2 i k) := by
    blk_point [iblk, V, idx t]
  have eC (k : Fin 4096) : iblk m c 2 t (ix2 k e) = a2 m c (ix3 0 k w) := by
    blk_point [iblk, V, idx t]
  unfold tile row
  rw [product_at, eA]
  exact congrArg _ (Finset.sum_congr rfl fun k _ => by rw [eB, eC])

/-- The gains' block holds the gains. -/
theorem gain_at (w : Fin 4096) : iblk m c 3 t (ix2 0 w) = a3 m c (ix1 w) := by
  blk_point [iblk, V, idx t]

/-- A point's own tile, read back right after it was stored at the place `off` names. -/
theorem own_tile (off : Fin 3 → ℕ) (ho : off = ![7, 0, 0]) (hi inb) (w : Vec Ideal S1x512x512 .f32) :
    ((View.whole cc0_scratch0).readCov (Val := Elt Ideal) [⟨Rect.unit (s := S8x512x512) off ![1, 512, 512] hi, w⟩]
      (Rect.unit (s := S8x512x512) ![7, 0, 0] ![1, 512, 512] inb).toLoadRect : Vec Ideal S1x512x512 .f32) = w := by
  subst ho
  exact View.readCov_cons_toLoadRect _ _ _ _

/-- The eight tiles of a row block. -/
abbrev tiles (j : Fin 8) : Vec Ideal S1x512x512 .f32 := tile m c (prior t j)

/-- The gains of a tile's columns. -/
theorem gain_tile (X : Vec Ideal S1x4096 .f32) (p : ℕ) (inb : ∀ d, (![0, p] : Fin 2 → ℕ) d + (![1, 512] : Fin 2 → ℕ) d ≤ S1x4096.size d)
    (e : Fin 512) (w : Fin 4096) (hw : (w : ℕ) = p + e) :
    View.ld (S := S1x4096) (Val := Elt Ideal) (e' := .f32) X (Rect.unit ![0, p] ![1, 512] inb) (ix2 0 e) = X (ix2 0 w) := by
  refine View.ld_unit_apply_of X _ _ inb _ _ fun d => ?_
  match d with
  | ⟨0, _⟩ => rfl
  | ⟨1, _⟩ => exact hw

/-- What the last point stores of one tile is the reference's. -/
theorem piece (T7 : Vec Ideal S1x512x512 .f32) (h7 : T7 = tiles m c t 7) (j : Fin 8) (T : Vec Ideal S1x512x512 .f32) (hT : T = tiles m c t j)
    (p : ℕ) (hp : p = j * 512)
    (inb : ∀ d, (![0, p] : Fin 2 → ℕ) d + (![1, 512] : Fin 2 → ℕ) d ≤ S1x4096.size d)
    (r e : Fin 512) (i : Fin 16384) (w : Fin 4096) (hi : (i : ℕ) = t.val / 8 * 512 + r) (hw : (w : ℕ) = p + e) :
    k0_pay3 (k0_pay7 (k0_pay5 (tiles m c t 0) (tiles m c t 1) (tiles m c t 2) (tiles m c t 3) (tiles m c t 4)) (k0_pay6 (tiles m c t 5))
        (tiles m c t 6) T7) T
        (View.ld (S := S1x4096) (Val := Elt Ideal) (e' := .f32) (iblk m c 3 t) (Rect.unit ![0, p] ![1, 512] inb)) (ix2 r e)
      = val_main_v18 (F := Ideal) (a0 m c) (a1 m c) (a2 m c) (a3 m c) (ix2 i w) := by
  subst h7 hT
  have hi' := i.isLt
  obtain ⟨b, hb⟩ : ∃ b : Fin 2, (b : ℕ) = i / 8192 := ⟨⟨i / 8192, by omega⟩, rfl⟩
  obtain ⟨s, hs⟩ : ∃ s : Fin 8192, (s : ℕ) = i % 8192 := ⟨⟨i % 8192, by omega⟩, rfl⟩
  have hbs : (i : ℕ) = b * 8192 + s := by omega
  have hj (j : Fin 8) (e : Fin 512) (w : Fin 4096) (hw : (w : ℕ) = j * 512 + e) :
      tiles m c t j (ix3 0 r e) = row (a0 m c) (a1 m c) (a2 m c) b s i w := by
    have hk := j.isLt
    exact tile_at m c (prior t j) r e b s i hbs (by rw [prior_val]; omega) w (by rw [prior_val]; omega)
  rw [scaled_at, root_at (tiles m c t) r, gain_tile _ p inb e w hw, gain_at, hj j e w (by omega),
    Cert.OutProjRefIdeal.Spec.out_at _ _ _ _ b s i hbs w]
  unfold normed
  rw [sum_tiles]
  have hsum : ∑ j : Fin 8, ∑ e : Fin 512, tiles m c t j (ix3 0 r e) * tiles m c t j (ix3 0 r e)
      = ∑ j : Fin 8, ∑ e : Fin 512, row (a0 m c) (a1 m c) (a2 m c) b s i ⟨j * 512 + e, by omega⟩
        * row (a0 m c) (a1 m c) (a2 m c) b s i ⟨j * 512 + e, by omega⟩ :=
    Finset.sum_congr rfl fun j _ => Finset.sum_congr rfl fun e _ => by rw [hj j e ⟨j * 512 + e, by omega⟩ rfl]
  rw [hsum]

set_option maxHeartbeats 2000000 in
/-- A row block's last point writes the reference's rows. -/
theorem out_at (h : t.val % 8 = 7) (r : Fin 512) (k : Fin 4096) (i : Fin 16384) (hi : (i : ℕ) = t.val / 8 * 512 + r) :
    outLast m c t h (ix2 r k) = val_main_v18 (F := Ideal) (a0 m c) (a1 m c) (a2 m c) (a3 m c) (ix2 i k) := by
  have ho : k0_off1 (grid0.coords t) = ![7, 0, 0] := (tile_off t).trans (by rw [h])
  have hp : prior t 7 = t := Fin.ext (by rw [prior_val]; show t.val / 8 * 8 + 7 = t.val; omega)
  have h7 : k0_pay1 (iblk m c 0 t) (iblk m c 1 t) (iblk m c 2 t) = tiles m c t 7 := by
    show tile m c t = tile m c (prior t 7)
    rw [hp]
  unfold outLast
  frame_out
  canon_tiles x e
  · idx_vars x
    exact piece m c t _ ((own_tile _ ho _ _ _).trans h7) 7 _ ((own_tile _ ho _ _ _).trans h7) 3584 rfl _ x0 x1 i k (by omega) (by omega)
  · idx_vars x
    exact piece m c t _ ((own_tile _ ho _ _ _).trans h7) 6 _ rfl 3072 rfl _ x0 x1 i k (by omega) (by omega)
  · idx_vars x
    exact piece m c t _ ((own_tile _ ho _ _ _).trans h7) 5 _ rfl 2560 rfl _ x0 x1 i k (by omega) (by omega)
  · idx_vars x
    exact piece m c t _ ((own_tile _ ho _ _ _).trans h7) 4 _ rfl 2048 rfl _ x0 x1 i k (by omega) (by omega)
  · idx_vars x
    exact piece m c t _ ((own_tile _ ho _ _ _).trans h7) 3 _ rfl 1536 rfl _ x0 x1 i k (by omega) (by omega)
  · idx_vars x
    exact piece m c t _ ((own_tile _ ho _ _ _).trans h7) 2 _ rfl 1024 rfl _ x0 x1 i k (by omega) (by omega)
  · idx_vars x
    exact piece m c t _ ((own_tile _ ho _ _ _).trans h7) 1 _ rfl 512 rfl _ x0 x1 i k (by omega) (by omega)
  · idx_vars x
    exact piece m c t _ ((own_tile _ ho _ _ _).trans h7) 0 _ rfl 0 rfl _ x0 x1 i k (by omega) (by omega)

set_option maxHeartbeats 2000000 in
/-- The output array is the reference's. -/
theorem final4 : (dats m 0 c).arrAt 4 cfg0.N = val_main_v18 (F := Ideal) (a0 m c) (a1 m c) (a2 m c) (a3 m c) := by
  refine (dats m 0 c).arrAt_eq_of_covers 4 _ (by decide +kernel) fun t hf y => ?_
  have h : t.val % 8 = 7 := by
    by_contra h
    exact absurd hf (by rw [(idle4 t h).2]; decide)
  blk_simp
  obtain_idx i : S16384x4096 := [t.val / 8 * 512 + (y 0).val, (y 1).val] with hi
  refine Eq.trans (b := val_main_v18 (F := Ideal) (a0 m c) (a1 m c) (a2 m c) (a3 m c) i) ?_ (congrArg _ ?_)
  rotate_left
  · blk_ext [idx t]
  have hi : i = ix2 (i 0) (i 1) := by blk_ext
  have hy : y = ix2 (y 0) (y 1) := by blk_ext
  have h1 : y 1 = i 1 := Fin.ext hi1.symm
  rw [hi, after4 m c t h, hy, h1]
  exact out_at m c t h (y 0) (i 1) (i 0) hi0

end Cert.OutProjIdeal.Final

end

end
-- ==== Proof.OutProjClaims.lean ====
/- The output projection: its claims. -/
module

public import proofs.«01_k».proof.Defs
public import proofs.«01_k».proof.Proof.OutProjValue
public import proofs.«01_k».proof.Proof.OutProjFrame
public import proofs.«01_k».proof.Proof.OutProjIdealFrame
public import proofs.«01_k».proof.Proof.Gen.OutProjRefIdeal.Run
public import proofs.«01_k».proof.Proof.Gen.OutProjRefIdeal.Read
public import Idealize.ShloMosaic.Lib.Claim

@[expose] public section

set_option maxRecDepth 16384

noncomputable section

namespace Cert.OutProjClaims

open Idealize.ShloMosaic Idealize.ShloMosaic.TcCoe Idealize.SL.Sem

/-- The program ends with its arguments as they were and every semaphore at zero. -/
theorem frame : Cert.quiescent_OutProj (hOutProj := Cert.OutProj.Gen.facts) := fun m ρ _ => Cert.OutProj.Hand.unchanged m ρ

/-- So does its idealization. -/
theorem frame_ideal : Cert.quiescent_OutProjIdeal (hOutProjIdeal := Cert.OutProjIdeal.Gen.facts) := fun m ρ _ => Cert.OutProjIdeal.Hand.unchanged m ρ

/-- So does the reference. -/
theorem frame_ref : Cert.quiescent_OutProjRefIdeal (hOutProjRefIdeal := Cert.OutProjRefIdeal.Gen.facts) := fun m ρ _ =>
  (θ_run _ _ _).mono (fun r h => ⟨fun c => (h c).2, sem_eq_zero_of_no_sems (by decide) r.2⟩) (Cert.OutProjRefIdeal.Value.run m ρ)

/-- The idealization and the reference compute the same array. -/
theorem equal : Cert.algebraic_OutProjIdeal_OutProjRefIdeal (hOutProjIdeal := Cert.OutProjIdeal.Gen.facts) (hOutProjRefIdeal := Cert.OutProjRefIdeal.Gen.facts) := by
  intro m g m' g' _ hargs
  refine ⟨fun c => (Cert.OutProjIdeal.Hand.dats m 0 c).arrAt 4 Cert.OutProjIdeal.cfg0.N, Cert.OutProjIdeal.Hand.run_out m g, ?_⟩
  refine (θ_run _ _ _).mono (fun r h c => ⟨(h c).1.trans ?_, (h c).2⟩) (Cert.OutProjRefIdeal.Value.run m' g')
  rw [Cert.OutProjRefIdeal.Read.val_main_v18_eq, (hargs c).1, (hargs c).2.1, (hargs c).2.2.1, (hargs c).2.2.2]
  exact (Cert.OutProjIdeal.Final.final4 m c).symm

end Cert.OutProjClaims

end

end
-- ==== Proof.lean ====
/- The certificate: every claim, from the modules that prove them. -/
module

public import proofs.«01_k».proof.Defs
public import proofs.«01_k».proof.Proof.AttnOneClaims
public import proofs.«01_k».proof.Proof.AttnFourClaims
public import proofs.«01_k».proof.Proof.AttnSixteenClaims
public import proofs.«01_k».proof.Proof.NormClaims
public import proofs.«01_k».proof.Proof.InProjClaims
public import proofs.«01_k».proof.Proof.MixClaims
public import proofs.«01_k».proof.Proof.OutProjClaims

@[expose] public section

noncomputable section

namespace Cert.Proof

/-- Every claim holds: the side conditions of the programs, then the claims in the order they are stated. -/
theorem claim : Cert.Claim := ⟨Cert.AttnOne.Gen.facts,
  Cert.AttnOneIdeal.Gen.facts,
  Cert.AttnOneRefIdeal.Gen.facts,
  Cert.AttnFour.Gen.facts,
  Cert.AttnFourIdeal.Gen.facts,
  Cert.AttnFourRefIdeal.Gen.facts,
  Cert.AttnSixteen.Gen.facts,
  Cert.AttnSixteenIdeal.Gen.facts,
  Cert.AttnSixteenRefIdeal.Gen.facts,
  Cert.Norm.Gen.facts,
  Cert.NormIdeal.Gen.facts,
  Cert.NormRefIdeal.Gen.facts,
  Cert.InProj.Gen.facts,
  Cert.InProjIdeal.Gen.facts,
  Cert.InProjRefIdeal.Gen.facts,
  Cert.Mix.Gen.facts,
  Cert.MixIdeal.Gen.facts,
  Cert.MixRefIdeal.Gen.facts,
  Cert.OutProj.Gen.facts,
  Cert.OutProjIdeal.Gen.facts,
  Cert.OutProjRefIdeal.Gen.facts,
  Cert.Pre_finite_projection.Gen.facts,
  Cert.Pre_finite_lse.Gen.facts,
  Cert.AttnOneClaims.frame,
  Cert.AttnOneClaims.frame_ideal,
  Cert.AttnOneClaims.frame_ideal_pre,
  Cert.AttnOneClaims.frame_ref,
  Cert.AttnOneClaims.frame_ref_pre,
  Cert.AttnFourClaims.frame,
  Cert.AttnFourClaims.frame_ideal,
  Cert.AttnFourClaims.frame_ideal_pre,
  Cert.AttnFourClaims.frame_ref,
  Cert.AttnFourClaims.frame_ref_pre,
  Cert.AttnSixteenClaims.frame,
  Cert.AttnSixteenClaims.frame_ideal,
  Cert.AttnSixteenClaims.frame_ideal_pre,
  Cert.AttnSixteenClaims.frame_ref,
  Cert.AttnSixteenClaims.frame_ref_pre,
  Cert.NormClaims.frame,
  Cert.NormClaims.frame_ideal,
  Cert.NormClaims.frame_ref,
  Cert.InProjClaims.frame,
  Cert.InProjClaims.frame_ideal,
  Cert.InProjClaims.frame_ref,
  Cert.MixClaims.frame,
  Cert.MixClaims.frame_ideal,
  Cert.MixClaims.frame_ideal_pre,
  Cert.MixClaims.frame_ref,
  Cert.MixClaims.frame_ref_pre,
  Cert.OutProjClaims.frame,
  Cert.OutProjClaims.frame_ideal,
  Cert.OutProjClaims.frame_ref,
  Cert.AttnOneClaims.preserved,
  Cert.AttnOneClaims.equal,
  Cert.AttnFourClaims.preserved,
  Cert.AttnFourClaims.equal,
  Cert.AttnSixteenClaims.preserved,
  Cert.AttnSixteenClaims.equal,
  trivial,
  Cert.NormClaims.equal,
  trivial,
  Cert.InProjClaims.equal,
  trivial,
  Cert.MixClaims.equal,
  trivial,
  Cert.OutProjClaims.equal⟩

end Cert.Proof

end

end
